-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUpDown (m : (ℓ : Loc Cert.AdamUpDown.nD Cert.AdamUpDown.τ Cert.AdamUpDown.sig) → Buf (Elt Bits) ℓ) : Prop :=
  True

def Pre_AdamUpDownIdeal (m : (ℓ : Loc Cert.AdamUpDownIdeal.nD Cert.AdamUpDownIdeal.τ Cert.AdamUpDownIdeal.sig) → Buf (Elt Ideal) ℓ) : Prop :=
  True

def Pre_AdamUpDownRefIdeal (m : (ℓ : Loc Cert.AdamUpDownRefIdeal.nD Cert.AdamUpDownRefIdeal.τ Cert.AdamUpDownRefIdeal.sig) → Buf (Elt Ideal) ℓ) : Prop :=
  True

def Pre_AdamOutKv (m : (ℓ : Loc Cert.AdamOutKv.nD Cert.AdamOutKv.τ Cert.AdamOutKv.sig) → Buf (Elt Bits) ℓ) : Prop :=
  True

def Pre_AdamOutKvIdeal (m : (ℓ : Loc Cert.AdamOutKvIdeal.nD Cert.AdamOutKvIdeal.τ Cert.AdamOutKvIdeal.sig) → Buf (Elt Ideal) ℓ) : Prop :=
  True

def Pre_AdamOutKvRefIdeal (m : (ℓ : Loc Cert.AdamOutKvRefIdeal.nD Cert.AdamOutKvRefIdeal.τ Cert.AdamOutKvRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamUpDown [hAdamUpDown : Cert.AdamUpDown.Facts] : Prop :=
  ∀ (m : (ℓ : Loc Cert.AdamUpDown.nD Cert.AdamUpDown.τ Cert.AdamUpDown.sig) → Buf (Elt Bits) ℓ) (g : Dev Cert.AdamUpDown.nD → PrngReg), Pre_AdamUpDown m →
    θ_run (Cert.AdamUpDown.defs (F := Bits)) (onTc (τ := Cert.AdamUpDown.τ) (Cert.AdamUpDown.main (F := Bits))) ⟨m, fun _ => 0, g⟩ (fun r => (∀ c : Dev Cert.AdamUpDown.nD,
      r.2.mem ((c.tc : Thread Cert.AdamUpDown.nD Cert.AdamUpDown.τ).loc Cert.AdamUpDown.main_arg0) = m ((c.tc : Thread Cert.AdamUpDown.nD Cert.AdamUpDown.τ).loc Cert.AdamUpDown.main_arg0)
      ∧ r.2.mem ((c.tc : Thread Cert.AdamUpDown.nD Cert.AdamUpDown.τ).loc Cert.AdamUpDown.main_arg1) = m ((c.tc : Thread Cert.AdamUpDown.nD Cert.AdamUpDown.τ).loc Cert.AdamUpDown.main_arg1)
      ∧ r.2.mem ((c.tc : Thread Cert.AdamUpDown.nD Cert.AdamUpDown.τ).loc Cert.AdamUpDown.main_arg2) = m ((c.tc : Thread Cert.AdamUpDown.nD Cert.AdamUpDown.τ).loc Cert.AdamUpDown.main_arg2)
      ∧ r.2.mem ((c.tc : Thread Cert.AdamUpDown.nD Cert.AdamUpDown.τ).loc Cert.AdamUpDown.main_arg3) = m ((c.tc : Thread Cert.AdamUpDown.nD Cert.AdamUpDown.τ).loc Cert.AdamUpDown.main_arg3)
      ∧ r.2.mem ((c.tc : Thread Cert.AdamUpDown.nD Cert.AdamUpDown.τ).loc Cert.AdamUpDown.main_arg4) = m ((c.tc : Thread Cert.AdamUpDown.nD Cert.AdamUpDown.τ).loc Cert.AdamUpDown.main_arg4)
      ∧ r.2.mem ((c.tc : Thread Cert.AdamUpDown.nD Cert.AdamUpDown.τ).loc Cert.AdamUpDown.main_arg5) = m ((c.tc : Thread Cert.AdamUpDown.nD Cert.AdamUpDown.τ).loc Cert.AdamUpDown.main_arg5)
      ∧ r.2.mem ((c.tc : Thread Cert.AdamUpDown.nD Cert.AdamUpDown.τ).loc Cert.AdamUpDown.main_arg6) = m ((c.tc : Thread Cert.AdamUpDown.nD Cert.AdamUpDown.τ).loc Cert.AdamUpDown.main_arg6)
      ∧ r.2.mem ((c.tc : Thread Cert.AdamUpDown.nD Cert.AdamUpDown.τ).loc Cert.AdamUpDown.main_arg7) = m ((c.tc : Thread Cert.AdamUpDown.nD Cert.AdamUpDown.τ).loc Cert.AdamUpDown.main_arg7))
      ∧ r.2.sem = fun _ => 0)

def quiescent_AdamUpDownIdeal [hAdamUpDownIdeal : Cert.AdamUpDownIdeal.Facts] : Prop :=
  ∀ (m : (ℓ : Loc Cert.AdamUpDownIdeal.nD Cert.AdamUpDownIdeal.τ Cert.AdamUpDownIdeal.sig) → Buf (Elt Ideal) ℓ) (g : Dev Cert.AdamUpDownIdeal.nD → PrngReg), Pre_AdamUpDownIdeal m →
    θ_run (Cert.AdamUpDownIdeal.defs (F := Ideal)) (onTc (τ := Cert.AdamUpDownIdeal.τ) (Cert.AdamUpDownIdeal.main (F := Ideal))) ⟨m, fun _ => 0, g⟩ (fun r => (∀ c : Dev Cert.AdamUpDownIdeal.nD,
      r.2.mem ((c.tc : Thread Cert.AdamUpDownIdeal.nD Cert.AdamUpDownIdeal.τ).loc Cert.AdamUpDownIdeal.main_arg0) = m ((c.tc : Thread Cert.AdamUpDownIdeal.nD Cert.AdamUpDownIdeal.τ).loc Cert.AdamUpDownIdeal.main_arg0)
      ∧ r.2.mem ((c.tc : Thread Cert.AdamUpDownIdeal.nD Cert.AdamUpDownIdeal.τ).loc Cert.AdamUpDownIdeal.main_arg1) = m ((c.tc : Thread Cert.AdamUpDownIdeal.nD Cert.AdamUpDownIdeal.τ).loc Cert.AdamUpDownIdeal.main_arg1)
      ∧ r.2.mem ((c.tc : Thread Cert.AdamUpDownIdeal.nD Cert.AdamUpDownIdeal.τ).loc Cert.AdamUpDownIdeal.main_arg2) = m ((c.tc : Thread Cert.AdamUpDownIdeal.nD Cert.AdamUpDownIdeal.τ).loc Cert.AdamUpDownIdeal.main_arg2)
      ∧ r.2.mem ((c.tc : Thread Cert.AdamUpDownIdeal.nD Cert.AdamUpDownIdeal.τ).loc Cert.AdamUpDownIdeal.main_arg3) = m ((c.tc : Thread Cert.AdamUpDownIdeal.nD Cert.AdamUpDownIdeal.τ).loc Cert.AdamUpDownIdeal.main_arg3)
      ∧ r.2.mem ((c.tc : Thread Cert.AdamUpDownIdeal.nD Cert.AdamUpDownIdeal.τ).loc Cert.AdamUpDownIdeal.main_arg4) = m ((c.tc : Thread Cert.AdamUpDownIdeal.nD Cert.AdamUpDownIdeal.τ).loc Cert.AdamUpDownIdeal.main_arg4)
      ∧ r.2.mem ((c.tc : Thread Cert.AdamUpDownIdeal.nD Cert.AdamUpDownIdeal.τ).loc Cert.AdamUpDownIdeal.main_arg5) = m ((c.tc : Thread Cert.AdamUpDownIdeal.nD Cert.AdamUpDownIdeal.τ).loc Cert.AdamUpDownIdeal.main_arg5)
      ∧ r.2.mem ((c.tc : Thread Cert.AdamUpDownIdeal.nD Cert.AdamUpDownIdeal.τ).loc Cert.AdamUpDownIdeal.main_arg6) = m ((c.tc : Thread Cert.AdamUpDownIdeal.nD Cert.AdamUpDownIdeal.τ).loc Cert.AdamUpDownIdeal.main_arg6)
      ∧ r.2.mem ((c.tc : Thread Cert.AdamUpDownIdeal.nD Cert.AdamUpDownIdeal.τ).loc Cert.AdamUpDownIdeal.main_arg7) = m ((c.tc : Thread Cert.AdamUpDownIdeal.nD Cert.AdamUpDownIdeal.τ).loc Cert.AdamUpDownIdeal.main_arg7))
      ∧ r.2.sem = fun _ => 0)

def quiescent_AdamUpDownRefIdeal [hAdamUpDownRefIdeal : Cert.AdamUpDownRefIdeal.Facts] : Prop :=
  ∀ (m : (ℓ : Loc Cert.AdamUpDownRefIdeal.nD Cert.AdamUpDownRefIdeal.τ Cert.AdamUpDownRefIdeal.sig) → Buf (Elt Ideal) ℓ) (g : Dev Cert.AdamUpDownRefIdeal.nD → PrngReg), Pre_AdamUpDownRefIdeal m →
    θ_run (Cert.AdamUpDownRefIdeal.defs (F := Ideal)) (onTc (τ := Cert.AdamUpDownRefIdeal.τ) (Cert.AdamUpDownRefIdeal.main (F := Ideal))) ⟨m, fun _ => 0, g⟩ (fun r => (∀ c : Dev Cert.AdamUpDownRefIdeal.nD,
      r.2.mem ((c.tc : Thread Cert.AdamUpDownRefIdeal.nD Cert.AdamUpDownRefIdeal.τ).loc Cert.AdamUpDownRefIdeal.main_arg0) = m ((c.tc : Thread Cert.AdamUpDownRefIdeal.nD Cert.AdamUpDownRefIdeal.τ).loc Cert.AdamUpDownRefIdeal.main_arg0)
      ∧ r.2.mem ((c.tc : Thread Cert.AdamUpDownRefIdeal.nD Cert.AdamUpDownRefIdeal.τ).loc Cert.AdamUpDownRefIdeal.main_arg1) = m ((c.tc : Thread Cert.AdamUpDownRefIdeal.nD Cert.AdamUpDownRefIdeal.τ).loc Cert.AdamUpDownRefIdeal.main_arg1)
      ∧ r.2.mem ((c.tc : Thread Cert.AdamUpDownRefIdeal.nD Cert.AdamUpDownRefIdeal.τ).loc Cert.AdamUpDownRefIdeal.main_arg2) = m ((c.tc : Thread Cert.AdamUpDownRefIdeal.nD Cert.AdamUpDownRefIdeal.τ).loc Cert.AdamUpDownRefIdeal.main_arg2)
      ∧ r.2.mem ((c.tc : Thread Cert.AdamUpDownRefIdeal.nD Cert.AdamUpDownRefIdeal.τ).loc Cert.AdamUpDownRefIdeal.main_arg3) = m ((c.tc : Thread Cert.AdamUpDownRefIdeal.nD Cert.AdamUpDownRefIdeal.τ).loc Cert.AdamUpDownRefIdeal.main_arg3)
      ∧ r.2.mem ((c.tc : Thread Cert.AdamUpDownRefIdeal.nD Cert.AdamUpDownRefIdeal.τ).loc Cert.AdamUpDownRefIdeal.main_arg4) = m ((c.tc : Thread Cert.AdamUpDownRefIdeal.nD Cert.AdamUpDownRefIdeal.τ).loc Cert.AdamUpDownRefIdeal.main_arg4)
      ∧ r.2.mem ((c.tc : Thread Cert.AdamUpDownRefIdeal.nD Cert.AdamUpDownRefIdeal.τ).loc Cert.AdamUpDownRefIdeal.main_arg5) = m ((c.tc : Thread Cert.AdamUpDownRefIdeal.nD Cert.AdamUpDownRefIdeal.τ).loc Cert.AdamUpDownRefIdeal.main_arg5)
      ∧ r.2.mem ((c.tc : Thread Cert.AdamUpDownRefIdeal.nD Cert.AdamUpDownRefIdeal.τ).loc Cert.AdamUpDownRefIdeal.main_arg6) = m ((c.tc : Thread Cert.AdamUpDownRefIdeal.nD Cert.AdamUpDownRefIdeal.τ).loc Cert.AdamUpDownRefIdeal.main_arg6)
      ∧ r.2.mem ((c.tc : Thread Cert.AdamUpDownRefIdeal.nD Cert.AdamUpDownRefIdeal.τ).loc Cert.AdamUpDownRefIdeal.main_arg7) = m ((c.tc : Thread Cert.AdamUpDownRefIdeal.nD Cert.AdamUpDownRefIdeal.τ).loc Cert.AdamUpDownRefIdeal.main_arg7))
      ∧ r.2.sem = fun _ => 0)

def quiescent_AdamOutKv [hAdamOutKv : Cert.AdamOutKv.Facts] : Prop :=
  ∀ (m : (ℓ : Loc Cert.AdamOutKv.nD Cert.AdamOutKv.τ Cert.AdamOutKv.sig) → Buf (Elt Bits) ℓ) (g : Dev Cert.AdamOutKv.nD → PrngReg), Pre_AdamOutKv m →
    θ_run (Cert.AdamOutKv.defs (F := Bits)) (onTc (τ := Cert.AdamOutKv.τ) (Cert.AdamOutKv.main (F := Bits))) ⟨m, fun _ => 0, g⟩ (fun r => (∀ c : Dev Cert.AdamOutKv.nD,
      r.2.mem ((c.tc : Thread Cert.AdamOutKv.nD Cert.AdamOutKv.τ).loc Cert.AdamOutKv.main_arg0) = m ((c.tc : Thread Cert.AdamOutKv.nD Cert.AdamOutKv.τ).loc Cert.AdamOutKv.main_arg0)
      ∧ r.2.mem ((c.tc : Thread Cert.AdamOutKv.nD Cert.AdamOutKv.τ).loc Cert.AdamOutKv.main_arg1) = m ((c.tc : Thread Cert.AdamOutKv.nD Cert.AdamOutKv.τ).loc Cert.AdamOutKv.main_arg1)
      ∧ r.2.mem ((c.tc : Thread Cert.AdamOutKv.nD Cert.AdamOutKv.τ).loc Cert.AdamOutKv.main_arg2) = m ((c.tc : Thread Cert.AdamOutKv.nD Cert.AdamOutKv.τ).loc Cert.AdamOutKv.main_arg2)
      ∧ r.2.mem ((c.tc : Thread Cert.AdamOutKv.nD Cert.AdamOutKv.τ).loc Cert.AdamOutKv.main_arg3) = m ((c.tc : Thread Cert.AdamOutKv.nD Cert.AdamOutKv.τ).loc Cert.AdamOutKv.main_arg3)
      ∧ r.2.mem ((c.tc : Thread Cert.AdamOutKv.nD Cert.AdamOutKv.τ).loc Cert.AdamOutKv.main_arg4) = m ((c.tc : Thread Cert.AdamOutKv.nD Cert.AdamOutKv.τ).loc Cert.AdamOutKv.main_arg4)
      ∧ r.2.mem ((c.tc : Thread Cert.AdamOutKv.nD Cert.AdamOutKv.τ).loc Cert.AdamOutKv.main_arg5) = m ((c.tc : Thread Cert.AdamOutKv.nD Cert.AdamOutKv.τ).loc Cert.AdamOutKv.main_arg5)
      ∧ r.2.mem ((c.tc : Thread Cert.AdamOutKv.nD Cert.AdamOutKv.τ).loc Cert.AdamOutKv.main_arg6) = m ((c.tc : Thread Cert.AdamOutKv.nD Cert.AdamOutKv.τ).loc Cert.AdamOutKv.main_arg6)
      ∧ r.2.mem ((c.tc : Thread Cert.AdamOutKv.nD Cert.AdamOutKv.τ).loc Cert.AdamOutKv.main_arg7) = m ((c.tc : Thread Cert.AdamOutKv.nD Cert.AdamOutKv.τ).loc Cert.AdamOutKv.main_arg7))
      ∧ r.2.sem = fun _ => 0)

def quiescent_AdamOutKvIdeal [hAdamOutKvIdeal : Cert.AdamOutKvIdeal.Facts] : Prop :=
  ∀ (m : (ℓ : Loc Cert.AdamOutKvIdeal.nD Cert.AdamOutKvIdeal.τ Cert.AdamOutKvIdeal.sig) → Buf (Elt Ideal) ℓ) (g : Dev Cert.AdamOutKvIdeal.nD → PrngReg), Pre_AdamOutKvIdeal m →
    θ_run (Cert.AdamOutKvIdeal.defs (F := Ideal)) (onTc (τ := Cert.AdamOutKvIdeal.τ) (Cert.AdamOutKvIdeal.main (F := Ideal))) ⟨m, fun _ => 0, g⟩ (fun r => (∀ c : Dev Cert.AdamOutKvIdeal.nD,
      r.2.mem ((c.tc : Thread Cert.AdamOutKvIdeal.nD Cert.AdamOutKvIdeal.τ).loc Cert.AdamOutKvIdeal.main_arg0) = m ((c.tc : Thread Cert.AdamOutKvIdeal.nD Cert.AdamOutKvIdeal.τ).loc Cert.AdamOutKvIdeal.main_arg0)
      ∧ r.2.mem ((c.tc : Thread Cert.AdamOutKvIdeal.nD Cert.AdamOutKvIdeal.τ).loc Cert.AdamOutKvIdeal.main_arg1) = m ((c.tc : Thread Cert.AdamOutKvIdeal.nD Cert.AdamOutKvIdeal.τ).loc Cert.AdamOutKvIdeal.main_arg1)
      ∧ r.2.mem ((c.tc : Thread Cert.AdamOutKvIdeal.nD Cert.AdamOutKvIdeal.τ).loc Cert.AdamOutKvIdeal.main_arg2) = m ((c.tc : Thread Cert.AdamOutKvIdeal.nD Cert.AdamOutKvIdeal.τ).loc Cert.AdamOutKvIdeal.main_arg2)
      ∧ r.2.mem ((c.tc : Thread Cert.AdamOutKvIdeal.nD Cert.AdamOutKvIdeal.τ).loc Cert.AdamOutKvIdeal.main_arg3) = m ((c.tc : Thread Cert.AdamOutKvIdeal.nD Cert.AdamOutKvIdeal.τ).loc Cert.AdamOutKvIdeal.main_arg3)
      ∧ r.2.mem ((c.tc : Thread Cert.AdamOutKvIdeal.nD Cert.AdamOutKvIdeal.τ).loc Cert.AdamOutKvIdeal.main_arg4) = m ((c.tc : Thread Cert.AdamOutKvIdeal.nD Cert.AdamOutKvIdeal.τ).loc Cert.AdamOutKvIdeal.main_arg4)
      ∧ r.2.mem ((c.tc : Thread Cert.AdamOutKvIdeal.nD Cert.AdamOutKvIdeal.τ).loc Cert.AdamOutKvIdeal.main_arg5) = m ((c.tc : Thread Cert.AdamOutKvIdeal.nD Cert.AdamOutKvIdeal.τ).loc Cert.AdamOutKvIdeal.main_arg5)
      ∧ r.2.mem ((c.tc : Thread Cert.AdamOutKvIdeal.nD Cert.AdamOutKvIdeal.τ).loc Cert.AdamOutKvIdeal.main_arg6) = m ((c.tc : Thread Cert.AdamOutKvIdeal.nD Cert.AdamOutKvIdeal.τ).loc Cert.AdamOutKvIdeal.main_arg6)
      ∧ r.2.mem ((c.tc : Thread Cert.AdamOutKvIdeal.nD Cert.AdamOutKvIdeal.τ).loc Cert.AdamOutKvIdeal.main_arg7) = m ((c.tc : Thread Cert.AdamOutKvIdeal.nD Cert.AdamOutKvIdeal.τ).loc Cert.AdamOutKvIdeal.main_arg7))
      ∧ r.2.sem = fun _ => 0)

def quiescent_AdamOutKvRefIdeal [hAdamOutKvRefIdeal : Cert.AdamOutKvRefIdeal.Facts] : Prop :=
  ∀ (m : (ℓ : Loc Cert.AdamOutKvRefIdeal.nD Cert.AdamOutKvRefIdeal.τ Cert.AdamOutKvRefIdeal.sig) → Buf (Elt Ideal) ℓ) (g : Dev Cert.AdamOutKvRefIdeal.nD → PrngReg), Pre_AdamOutKvRefIdeal m →
    θ_run (Cert.AdamOutKvRefIdeal.defs (F := Ideal)) (onTc (τ := Cert.AdamOutKvRefIdeal.τ) (Cert.AdamOutKvRefIdeal.main (F := Ideal))) ⟨m, fun _ => 0, g⟩ (fun r => (∀ c : Dev Cert.AdamOutKvRefIdeal.nD,
      r.2.mem ((c.tc : Thread Cert.AdamOutKvRefIdeal.nD Cert.AdamOutKvRefIdeal.τ).loc Cert.AdamOutKvRefIdeal.main_arg0) = m ((c.tc : Thread Cert.AdamOutKvRefIdeal.nD Cert.AdamOutKvRefIdeal.τ).loc Cert.AdamOutKvRefIdeal.main_arg0)
      ∧ r.2.mem ((c.tc : Thread Cert.AdamOutKvRefIdeal.nD Cert.AdamOutKvRefIdeal.τ).loc Cert.AdamOutKvRefIdeal.main_arg1) = m ((c.tc : Thread Cert.AdamOutKvRefIdeal.nD Cert.AdamOutKvRefIdeal.τ).loc Cert.AdamOutKvRefIdeal.main_arg1)
      ∧ r.2.mem ((c.tc : Thread Cert.AdamOutKvRefIdeal.nD Cert.AdamOutKvRefIdeal.τ).loc Cert.AdamOutKvRefIdeal.main_arg2) = m ((c.tc : Thread Cert.AdamOutKvRefIdeal.nD Cert.AdamOutKvRefIdeal.τ).loc Cert.AdamOutKvRefIdeal.main_arg2)
      ∧ r.2.mem ((c.tc : Thread Cert.AdamOutKvRefIdeal.nD Cert.AdamOutKvRefIdeal.τ).loc Cert.AdamOutKvRefIdeal.main_arg3) = m ((c.tc : Thread Cert.AdamOutKvRefIdeal.nD Cert.AdamOutKvRefIdeal.τ).loc Cert.AdamOutKvRefIdeal.main_arg3)
      ∧ r.2.mem ((c.tc : Thread Cert.AdamOutKvRefIdeal.nD Cert.AdamOutKvRefIdeal.τ).loc Cert.AdamOutKvRefIdeal.main_arg4) = m ((c.tc : Thread Cert.AdamOutKvRefIdeal.nD Cert.AdamOutKvRefIdeal.τ).loc Cert.AdamOutKvRefIdeal.main_arg4)
      ∧ r.2.mem ((c.tc : Thread Cert.AdamOutKvRefIdeal.nD Cert.AdamOutKvRefIdeal.τ).loc Cert.AdamOutKvRefIdeal.main_arg5) = m ((c.tc : Thread Cert.AdamOutKvRefIdeal.nD Cert.AdamOutKvRefIdeal.τ).loc Cert.AdamOutKvRefIdeal.main_arg5)
      ∧ r.2.mem ((c.tc : Thread Cert.AdamOutKvRefIdeal.nD Cert.AdamOutKvRefIdeal.τ).loc Cert.AdamOutKvRefIdeal.main_arg6) = m ((c.tc : Thread Cert.AdamOutKvRefIdeal.nD Cert.AdamOutKvRefIdeal.τ).loc Cert.AdamOutKvRefIdeal.main_arg6)
      ∧ r.2.mem ((c.tc : Thread Cert.AdamOutKvRefIdeal.nD Cert.AdamOutKvRefIdeal.τ).loc Cert.AdamOutKvRefIdeal.main_arg7) = m ((c.tc : Thread Cert.AdamOutKvRefIdeal.nD Cert.AdamOutKvRefIdeal.τ).loc Cert.AdamOutKvRefIdeal.main_arg7))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10)
      ∧ r.2.mem ((c.tc : Thread Cert.InBwd.nD Cert.InBwd.τ).loc Cert.InBwd.main_arg11) = m ((c.tc : Thread Cert.InBwd.nD Cert.InBwd.τ).loc Cert.InBwd.main_arg11)
      ∧ r.2.mem ((c.tc : Thread Cert.InBwd.nD Cert.InBwd.τ).loc Cert.InBwd.main_arg12) = m ((c.tc : Thread Cert.InBwd.nD Cert.InBwd.τ).loc Cert.InBwd.main_arg12)
      ∧ r.2.mem ((c.tc : Thread Cert.InBwd.nD Cert.InBwd.τ).loc Cert.InBwd.main_arg13) = m ((c.tc : Thread Cert.InBwd.nD Cert.InBwd.τ).loc Cert.InBwd.main_arg13)
      ∧ r.2.mem ((c.tc : Thread Cert.InBwd.nD Cert.InBwd.τ).loc Cert.InBwd.main_arg14) = m ((c.tc : Thread Cert.InBwd.nD Cert.InBwd.τ).loc Cert.InBwd.main_arg14)
      ∧ r.2.mem ((c.tc : Thread Cert.InBwd.nD Cert.InBwd.τ).loc Cert.InBwd.main_arg15) = m ((c.tc : Thread Cert.InBwd.nD Cert.InBwd.τ).loc Cert.InBwd.main_arg15)
      ∧ r.2.mem ((c.tc : Thread Cert.InBwd.nD Cert.InBwd.τ).loc Cert.InBwd.main_arg16) = m ((c.tc : Thread Cert.InBwd.nD Cert.InBwd.τ).loc Cert.InBwd.main_arg16)
      ∧ r.2.mem ((c.tc : Thread Cert.InBwd.nD Cert.InBwd.τ).loc Cert.InBwd.main_arg17) = m ((c.tc : Thread Cert.InBwd.nD Cert.InBwd.τ).loc Cert.InBwd.main_arg17))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
      ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
      ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
      ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15)
      ∧ r.2.mem ((c.tc : Thread Cert.InBwdIdeal.nD Cert.InBwdIdeal.τ).loc Cert.InBwdIdeal.main_arg16) = m ((c.tc : Thread Cert.InBwdIdeal.nD Cert.InBwdIdeal.τ).loc Cert.InBwdIdeal.main_arg16)
      ∧ r.2.mem ((c.tc : Thread Cert.InBwdIdeal.nD Cert.InBwdIdeal.τ).loc Cert.InBwdIdeal.main_arg17) = m ((c.tc : Thread Cert.InBwdIdeal.nD Cert.InBwdIdeal.τ).loc Cert.InBwdIdeal.main_arg17))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12)
      ∧ r.2.mem ((c.tc : Thread Cert.InBwdRefIdeal.nD Cert.InBwdRefIdeal.τ).loc Cert.InBwdRefIdeal.main_arg13) = m ((c.tc : Thread Cert.InBwdRefIdeal.nD Cert.InBwdRefIdeal.τ).loc Cert.InBwdRefIdeal.main_arg13)
      ∧ r.2.mem ((c.tc : Thread Cert.InBwdRefIdeal.nD Cert.InBwdRefIdeal.τ).loc Cert.InBwdRefIdeal.main_arg14) = m ((c.tc : Thread Cert.InBwdRefIdeal.nD Cert.InBwdRefIdeal.τ).loc Cert.InBwdRefIdeal.main_arg14)
      ∧ r.2.mem ((c.tc : Thread Cert.InBwdRefIdeal.nD Cert.InBwdRefIdeal.τ).loc Cert.InBwdRefIdeal.main_arg15) = m ((c.tc : Thread Cert.InBwdRefIdeal.nD Cert.InBwdRefIdeal.τ).loc Cert.InBwdRefIdeal.main_arg15)
      ∧ r.2.mem ((c.tc : Thread Cert.InBwdRefIdeal.nD Cert.InBwdRefIdeal.τ).loc Cert.InBwdRefIdeal.main_arg16) = m ((c.tc : Thread Cert.InBwdRefIdeal.nD Cert.InBwdRefIdeal.τ).loc Cert.InBwdRefIdeal.main_arg16)
      ∧ r.2.mem ((c.tc : Thread Cert.InBwdRefIdeal.nD Cert.InBwdRefIdeal.τ).loc Cert.InBwdRefIdeal.main_arg17) = m ((c.tc : Thread Cert.InBwdRefIdeal.nD Cert.InBwdRefIdeal.τ).loc Cert.InBwdRefIdeal.main_arg17))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v11_0)) (v1 : (c : Dev Cert.MlpIdeal.nD) → Buf (Elt Ideal) ((c.tc : Thread Cert.MlpIdeal.nD Cert.MlpIdeal.τ).loc Cert.MlpIdeal.main_v11_1)) (v2 : (c : Dev Cert.MlpIdeal.nD) → Buf (Elt Ideal) ((c.tc : Thread Cert.MlpIdeal.nD Cert.MlpIdeal.τ).loc Cert.MlpIdeal.main_v11_2)) (v3 : (c : Dev Cert.MlpIdeal.nD) → Buf (Elt Ideal) ((c.tc : Thread Cert.MlpIdeal.nD Cert.MlpIdeal.τ).loc Cert.MlpIdeal.main_v11_3)) (v4 : (c : Dev Cert.MlpIdeal.nD) → Buf (Elt Ideal) ((c.tc : Thread Cert.MlpIdeal.nD Cert.MlpIdeal.τ).loc Cert.MlpIdeal.main_v11_4)) (v5 : (c : Dev Cert.MlpIdeal.nD) → Buf (Elt Ideal) ((c.tc : Thread Cert.MlpIdeal.nD Cert.MlpIdeal.τ).loc Cert.MlpIdeal.main_v11_5)) (v6 : (c : Dev Cert.MlpIdeal.nD) → Buf (Elt Ideal) ((c.tc : Thread Cert.MlpIdeal.nD Cert.MlpIdeal.τ).loc Cert.MlpIdeal.main_v11_6)) (v7 : (c : Dev Cert.MlpIdeal.nD) → Buf (Elt Ideal) ((c.tc : Thread Cert.MlpIdeal.nD Cert.MlpIdeal.τ).loc Cert.MlpIdeal.main_v11_7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v11_0) = v0 c
          ∧ r.2.mem ((c.tc : Thread Cert.MlpIdeal.nD Cert.MlpIdeal.τ).loc Cert.MlpIdeal.main_v11_1) = v1 c
          ∧ r.2.mem ((c.tc : Thread Cert.MlpIdeal.nD Cert.MlpIdeal.τ).loc Cert.MlpIdeal.main_v11_2) = v2 c
          ∧ r.2.mem ((c.tc : Thread Cert.MlpIdeal.nD Cert.MlpIdeal.τ).loc Cert.MlpIdeal.main_v11_3) = v3 c
          ∧ r.2.mem ((c.tc : Thread Cert.MlpIdeal.nD Cert.MlpIdeal.τ).loc Cert.MlpIdeal.main_v11_4) = v4 c
          ∧ r.2.mem ((c.tc : Thread Cert.MlpIdeal.nD Cert.MlpIdeal.τ).loc Cert.MlpIdeal.main_v11_5) = v5 c
          ∧ r.2.mem ((c.tc : Thread Cert.MlpIdeal.nD Cert.MlpIdeal.τ).loc Cert.MlpIdeal.main_v11_6) = v6 c
          ∧ r.2.mem ((c.tc : Thread Cert.MlpIdeal.nD Cert.MlpIdeal.τ).loc Cert.MlpIdeal.main_v11_7) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v98) = v0 c
          ∧ r.2.mem ((c.tc : Thread Cert.MlpRefIdeal.nD Cert.MlpRefIdeal.τ).loc Cert.MlpRefIdeal.main_v99) = v1 c
          ∧ r.2.mem ((c.tc : Thread Cert.MlpRefIdeal.nD Cert.MlpRefIdeal.τ).loc Cert.MlpRefIdeal.main_v100) = v2 c
          ∧ r.2.mem ((c.tc : Thread Cert.MlpRefIdeal.nD Cert.MlpRefIdeal.τ).loc Cert.MlpRefIdeal.main_v101) = v3 c
          ∧ r.2.mem ((c.tc : Thread Cert.MlpRefIdeal.nD Cert.MlpRefIdeal.τ).loc Cert.MlpRefIdeal.main_v102) = v4 c
          ∧ r.2.mem ((c.tc : Thread Cert.MlpRefIdeal.nD Cert.MlpRefIdeal.τ).loc Cert.MlpRefIdeal.main_v81) = v5 c
          ∧ r.2.mem ((c.tc : Thread Cert.MlpRefIdeal.nD Cert.MlpRefIdeal.τ).loc Cert.MlpRefIdeal.main_v57) = v6 c
          ∧ r.2.mem ((c.tc : Thread Cert.MlpRefIdeal.nD Cert.MlpRefIdeal.τ).loc Cert.MlpRefIdeal.main_v103) = v7 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v1)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v1) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v7) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v1)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v1) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v7) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_AdamIn_AdamInIdeal : Prop :=
  IdealRules.named_const.Statement Cert.AdamInIdeal.κ "inv_b1" .f32 0x3FC48605#32 ((8388608 / 5463681 : ℝ) : EReal)
  ∧ IdealRules.named_const.Statement Cert.AdamInIdeal.κ "inv_b2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamUpDown_AdamUpDownIdeal : Prop :=
  IdealRules.named_const.Statement Cert.AdamUpDownIdeal.κ "inv_b1" .f32 0x3FC48605#32 ((8388608 / 5463681 : ℝ) : EReal)
  ∧ IdealRules.named_const.Statement Cert.AdamUpDownIdeal.κ "inv_b2" .f32 0x42C8E6D3#32 ((268435456 / 2672307 : ℝ) : EReal)

def algebraic_AdamUpDownIdeal_AdamUpDownRefIdeal [hAdamUpDownIdeal : Cert.AdamUpDownIdeal.Facts] [hAdamUpDownRefIdeal : Cert.AdamUpDownRefIdeal.Facts] : Prop :=
  ∀ (m : (ℓ : Loc Cert.AdamUpDownIdeal.nD Cert.AdamUpDownIdeal.τ Cert.AdamUpDownIdeal.sig) → Buf (Elt Ideal) ℓ) (g : Dev Cert.AdamUpDownIdeal.nD → PrngReg)
    (m' : (ℓ : Loc Cert.AdamUpDownRefIdeal.nD Cert.AdamUpDownRefIdeal.τ Cert.AdamUpDownRefIdeal.sig) → Buf (Elt Ideal) ℓ) (g' : Dev Cert.AdamUpDownRefIdeal.nD → PrngReg), Pre_AdamUpDownIdeal m →
    (∀ c : Dev Cert.AdamUpDownIdeal.nD,
      m' ((c.tc : Thread Cert.AdamUpDownRefIdeal.nD Cert.AdamUpDownRefIdeal.τ).loc Cert.AdamUpDownRefIdeal.main_arg0) = m ((c.tc : Thread Cert.AdamUpDownIdeal.nD Cert.AdamUpDownIdeal.τ).loc Cert.AdamUpDownIdeal.main_arg0)
      ∧ m' ((c.tc : Thread Cert.AdamUpDownRefIdeal.nD Cert.AdamUpDownRefIdeal.τ).loc Cert.AdamUpDownRefIdeal.main_arg1) = m ((c.tc : Thread Cert.AdamUpDownIdeal.nD Cert.AdamUpDownIdeal.τ).loc Cert.AdamUpDownIdeal.main_arg1)
      ∧ m' ((c.tc : Thread Cert.AdamUpDownRefIdeal.nD Cert.AdamUpDownRefIdeal.τ).loc Cert.AdamUpDownRefIdeal.main_arg2) = m ((c.tc : Thread Cert.AdamUpDownIdeal.nD Cert.AdamUpDownIdeal.τ).loc Cert.AdamUpDownIdeal.main_arg2)
      ∧ m' ((c.tc : Thread Cert.AdamUpDownRefIdeal.nD Cert.AdamUpDownRefIdeal.τ).loc Cert.AdamUpDownRefIdeal.main_arg3) = m ((c.tc : Thread Cert.AdamUpDownIdeal.nD Cert.AdamUpDownIdeal.τ).loc Cert.AdamUpDownIdeal.main_arg3)
      ∧ m' ((c.tc : Thread Cert.AdamUpDownRefIdeal.nD Cert.AdamUpDownRefIdeal.τ).loc Cert.AdamUpDownRefIdeal.main_arg4) = m ((c.tc : Thread Cert.AdamUpDownIdeal.nD Cert.AdamUpDownIdeal.τ).loc Cert.AdamUpDownIdeal.main_arg4)
      ∧ m' ((c.tc : Thread Cert.AdamUpDownRefIdeal.nD Cert.AdamUpDownRefIdeal.τ).loc Cert.AdamUpDownRefIdeal.main_arg5) = m ((c.tc : Thread Cert.AdamUpDownIdeal.nD Cert.AdamUpDownIdeal.τ).loc Cert.AdamUpDownIdeal.main_arg5)
      ∧ m' ((c.tc : Thread Cert.AdamUpDownRefIdeal.nD Cert.AdamUpDownRefIdeal.τ).loc Cert.AdamUpDownRefIdeal.main_arg6) = m ((c.tc : Thread Cert.AdamUpDownIdeal.nD Cert.AdamUpDownIdeal.τ).loc Cert.AdamUpDownIdeal.main_arg6)
      ∧ m' ((c.tc : Thread Cert.AdamUpDownRefIdeal.nD Cert.AdamUpDownRefIdeal.τ).loc Cert.AdamUpDownRefIdeal.main_arg7) = m ((c.tc : Thread Cert.AdamUpDownIdeal.nD Cert.AdamUpDownIdeal.τ).loc Cert.AdamUpDownIdeal.main_arg7)) →
    ∃ (v0 : (c : Dev Cert.AdamUpDownIdeal.nD) → Buf (Elt Ideal) ((c.tc : Thread Cert.AdamUpDownIdeal.nD Cert.AdamUpDownIdeal.τ).loc Cert.AdamUpDownIdeal.main_v1_0)) (v1 : (c : Dev Cert.AdamUpDownIdeal.nD) → Buf (Elt Ideal) ((c.tc : Thread Cert.AdamUpDownIdeal.nD Cert.AdamUpDownIdeal.τ).loc Cert.AdamUpDownIdeal.main_v1_1)) (v2 : (c : Dev Cert.AdamUpDownIdeal.nD) → Buf (Elt Ideal) ((c.tc : Thread Cert.AdamUpDownIdeal.nD Cert.AdamUpDownIdeal.τ).loc Cert.AdamUpDownIdeal.main_v1_2)) (v3 : (c : Dev Cert.AdamUpDownIdeal.nD) → Buf (Elt Ideal) ((c.tc : Thread Cert.AdamUpDownIdeal.nD Cert.AdamUpDownIdeal.τ).loc Cert.AdamUpDownIdeal.main_v1_3)) (v4 : (c : Dev Cert.AdamUpDownIdeal.nD) → Buf (Elt Ideal) ((c.tc : Thread Cert.AdamUpDownIdeal.nD Cert.AdamUpDownIdeal.τ).loc Cert.AdamUpDownIdeal.main_v1_4)) (v5 : (c : Dev Cert.AdamUpDownIdeal.nD) → Buf (Elt Ideal) ((c.tc : Thread Cert.AdamUpDownIdeal.nD Cert.AdamUpDownIdeal.τ).loc Cert.AdamUpDownIdeal.main_v1_5)) (v6 : (c : Dev Cert.AdamUpDownIdeal.nD) → Buf (Elt Ideal) ((c.tc : Thread Cert.AdamUpDownIdeal.nD Cert.AdamUpDownIdeal.τ).loc Cert.AdamUpDownIdeal.main_v1_6)) (v7 : (c : Dev Cert.AdamUpDownIdeal.nD) → Buf (Elt Ideal) ((c.tc : Thread Cert.AdamUpDownIdeal.nD Cert.AdamUpDownIdeal.τ).loc Cert.AdamUpDownIdeal.main_v1_7)),
      θ_run (Cert.AdamUpDownIdeal.defs (F := Ideal)) (onTc (τ := Cert.AdamUpDownIdeal.τ) (Cert.AdamUpDownIdeal.main (F := Ideal))) ⟨m, fun _ => 0, g⟩ (fun r => ∀ c : Dev Cert.AdamUpDownIdeal.nD,
          r.2.mem ((c.tc : Thread Cert.AdamUpDownIdeal.nD Cert.AdamUpDownIdeal.τ).loc Cert.AdamUpDownIdeal.main_v1_0) = v0 c
          ∧ r.2.mem ((c.tc : Thread Cert.AdamUpDownIdeal.nD Cert.AdamUpDownIdeal.τ).loc Cert.AdamUpDownIdeal.main_v1_1) = v1 c
          ∧ r.2.mem ((c.tc : Thread Cert.AdamUpDownIdeal.nD Cert.AdamUpDownIdeal.τ).loc Cert.AdamUpDownIdeal.main_v1_2) = v2 c
          ∧ r.2.mem ((c.tc : Thread Cert.AdamUpDownIdeal.nD Cert.AdamUpDownIdeal.τ).loc Cert.AdamUpDownIdeal.main_v1_3) = v3 c
          ∧ r.2.mem ((c.tc : Thread Cert.AdamUpDownIdeal.nD Cert.AdamUpDownIdeal.τ).loc Cert.AdamUpDownIdeal.main_v1_4) = v4 c
          ∧ r.2.mem ((c.tc : Thread Cert.AdamUpDownIdeal.nD Cert.AdamUpDownIdeal.τ).loc Cert.AdamUpDownIdeal.main_v1_5) = v5 c
          ∧ r.2.mem ((c.tc : Thread Cert.AdamUpDownIdeal.nD Cert.AdamUpDownIdeal.τ).loc Cert.AdamUpDownIdeal.main_v1_6) = v6 c
          ∧ r.2.mem ((c.tc : Thread Cert.AdamUpDownIdeal.nD Cert.AdamUpDownIdeal.τ).loc Cert.AdamUpDownIdeal.main_v1_7) = v7 c
          ∧ r.2.mem ((c.tc : Thread Cert.AdamUpDownIdeal.nD Cert.AdamUpDownIdeal.τ).loc Cert.AdamUpDownIdeal.main_arg0) = m ((c.tc : Thread Cert.AdamUpDownIdeal.nD Cert.AdamUpDownIdeal.τ).loc Cert.AdamUpDownIdeal.main_arg0)
          ∧ r.2.mem ((c.tc : Thread Cert.AdamUpDownIdeal.nD Cert.AdamUpDownIdeal.τ).loc Cert.AdamUpDownIdeal.main_arg1) = m ((c.tc : Thread Cert.AdamUpDownIdeal.nD Cert.AdamUpDownIdeal.τ).loc Cert.AdamUpDownIdeal.main_arg1)
          ∧ r.2.mem ((c.tc : Thread Cert.AdamUpDownIdeal.nD Cert.AdamUpDownIdeal.τ).loc Cert.AdamUpDownIdeal.main_arg2) = m ((c.tc : Thread Cert.AdamUpDownIdeal.nD Cert.AdamUpDownIdeal.τ).loc Cert.AdamUpDownIdeal.main_arg2)
          ∧ r.2.mem ((c.tc : Thread Cert.AdamUpDownIdeal.nD Cert.AdamUpDownIdeal.τ).loc Cert.AdamUpDownIdeal.main_arg3) = m ((c.tc : Thread Cert.AdamUpDownIdeal.nD Cert.AdamUpDownIdeal.τ).loc Cert.AdamUpDownIdeal.main_arg3)
          ∧ r.2.mem ((c.tc : Thread Cert.AdamUpDownIdeal.nD Cert.AdamUpDownIdeal.τ).loc Cert.AdamUpDownIdeal.main_arg4) = m ((c.tc : Thread Cert.AdamUpDownIdeal.nD Cert.AdamUpDownIdeal.τ).loc Cert.AdamUpDownIdeal.main_arg4)
          ∧ r.2.mem ((c.tc : Thread Cert.AdamUpDownIdeal.nD Cert.AdamUpDownIdeal.τ).loc Cert.AdamUpDownIdeal.main_arg5) = m ((c.tc : Thread Cert.AdamUpDownIdeal.nD Cert.AdamUpDownIdeal.τ).loc Cert.AdamUpDownIdeal.main_arg5)
          ∧ r.2.mem ((c.tc : Thread Cert.AdamUpDownIdeal.nD Cert.AdamUpDownIdeal.τ).loc Cert.AdamUpDownIdeal.main_arg6) = m ((c.tc : Thread Cert.AdamUpDownIdeal.nD Cert.AdamUpDownIdeal.τ).loc Cert.AdamUpDownIdeal.main_arg6)
          ∧ r.2.mem ((c.tc : Thread Cert.AdamUpDownIdeal.nD Cert.AdamUpDownIdeal.τ).loc Cert.AdamUpDownIdeal.main_arg7) = m ((c.tc : Thread Cert.AdamUpDownIdeal.nD Cert.AdamUpDownIdeal.τ).loc Cert.AdamUpDownIdeal.main_arg7))
      ∧ θ_run (Cert.AdamUpDownRefIdeal.defs (F := Ideal)) (onTc (τ := Cert.AdamUpDownRefIdeal.τ) (Cert.AdamUpDownRefIdeal.main (F := Ideal))) ⟨m', fun _ => 0, g'⟩ (fun r => ∀ c : Dev Cert.AdamUpDownRefIdeal.nD,
          r.2.mem ((c.tc : Thread Cert.AdamUpDownRefIdeal.nD Cert.AdamUpDownRefIdeal.τ).loc Cert.AdamUpDownRefIdeal.main_arg1) = v0 c
          ∧ r.2.mem ((c.tc : Thread Cert.AdamUpDownRefIdeal.nD Cert.AdamUpDownRefIdeal.τ).loc Cert.AdamUpDownRefIdeal.main_v23) = v1 c
          ∧ r.2.mem ((c.tc : Thread Cert.AdamUpDownRefIdeal.nD Cert.AdamUpDownRefIdeal.τ).loc Cert.AdamUpDownRefIdeal.main_v4) = v2 c
          ∧ r.2.mem ((c.tc : Thread Cert.AdamUpDownRefIdeal.nD Cert.AdamUpDownRefIdeal.τ).loc Cert.AdamUpDownRefIdeal.main_v10) = v3 c
          ∧ r.2.mem ((c.tc : Thread Cert.AdamUpDownRefIdeal.nD Cert.AdamUpDownRefIdeal.τ).loc Cert.AdamUpDownRefIdeal.main_arg5) = v4 c
          ∧ r.2.mem ((c.tc : Thread Cert.AdamUpDownRefIdeal.nD Cert.AdamUpDownRefIdeal.τ).loc Cert.AdamUpDownRefIdeal.main_v47) = v5 c
          ∧ r.2.mem ((c.tc : Thread Cert.AdamUpDownRefIdeal.nD Cert.AdamUpDownRefIdeal.τ).loc Cert.AdamUpDownRefIdeal.main_v28) = v6 c
          ∧ r.2.mem ((c.tc : Thread Cert.AdamUpDownRefIdeal.nD Cert.AdamUpDownRefIdeal.τ).loc Cert.AdamUpDownRefIdeal.main_v34) = v7 c
          ∧ r.2.mem ((c.tc : Thread Cert.AdamUpDownRefIdeal.nD Cert.AdamUpDownRefIdeal.τ).loc Cert.AdamUpDownRefIdeal.main_arg0) = m' ((c.tc : Thread Cert.AdamUpDownRefIdeal.nD Cert.AdamUpDownRefIdeal.τ).loc Cert.AdamUpDownRefIdeal.main_arg0)
          ∧ r.2.mem ((c.tc : Thread Cert.AdamUpDownRefIdeal.nD Cert.AdamUpDownRefIdeal.τ).loc Cert.AdamUpDownRefIdeal.main_arg1) = m' ((c.tc : Thread Cert.AdamUpDownRefIdeal.nD Cert.AdamUpDownRefIdeal.τ).loc Cert.AdamUpDownRefIdeal.main_arg1)
          ∧ r.2.mem ((c.tc : Thread Cert.AdamUpDownRefIdeal.nD Cert.AdamUpDownRefIdeal.τ).loc Cert.AdamUpDownRefIdeal.main_arg2) = m' ((c.tc : Thread Cert.AdamUpDownRefIdeal.nD Cert.AdamUpDownRefIdeal.τ).loc Cert.AdamUpDownRefIdeal.main_arg2)
          ∧ r.2.mem ((c.tc : Thread Cert.AdamUpDownRefIdeal.nD Cert.AdamUpDownRefIdeal.τ).loc Cert.AdamUpDownRefIdeal.main_arg3) = m' ((c.tc : Thread Cert.AdamUpDownRefIdeal.nD Cert.AdamUpDownRefIdeal.τ).loc Cert.AdamUpDownRefIdeal.main_arg3)
          ∧ r.2.mem ((c.tc : Thread Cert.AdamUpDownRefIdeal.nD Cert.AdamUpDownRefIdeal.τ).loc Cert.AdamUpDownRefIdeal.main_arg4) = m' ((c.tc : Thread Cert.AdamUpDownRefIdeal.nD Cert.AdamUpDownRefIdeal.τ).loc Cert.AdamUpDownRefIdeal.main_arg4)
          ∧ r.2.mem ((c.tc : Thread Cert.AdamUpDownRefIdeal.nD Cert.AdamUpDownRefIdeal.τ).loc Cert.AdamUpDownRefIdeal.main_arg5) = m' ((c.tc : Thread Cert.AdamUpDownRefIdeal.nD Cert.AdamUpDownRefIdeal.τ).loc Cert.AdamUpDownRefIdeal.main_arg5)
          ∧ r.2.mem ((c.tc : Thread Cert.AdamUpDownRefIdeal.nD Cert.AdamUpDownRefIdeal.τ).loc Cert.AdamUpDownRefIdeal.main_arg6) = m' ((c.tc : Thread Cert.AdamUpDownRefIdeal.nD Cert.AdamUpDownRefIdeal.τ).loc Cert.AdamUpDownRefIdeal.main_arg6)
          ∧ r.2.mem ((c.tc : Thread Cert.AdamUpDownRefIdeal.nD Cert.AdamUpDownRefIdeal.τ).loc Cert.AdamUpDownRefIdeal.main_arg7) = m' ((c.tc : Thread Cert.AdamUpDownRefIdeal.nD Cert.AdamUpDownRefIdeal.τ).loc Cert.AdamUpDownRefIdeal.main_arg7))

def preserves_AdamOutKv_AdamOutKvIdeal : Prop :=
  IdealRules.named_const.Statement Cert.AdamOutKvIdeal.κ "inv_b1" .f32 0x3FC48605#32 ((8388608 / 5463681 : ℝ) : EReal)
  ∧ IdealRules.named_const.Statement Cert.AdamOutKvIdeal.κ "inv_b2" .f32 0x42C8E6D3#32 ((268435456 / 2672307 : ℝ) : EReal)

def algebraic_AdamOutKvIdeal_AdamOutKvRefIdeal [hAdamOutKvIdeal : Cert.AdamOutKvIdeal.Facts] [hAdamOutKvRefIdeal : Cert.AdamOutKvRefIdeal.Facts] : Prop :=
  ∀ (m : (ℓ : Loc Cert.AdamOutKvIdeal.nD Cert.AdamOutKvIdeal.τ Cert.AdamOutKvIdeal.sig) → Buf (Elt Ideal) ℓ) (g : Dev Cert.AdamOutKvIdeal.nD → PrngReg)
    (m' : (ℓ : Loc Cert.AdamOutKvRefIdeal.nD Cert.AdamOutKvRefIdeal.τ Cert.AdamOutKvRefIdeal.sig) → Buf (Elt Ideal) ℓ) (g' : Dev Cert.AdamOutKvRefIdeal.nD → PrngReg), Pre_AdamOutKvIdeal m →
    (∀ c : Dev Cert.AdamOutKvIdeal.nD,
      m' ((c.tc : Thread Cert.AdamOutKvRefIdeal.nD Cert.AdamOutKvRefIdeal.τ).loc Cert.AdamOutKvRefIdeal.main_arg0) = m ((c.tc : Thread Cert.AdamOutKvIdeal.nD Cert.AdamOutKvIdeal.τ).loc Cert.AdamOutKvIdeal.main_arg0)
      ∧ m' ((c.tc : Thread Cert.AdamOutKvRefIdeal.nD Cert.AdamOutKvRefIdeal.τ).loc Cert.AdamOutKvRefIdeal.main_arg1) = m ((c.tc : Thread Cert.AdamOutKvIdeal.nD Cert.AdamOutKvIdeal.τ).loc Cert.AdamOutKvIdeal.main_arg1)
      ∧ m' ((c.tc : Thread Cert.AdamOutKvRefIdeal.nD Cert.AdamOutKvRefIdeal.τ).loc Cert.AdamOutKvRefIdeal.main_arg2) = m ((c.tc : Thread Cert.AdamOutKvIdeal.nD Cert.AdamOutKvIdeal.τ).loc Cert.AdamOutKvIdeal.main_arg2)
      ∧ m' ((c.tc : Thread Cert.AdamOutKvRefIdeal.nD Cert.AdamOutKvRefIdeal.τ).loc Cert.AdamOutKvRefIdeal.main_arg3) = m ((c.tc : Thread Cert.AdamOutKvIdeal.nD Cert.AdamOutKvIdeal.τ).loc Cert.AdamOutKvIdeal.main_arg3)
      ∧ m' ((c.tc : Thread Cert.AdamOutKvRefIdeal.nD Cert.AdamOutKvRefIdeal.τ).loc Cert.AdamOutKvRefIdeal.main_arg4) = m ((c.tc : Thread Cert.AdamOutKvIdeal.nD Cert.AdamOutKvIdeal.τ).loc Cert.AdamOutKvIdeal.main_arg4)
      ∧ m' ((c.tc : Thread Cert.AdamOutKvRefIdeal.nD Cert.AdamOutKvRefIdeal.τ).loc Cert.AdamOutKvRefIdeal.main_arg5) = m ((c.tc : Thread Cert.AdamOutKvIdeal.nD Cert.AdamOutKvIdeal.τ).loc Cert.AdamOutKvIdeal.main_arg5)
      ∧ m' ((c.tc : Thread Cert.AdamOutKvRefIdeal.nD Cert.AdamOutKvRefIdeal.τ).loc Cert.AdamOutKvRefIdeal.main_arg6) = m ((c.tc : Thread Cert.AdamOutKvIdeal.nD Cert.AdamOutKvIdeal.τ).loc Cert.AdamOutKvIdeal.main_arg6)
      ∧ m' ((c.tc : Thread Cert.AdamOutKvRefIdeal.nD Cert.AdamOutKvRefIdeal.τ).loc Cert.AdamOutKvRefIdeal.main_arg7) = m ((c.tc : Thread Cert.AdamOutKvIdeal.nD Cert.AdamOutKvIdeal.τ).loc Cert.AdamOutKvIdeal.main_arg7)) →
    ∃ (v0 : (c : Dev Cert.AdamOutKvIdeal.nD) → Buf (Elt Ideal) ((c.tc : Thread Cert.AdamOutKvIdeal.nD Cert.AdamOutKvIdeal.τ).loc Cert.AdamOutKvIdeal.main_v1_0)) (v1 : (c : Dev Cert.AdamOutKvIdeal.nD) → Buf (Elt Ideal) ((c.tc : Thread Cert.AdamOutKvIdeal.nD Cert.AdamOutKvIdeal.τ).loc Cert.AdamOutKvIdeal.main_v1_1)) (v2 : (c : Dev Cert.AdamOutKvIdeal.nD) → Buf (Elt Ideal) ((c.tc : Thread Cert.AdamOutKvIdeal.nD Cert.AdamOutKvIdeal.τ).loc Cert.AdamOutKvIdeal.main_v1_2)) (v3 : (c : Dev Cert.AdamOutKvIdeal.nD) → Buf (Elt Ideal) ((c.tc : Thread Cert.AdamOutKvIdeal.nD Cert.AdamOutKvIdeal.τ).loc Cert.AdamOutKvIdeal.main_v1_3)) (v4 : (c : Dev Cert.AdamOutKvIdeal.nD) → Buf (Elt Ideal) ((c.tc : Thread Cert.AdamOutKvIdeal.nD Cert.AdamOutKvIdeal.τ).loc Cert.AdamOutKvIdeal.main_v1_4)) (v5 : (c : Dev Cert.AdamOutKvIdeal.nD) → Buf (Elt Ideal) ((c.tc : Thread Cert.AdamOutKvIdeal.nD Cert.AdamOutKvIdeal.τ).loc Cert.AdamOutKvIdeal.main_v1_5)) (v6 : (c : Dev Cert.AdamOutKvIdeal.nD) → Buf (Elt Ideal) ((c.tc : Thread Cert.AdamOutKvIdeal.nD Cert.AdamOutKvIdeal.τ).loc Cert.AdamOutKvIdeal.main_v1_6)) (v7 : (c : Dev Cert.AdamOutKvIdeal.nD) → Buf (Elt Ideal) ((c.tc : Thread Cert.AdamOutKvIdeal.nD Cert.AdamOutKvIdeal.τ).loc Cert.AdamOutKvIdeal.main_v1_7)),
      θ_run (Cert.AdamOutKvIdeal.defs (F := Ideal)) (onTc (τ := Cert.AdamOutKvIdeal.τ) (Cert.AdamOutKvIdeal.main (F := Ideal))) ⟨m, fun _ => 0, g⟩ (fun r => ∀ c : Dev Cert.AdamOutKvIdeal.nD,
          r.2.mem ((c.tc : Thread Cert.AdamOutKvIdeal.nD Cert.AdamOutKvIdeal.τ).loc Cert.AdamOutKvIdeal.main_v1_0) = v0 c
          ∧ r.2.mem ((c.tc : Thread Cert.AdamOutKvIdeal.nD Cert.AdamOutKvIdeal.τ).loc Cert.AdamOutKvIdeal.main_v1_1) = v1 c
          ∧ r.2.mem ((c.tc : Thread Cert.AdamOutKvIdeal.nD Cert.AdamOutKvIdeal.τ).loc Cert.AdamOutKvIdeal.main_v1_2) = v2 c
          ∧ r.2.mem ((c.tc : Thread Cert.AdamOutKvIdeal.nD Cert.AdamOutKvIdeal.τ).loc Cert.AdamOutKvIdeal.main_v1_3) = v3 c
          ∧ r.2.mem ((c.tc : Thread Cert.AdamOutKvIdeal.nD Cert.AdamOutKvIdeal.τ).loc Cert.AdamOutKvIdeal.main_v1_4) = v4 c
          ∧ r.2.mem ((c.tc : Thread Cert.AdamOutKvIdeal.nD Cert.AdamOutKvIdeal.τ).loc Cert.AdamOutKvIdeal.main_v1_5) = v5 c
          ∧ r.2.mem ((c.tc : Thread Cert.AdamOutKvIdeal.nD Cert.AdamOutKvIdeal.τ).loc Cert.AdamOutKvIdeal.main_v1_6) = v6 c
          ∧ r.2.mem ((c.tc : Thread Cert.AdamOutKvIdeal.nD Cert.AdamOutKvIdeal.τ).loc Cert.AdamOutKvIdeal.main_v1_7) = v7 c
          ∧ r.2.mem ((c.tc : Thread Cert.AdamOutKvIdeal.nD Cert.AdamOutKvIdeal.τ).loc Cert.AdamOutKvIdeal.main_arg0) = m ((c.tc : Thread Cert.AdamOutKvIdeal.nD Cert.AdamOutKvIdeal.τ).loc Cert.AdamOutKvIdeal.main_arg0)
          ∧ r.2.mem ((c.tc : Thread Cert.AdamOutKvIdeal.nD Cert.AdamOutKvIdeal.τ).loc Cert.AdamOutKvIdeal.main_arg1) = m ((c.tc : Thread Cert.AdamOutKvIdeal.nD Cert.AdamOutKvIdeal.τ).loc Cert.AdamOutKvIdeal.main_arg1)
          ∧ r.2.mem ((c.tc : Thread Cert.AdamOutKvIdeal.nD Cert.AdamOutKvIdeal.τ).loc Cert.AdamOutKvIdeal.main_arg2) = m ((c.tc : Thread Cert.AdamOutKvIdeal.nD Cert.AdamOutKvIdeal.τ).loc Cert.AdamOutKvIdeal.main_arg2)
          ∧ r.2.mem ((c.tc : Thread Cert.AdamOutKvIdeal.nD Cert.AdamOutKvIdeal.τ).loc Cert.AdamOutKvIdeal.main_arg3) = m ((c.tc : Thread Cert.AdamOutKvIdeal.nD Cert.AdamOutKvIdeal.τ).loc Cert.AdamOutKvIdeal.main_arg3)
          ∧ r.2.mem ((c.tc : Thread Cert.AdamOutKvIdeal.nD Cert.AdamOutKvIdeal.τ).loc Cert.AdamOutKvIdeal.main_arg4) = m ((c.tc : Thread Cert.AdamOutKvIdeal.nD Cert.AdamOutKvIdeal.τ).loc Cert.AdamOutKvIdeal.main_arg4)
          ∧ r.2.mem ((c.tc : Thread Cert.AdamOutKvIdeal.nD Cert.AdamOutKvIdeal.τ).loc Cert.AdamOutKvIdeal.main_arg5) = m ((c.tc : Thread Cert.AdamOutKvIdeal.nD Cert.AdamOutKvIdeal.τ).loc Cert.AdamOutKvIdeal.main_arg5)
          ∧ r.2.mem ((c.tc : Thread Cert.AdamOutKvIdeal.nD Cert.AdamOutKvIdeal.τ).loc Cert.AdamOutKvIdeal.main_arg6) = m ((c.tc : Thread Cert.AdamOutKvIdeal.nD Cert.AdamOutKvIdeal.τ).loc Cert.AdamOutKvIdeal.main_arg6)
          ∧ r.2.mem ((c.tc : Thread Cert.AdamOutKvIdeal.nD Cert.AdamOutKvIdeal.τ).loc Cert.AdamOutKvIdeal.main_arg7) = m ((c.tc : Thread Cert.AdamOutKvIdeal.nD Cert.AdamOutKvIdeal.τ).loc Cert.AdamOutKvIdeal.main_arg7))
      ∧ θ_run (Cert.AdamOutKvRefIdeal.defs (F := Ideal)) (onTc (τ := Cert.AdamOutKvRefIdeal.τ) (Cert.AdamOutKvRefIdeal.main (F := Ideal))) ⟨m', fun _ => 0, g'⟩ (fun r => ∀ c : Dev Cert.AdamOutKvRefIdeal.nD,
          r.2.mem ((c.tc : Thread Cert.AdamOutKvRefIdeal.nD Cert.AdamOutKvRefIdeal.τ).loc Cert.AdamOutKvRefIdeal.main_arg1) = v0 c
          ∧ r.2.mem ((c.tc : Thread Cert.AdamOutKvRefIdeal.nD Cert.AdamOutKvRefIdeal.τ).loc Cert.AdamOutKvRefIdeal.main_v23) = v1 c
          ∧ r.2.mem ((c.tc : Thread Cert.AdamOutKvRefIdeal.nD Cert.AdamOutKvRefIdeal.τ).loc Cert.AdamOutKvRefIdeal.main_v4) = v2 c
          ∧ r.2.mem ((c.tc : Thread Cert.AdamOutKvRefIdeal.nD Cert.AdamOutKvRefIdeal.τ).loc Cert.AdamOutKvRefIdeal.main_v10) = v3 c
          ∧ r.2.mem ((c.tc : Thread Cert.AdamOutKvRefIdeal.nD Cert.AdamOutKvRefIdeal.τ).loc Cert.AdamOutKvRefIdeal.main_arg5) = v4 c
          ∧ r.2.mem ((c.tc : Thread Cert.AdamOutKvRefIdeal.nD Cert.AdamOutKvRefIdeal.τ).loc Cert.AdamOutKvRefIdeal.main_v47) = v5 c
          ∧ r.2.mem ((c.tc : Thread Cert.AdamOutKvRefIdeal.nD Cert.AdamOutKvRefIdeal.τ).loc Cert.AdamOutKvRefIdeal.main_v28) = v6 c
          ∧ r.2.mem ((c.tc : Thread Cert.AdamOutKvRefIdeal.nD Cert.AdamOutKvRefIdeal.τ).loc Cert.AdamOutKvRefIdeal.main_v34) = v7 c
          ∧ r.2.mem ((c.tc : Thread Cert.AdamOutKvRefIdeal.nD Cert.AdamOutKvRefIdeal.τ).loc Cert.AdamOutKvRefIdeal.main_arg0) = m' ((c.tc : Thread Cert.AdamOutKvRefIdeal.nD Cert.AdamOutKvRefIdeal.τ).loc Cert.AdamOutKvRefIdeal.main_arg0)
          ∧ r.2.mem ((c.tc : Thread Cert.AdamOutKvRefIdeal.nD Cert.AdamOutKvRefIdeal.τ).loc Cert.AdamOutKvRefIdeal.main_arg1) = m' ((c.tc : Thread Cert.AdamOutKvRefIdeal.nD Cert.AdamOutKvRefIdeal.τ).loc Cert.AdamOutKvRefIdeal.main_arg1)
          ∧ r.2.mem ((c.tc : Thread Cert.AdamOutKvRefIdeal.nD Cert.AdamOutKvRefIdeal.τ).loc Cert.AdamOutKvRefIdeal.main_arg2) = m' ((c.tc : Thread Cert.AdamOutKvRefIdeal.nD Cert.AdamOutKvRefIdeal.τ).loc Cert.AdamOutKvRefIdeal.main_arg2)
          ∧ r.2.mem ((c.tc : Thread Cert.AdamOutKvRefIdeal.nD Cert.AdamOutKvRefIdeal.τ).loc Cert.AdamOutKvRefIdeal.main_arg3) = m' ((c.tc : Thread Cert.AdamOutKvRefIdeal.nD Cert.AdamOutKvRefIdeal.τ).loc Cert.AdamOutKvRefIdeal.main_arg3)
          ∧ r.2.mem ((c.tc : Thread Cert.AdamOutKvRefIdeal.nD Cert.AdamOutKvRefIdeal.τ).loc Cert.AdamOutKvRefIdeal.main_arg4) = m' ((c.tc : Thread Cert.AdamOutKvRefIdeal.nD Cert.AdamOutKvRefIdeal.τ).loc Cert.AdamOutKvRefIdeal.main_arg4)
          ∧ r.2.mem ((c.tc : Thread Cert.AdamOutKvRefIdeal.nD Cert.AdamOutKvRefIdeal.τ).loc Cert.AdamOutKvRefIdeal.main_arg5) = m' ((c.tc : Thread Cert.AdamOutKvRefIdeal.nD Cert.AdamOutKvRefIdeal.τ).loc Cert.AdamOutKvRefIdeal.main_arg5)
          ∧ r.2.mem ((c.tc : Thread Cert.AdamOutKvRefIdeal.nD Cert.AdamOutKvRefIdeal.τ).loc Cert.AdamOutKvRefIdeal.main_arg6) = m' ((c.tc : Thread Cert.AdamOutKvRefIdeal.nD Cert.AdamOutKvRefIdeal.τ).loc Cert.AdamOutKvRefIdeal.main_arg6)
          ∧ r.2.mem ((c.tc : Thread Cert.AdamOutKvRefIdeal.nD Cert.AdamOutKvRefIdeal.τ).loc Cert.AdamOutKvRefIdeal.main_arg7) = m' ((c.tc : Thread Cert.AdamOutKvRefIdeal.nD Cert.AdamOutKvRefIdeal.τ).loc Cert.AdamOutKvRefIdeal.main_arg7))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)
      ∧ m' ((c.tc : Thread Cert.InBwdRefIdeal.nD Cert.InBwdRefIdeal.τ).loc Cert.InBwdRefIdeal.main_arg11) = m ((c.tc : Thread Cert.InBwdIdeal.nD Cert.InBwdIdeal.τ).loc Cert.InBwdIdeal.main_arg11)
      ∧ m' ((c.tc : Thread Cert.InBwdRefIdeal.nD Cert.InBwdRefIdeal.τ).loc Cert.InBwdRefIdeal.main_arg12) = m ((c.tc : Thread Cert.InBwdIdeal.nD Cert.InBwdIdeal.τ).loc Cert.InBwdIdeal.main_arg12)
      ∧ m' ((c.tc : Thread Cert.InBwdRefIdeal.nD Cert.InBwdRefIdeal.τ).loc Cert.InBwdRefIdeal.main_arg13) = m ((c.tc : Thread Cert.InBwdIdeal.nD Cert.InBwdIdeal.τ).loc Cert.InBwdIdeal.main_arg13)
      ∧ m' ((c.tc : Thread Cert.InBwdRefIdeal.nD Cert.InBwdRefIdeal.τ).loc Cert.InBwdRefIdeal.main_arg14) = m ((c.tc : Thread Cert.InBwdIdeal.nD Cert.InBwdIdeal.τ).loc Cert.InBwdIdeal.main_arg14)
      ∧ m' ((c.tc : Thread Cert.InBwdRefIdeal.nD Cert.InBwdRefIdeal.τ).loc Cert.InBwdRefIdeal.main_arg15) = m ((c.tc : Thread Cert.InBwdIdeal.nD Cert.InBwdIdeal.τ).loc Cert.InBwdIdeal.main_arg15)
      ∧ m' ((c.tc : Thread Cert.InBwdRefIdeal.nD Cert.InBwdRefIdeal.τ).loc Cert.InBwdRefIdeal.main_arg16) = m ((c.tc : Thread Cert.InBwdIdeal.nD Cert.InBwdIdeal.τ).loc Cert.InBwdIdeal.main_arg16)
      ∧ m' ((c.tc : Thread Cert.InBwdRefIdeal.nD Cert.InBwdRefIdeal.τ).loc Cert.InBwdRefIdeal.main_arg17) = m ((c.tc : Thread Cert.InBwdIdeal.nD Cert.InBwdIdeal.τ).loc Cert.InBwdIdeal.main_arg17)) →
    ∃ (v0 : (c : Dev Cert.InBwdIdeal.nD) → Buf (Elt Ideal) ((c.tc : Thread Cert.InBwdIdeal.nD Cert.InBwdIdeal.τ).loc Cert.InBwdIdeal.main_v58_0)) (v1 : (c : Dev Cert.InBwdIdeal.nD) → Buf (Elt Ideal) ((c.tc : Thread Cert.InBwdIdeal.nD Cert.InBwdIdeal.τ).loc Cert.InBwdIdeal.main_v58_1)) (v2 : (c : Dev Cert.InBwdIdeal.nD) → Buf (Elt Ideal) ((c.tc : Thread Cert.InBwdIdeal.nD Cert.InBwdIdeal.τ).loc Cert.InBwdIdeal.main_v58_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v58_0) = v0 c
          ∧ r.2.mem ((c.tc : Thread Cert.InBwdIdeal.nD Cert.InBwdIdeal.τ).loc Cert.InBwdIdeal.main_v58_1) = v1 c
          ∧ r.2.mem ((c.tc : Thread Cert.InBwdIdeal.nD Cert.InBwdIdeal.τ).loc Cert.InBwdIdeal.main_v58_3) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
          ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
          ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12)
          ∧ r.2.mem ((c.tc : Thread Cert.InBwdIdeal.nD Cert.InBwdIdeal.τ).loc Cert.InBwdIdeal.main_arg13) = m ((c.tc : Thread Cert.InBwdIdeal.nD Cert.InBwdIdeal.τ).loc Cert.InBwdIdeal.main_arg13)
          ∧ r.2.mem ((c.tc : Thread Cert.InBwdIdeal.nD Cert.InBwdIdeal.τ).loc Cert.InBwdIdeal.main_arg14) = m ((c.tc : Thread Cert.InBwdIdeal.nD Cert.InBwdIdeal.τ).loc Cert.InBwdIdeal.main_arg14)
          ∧ r.2.mem ((c.tc : Thread Cert.InBwdIdeal.nD Cert.InBwdIdeal.τ).loc Cert.InBwdIdeal.main_arg15) = m ((c.tc : Thread Cert.InBwdIdeal.nD Cert.InBwdIdeal.τ).loc Cert.InBwdIdeal.main_arg15)
          ∧ r.2.mem ((c.tc : Thread Cert.InBwdIdeal.nD Cert.InBwdIdeal.τ).loc Cert.InBwdIdeal.main_arg16) = m ((c.tc : Thread Cert.InBwdIdeal.nD Cert.InBwdIdeal.τ).loc Cert.InBwdIdeal.main_arg16)
          ∧ r.2.mem ((c.tc : Thread Cert.InBwdIdeal.nD Cert.InBwdIdeal.τ).loc Cert.InBwdIdeal.main_arg17) = m ((c.tc : Thread Cert.InBwdIdeal.nD Cert.InBwdIdeal.τ).loc Cert.InBwdIdeal.main_arg17))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v168) = v0 c
          ∧ r.2.mem ((c.tc : Thread Cert.InBwdRefIdeal.nD Cert.InBwdRefIdeal.τ).loc Cert.InBwdRefIdeal.main_v170) = v1 c
          ∧ r.2.mem ((c.tc : Thread Cert.InBwdRefIdeal.nD Cert.InBwdRefIdeal.τ).loc Cert.InBwdRefIdeal.main_v167) = v2 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10)
          ∧ r.2.mem ((c.tc : Thread Cert.InBwdRefIdeal.nD Cert.InBwdRefIdeal.τ).loc Cert.InBwdRefIdeal.main_arg11) = m' ((c.tc : Thread Cert.InBwdRefIdeal.nD Cert.InBwdRefIdeal.τ).loc Cert.InBwdRefIdeal.main_arg11)
          ∧ r.2.mem ((c.tc : Thread Cert.InBwdRefIdeal.nD Cert.InBwdRefIdeal.τ).loc Cert.InBwdRefIdeal.main_arg12) = m' ((c.tc : Thread Cert.InBwdRefIdeal.nD Cert.InBwdRefIdeal.τ).loc Cert.InBwdRefIdeal.main_arg12)
          ∧ r.2.mem ((c.tc : Thread Cert.InBwdRefIdeal.nD Cert.InBwdRefIdeal.τ).loc Cert.InBwdRefIdeal.main_arg13) = m' ((c.tc : Thread Cert.InBwdRefIdeal.nD Cert.InBwdRefIdeal.τ).loc Cert.InBwdRefIdeal.main_arg13)
          ∧ r.2.mem ((c.tc : Thread Cert.InBwdRefIdeal.nD Cert.InBwdRefIdeal.τ).loc Cert.InBwdRefIdeal.main_arg14) = m' ((c.tc : Thread Cert.InBwdRefIdeal.nD Cert.InBwdRefIdeal.τ).loc Cert.InBwdRefIdeal.main_arg14)
          ∧ r.2.mem ((c.tc : Thread Cert.InBwdRefIdeal.nD Cert.InBwdRefIdeal.τ).loc Cert.InBwdRefIdeal.main_arg15) = m' ((c.tc : Thread Cert.InBwdRefIdeal.nD Cert.InBwdRefIdeal.τ).loc Cert.InBwdRefIdeal.main_arg15)
          ∧ r.2.mem ((c.tc : Thread Cert.InBwdRefIdeal.nD Cert.InBwdRefIdeal.τ).loc Cert.InBwdRefIdeal.main_arg16) = m' ((c.tc : Thread Cert.InBwdRefIdeal.nD Cert.InBwdRefIdeal.τ).loc Cert.InBwdRefIdeal.main_arg16)
          ∧ r.2.mem ((c.tc : Thread Cert.InBwdRefIdeal.nD Cert.InBwdRefIdeal.τ).loc Cert.InBwdRefIdeal.main_arg17) = m' ((c.tc : Thread Cert.InBwdRefIdeal.nD Cert.InBwdRefIdeal.τ).loc Cert.InBwdRefIdeal.main_arg17))

def Claim : Prop :=
  ∃ (hMlp : Cert.Mlp.Facts) (hMlpIdeal : Cert.MlpIdeal.Facts) (hMlpRefIdeal : Cert.MlpRefIdeal.Facts) (hGradUp : Cert.GradUp.Facts) (hGradUpIdeal : Cert.GradUpIdeal.Facts) (hGradUpRefIdeal : Cert.GradUpRefIdeal.Facts) (hGradDown : Cert.GradDown.Facts) (hGradDownIdeal : Cert.GradDownIdeal.Facts) (hGradDownRefIdeal : Cert.GradDownRefIdeal.Facts) (hAdamIn : Cert.AdamIn.Facts) (hAdamInIdeal : Cert.AdamInIdeal.Facts) (hAdamInRefIdeal : Cert.AdamInRefIdeal.Facts) (hAdamUpDown : Cert.AdamUpDown.Facts) (hAdamUpDownIdeal : Cert.AdamUpDownIdeal.Facts) (hAdamUpDownRefIdeal : Cert.AdamUpDownRefIdeal.Facts) (hAdamOutKv : Cert.AdamOutKv.Facts) (hAdamOutKvIdeal : Cert.AdamOutKvIdeal.Facts) (hAdamOutKvRefIdeal : Cert.AdamOutKvRefIdeal.Facts) (hInBwd : Cert.InBwd.Facts) (hInBwdIdeal : Cert.InBwdIdeal.Facts) (hInBwdRefIdeal : Cert.InBwdRefIdeal.Facts),
    quiescent_Mlp (hMlp := hMlp)
    ∧ quiescent_MlpIdeal (hMlpIdeal := hMlpIdeal)
    ∧ quiescent_MlpRefIdeal (hMlpRefIdeal := hMlpRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUpDown (hAdamUpDown := hAdamUpDown)
    ∧ quiescent_AdamUpDownIdeal (hAdamUpDownIdeal := hAdamUpDownIdeal)
    ∧ quiescent_AdamUpDownRefIdeal (hAdamUpDownRefIdeal := hAdamUpDownRefIdeal)
    ∧ quiescent_AdamOutKv (hAdamOutKv := hAdamOutKv)
    ∧ quiescent_AdamOutKvIdeal (hAdamOutKvIdeal := hAdamOutKvIdeal)
    ∧ quiescent_AdamOutKvRefIdeal (hAdamOutKvRefIdeal := hAdamOutKvRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ preserves_Mlp_MlpIdeal
    ∧ algebraic_MlpIdeal_MlpRefIdeal (hMlpIdeal := hMlpIdeal) (hMlpRefIdeal := hMlpRefIdeal)
    ∧ preserves_GradUp_GradUpIdeal
    ∧ algebraic_GradUpIdeal_GradUpRefIdeal (hGradUpIdeal := hGradUpIdeal) (hGradUpRefIdeal := hGradUpRefIdeal)
    ∧ preserves_GradDown_GradDownIdeal
    ∧ algebraic_GradDownIdeal_GradDownRefIdeal (hGradDownIdeal := hGradDownIdeal) (hGradDownRefIdeal := hGradDownRefIdeal)
    ∧ preserves_AdamIn_AdamInIdeal
    ∧ algebraic_AdamInIdeal_AdamInRefIdeal (hAdamInIdeal := hAdamInIdeal) (hAdamInRefIdeal := hAdamInRefIdeal)
    ∧ preserves_AdamUpDown_AdamUpDownIdeal
    ∧ algebraic_AdamUpDownIdeal_AdamUpDownRefIdeal (hAdamUpDownIdeal := hAdamUpDownIdeal) (hAdamUpDownRefIdeal := hAdamUpDownRefIdeal)
    ∧ preserves_AdamOutKv_AdamOutKvIdeal
    ∧ algebraic_AdamOutKvIdeal_AdamOutKvRefIdeal (hAdamOutKvIdeal := hAdamOutKvIdeal) (hAdamOutKvRefIdeal := hAdamOutKvRefIdeal)
    ∧ preserves_InBwd_InBwdIdeal
    ∧ algebraic_InBwdIdeal_InBwdRefIdeal (hInBwdIdeal := hInBwdIdeal) (hInBwdRefIdeal := hInBwdRefIdeal)
-- ==== Mlp.lean ====
abbrev S4096x1024 : Shape := ⟨2, ![4096, 1024]⟩
abbrev S1x1024 : Shape := ⟨2, ![1, 1024]⟩
abbrev S1024x4096 : Shape := ⟨2, ![1024, 4096]⟩
abbrev S1024x1024 : Shape := ⟨2, ![1024, 1024]⟩
abbrev S1x1024x1024 : Shape := ⟨3, ![1, 1024, 1024]⟩
abbrev S4x1024x1024 : Shape := ⟨3, ![4, 1024, 1024]⟩
abbrev S4096x4096 : Shape := ⟨2, ![4096, 4096]⟩
abbrev S1x1 : Shape := ⟨2, ![1, 1]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S1024 : Shape := ⟨1, ![1024]⟩

abbrev nBuf : Space → Nat
  | .hbm => 25
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .f32⟩
  | .hbm, ⟨12, _⟩ => ⟨S1x1024x1024, .f32⟩
  | .hbm, ⟨13, _⟩ => ⟨S1x1024x1024, .f32⟩
  | .hbm, ⟨14, _⟩ => ⟨S4x1024x1024, .f32⟩
  | .hbm, ⟨15, _⟩ => ⟨S4x1024x1024, .bf16⟩
  | .hbm, ⟨16, _⟩ => ⟨S4096x1024, .bf16⟩
  | .hbm, ⟨17, _⟩ => ⟨S4096x1024, .bf16⟩
  | .hbm, ⟨18, _⟩ => ⟨S4096x4096, .bf16⟩
  | .hbm, ⟨19, _⟩ => ⟨S4096x4096, .bf16⟩
  | .hbm, ⟨20, _⟩ => ⟨S4096x1024, .bf16⟩
  | .hbm, ⟨21, _⟩ => ⟨S4096x1024, .f32⟩
  | .hbm, ⟨22, _⟩ => ⟨S1x1024, .f32⟩
  | .hbm, ⟨23, _⟩ => ⟨S1x1024, .f32⟩
  | .hbm, ⟨24, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S256x1024, .bf16⟩
  | .local _ .vmem, ⟨9, _⟩ => ⟨S256x1024, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1, .f32⟩
  | .local _ .vmem, ⟨21, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev main_v11_3 : Ref sig .tc := ⟨.hbm, 20, rfl⟩
abbrev main_v11_4 : Ref sig .tc := ⟨.hbm, 21, rfl⟩
abbrev main_v11_5 : Ref sig .tc := ⟨.hbm, 22, rfl⟩
abbrev main_v11_6 : Ref sig .tc := ⟨.hbm, 23, rfl⟩
abbrev main_v11_7 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpRefIdeal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1024x4096, .f32⟩
  | 5 => ⟨S4096x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x4096, .f32⟩
  | 26 => ⟨S_, .f32⟩
  | 27 => ⟨S4096x4096, .f32⟩
  | 28 => ⟨S4096x4096, .f32⟩
  | 29 => ⟨S_, .f32⟩
  | 30 => ⟨S4096x4096, .f32⟩
  | 31 => ⟨S4096x4096, .i1⟩
  | 32 => ⟨S_, .f32⟩
  | 33 => ⟨S4096x4096, .f32⟩
  | 34 => ⟨S4096x4096, .f32⟩
  | 35 => ⟨S_, .f32⟩
  | 36 => ⟨S4096x4096, .f32⟩
  | 37 => ⟨S4096x4096, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S4096, .f32⟩
  | 77 => ⟨S_, .f32⟩
  | 78 => ⟨S4096, .f32⟩
  | 79 => ⟨S4096, .f32⟩
  | 80 => ⟨S4096x1024, .f32⟩
  | 81 => ⟨S4096x1024, .f32⟩
  | 82 => ⟨S4096x1024, .f32⟩
  | 83 => ⟨S_, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x1024, .f32⟩
  | 111 => ⟨S4096x1024, .f32⟩
  | 112 => ⟨S_, .f32⟩
  | 113 => ⟨S1024, .f32⟩
  | 114 => ⟨S1x1024, .f32⟩
  | 115 => ⟨S4096x1024, .f32⟩
  | 116 => ⟨S4096x1024, .f32⟩
  | 117 => ⟨S4096x1024, .f32⟩
  | 118 => ⟨S_, .f32⟩
  | 119 => ⟨S4096, .f32⟩
  | 120 => ⟨S4096x1, .f32⟩
  | 121 => ⟨S4096x1024, .f32⟩
  | 122 => ⟨S4096x1024, .f32⟩
  | 123 => ⟨S4096x1, .f32⟩
  | 124 => ⟨S_, .f32⟩
  | 125 => ⟨S4096x1, .f32⟩
  | 126 => ⟨S4096x1, .f32⟩
  | 127 => ⟨S_, .f32⟩
  | _ => ⟨S4096x1024, .f32⟩

abbrev hbmTy0_1 (i : Nat) : BufTy := match i % 128 with
  | 0 => ⟨S4096, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .bf16⟩
  | 7 => ⟨S4096x4096, .bf16⟩
  | 8 => ⟨S4096x4096, .bf16⟩
  | 9 => ⟨S4096x1024, .bf16⟩
  | 10 => ⟨S4096x1024, .f32⟩
  | 11 => ⟨S1x1, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== GradUp.lean ====
abbrev S4096x1024 : Shape := ⟨2, ![4096, 1024]⟩
abbrev S4096x4096 : Shape := ⟨2, ![4096, 4096]⟩
abbrev S_ : Shape := ⟨0, ![]⟩
abbrev S8x128 : Shape := ⟨2, ![8, 128]⟩
abbrev S2x4x512x1024 : Shape := ⟨4, ![2, 4, 512, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S8x128, .f32⟩
  | .hbm, ⟨4, _⟩ => ⟨S2x4x512x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x1x512x1024, .f32⟩
  | .local _ .vmem, ⟨4, _⟩ => ⟨S2x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradUpRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S2x512x4x1024 : Shape := ⟨4, ![2, 512, 4, 1024]⟩
abbrev S2x4x512x1024 : Shape := ⟨4, ![2, 4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S2x512x4x1024, .f32⟩
  | .hbm, ⟨10, _⟩ => ⟨S2x4x512x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradDown.lean ====
abbrev S4096x4096 : Shape := ⟨2, ![4096, 4096]⟩
abbrev S4096x1024 : Shape := ⟨2, ![4096, 1024]⟩
abbrev S_ : Shape := ⟨0, ![]⟩
abbrev S8x128 : Shape := ⟨2, ![8, 128]⟩
abbrev S2x4x512x1024 : Shape := ⟨4, ![2, 4, 512, 1024]⟩
abbrev S2x1x512x1024 : Shape := ⟨4, ![2, 1, 512, 1024]⟩
abbrev S1024x1024 : Shape := ⟨2, ![1024, 1024]⟩
abbrev S512x1024 : Shape := ⟨2, ![512, 1024]⟩
abbrev S1x1x512x1024 : Shape := ⟨4, ![1, 1, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S8x128, .f32⟩
  | .hbm, ⟨4, _⟩ => ⟨S2x4x512x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S2x1x512x1024, .f32⟩
  | .local _ .vmem, ⟨4, _⟩ => ⟨S2x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GradDownRefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x2x512x1024 : Shape := ⟨4, ![4, 2, 512, 1024]⟩
abbrev S2x4x512x1024 : Shape := ⟨4, ![2, 4, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x2x512x1024, .f32⟩
  | .hbm, ⟨10, _⟩ => ⟨S2x4x512x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamIn.lean ====
abbrev S1024x640 : Shape := ⟨2, ![1024, 640]⟩
abbrev S_ : Shape := ⟨0, ![]⟩
abbrev S8x128 : Shape := ⟨2, ![8, 128]⟩
abbrev S256x640 : Shape := ⟨2, ![256, 640]⟩

abbrev nBuf : Space → Nat
  | .hbm => 10
  | .vmem => 16
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S8x128, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
variable {F : FTy → Type} [FloatOps F] [Named F]
def κ : String → Option EReal := fun
  | "inv_b1" => some ((8388608 / 5463681 : ℝ) : EReal)
  | "inv_b2" => some ((268435456 / 2672307 : ℝ) : EReal)
  | _ => none
-- ==== AdamInRefIdeal.lean ====
abbrev S1024x640 : Shape := ⟨2, ![1024, 640]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S_, .f32⟩
  | .hbm, ⟨5, _⟩ => ⟨S1024x640, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUpDown.lean ====
abbrev S1024x1024 : Shape := ⟨2, ![1024, 1024]⟩
abbrev S_ : Shape := ⟨0, ![]⟩
abbrev S8x128 : Shape := ⟨2, ![8, 128]⟩
abbrev S256x1024 : Shape := ⟨2, ![256, 1024]⟩

abbrev nBuf : Space → Nat
  | .hbm => 18
  | .vmem => 32
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S8x128, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AdamUpDownIdeal.lean ====
variable {F : FTy → Type} [FloatOps F] [Named F]
def κ : String → Option EReal := fun
  | "inv_b1" => some ((8388608 / 5463681 : ℝ) : EReal)
  | "inv_b2" => some ((268435456 / 2672307 : ℝ) : EReal)
  | _ => none
-- ==== AdamUpDownRefIdeal.lean ====
abbrev S1024x1024 : Shape := ⟨2, ![1024, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1024x1024, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S_, .f32⟩
  | .hbm, ⟨60, _⟩ => ⟨S1024x1024, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== AdamOutKv.lean ====
abbrev S256x1024 : Shape := ⟨2, ![256, 1024]⟩
abbrev S256x512 : Shape := ⟨2, ![256, 512]⟩
abbrev S_ : Shape := ⟨0, ![]⟩
abbrev S8x128 : Shape := ⟨2, ![8, 128]⟩

abbrev nBuf : Space → Nat
  | .hbm => 18
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S_, .f32⟩
  | .hbm, ⟨9, _⟩ => ⟨S8x128, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S256x512, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== AdamOutKvIdeal.lean ====
variable {F : FTy → Type} [FloatOps F] [Named F]
def κ : String → Option EReal := fun
  | "inv_b1" => some ((8388608 / 5463681 : ℝ) : EReal)
  | "inv_b2" => some ((268435456 / 2672307 : ℝ) : EReal)
  | _ => none
-- ==== AdamOutKvRefIdeal.lean ====
abbrev S256x1024 : Shape := ⟨2, ![256, 1024]⟩
abbrev S256x512 : Shape := ⟨2, ![256, 512]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x512, .f32⟩
  | .hbm, ⟨43, _⟩ => ⟨S256x512, .f32⟩
  | .hbm, ⟨44, _⟩ => ⟨S_, .f32⟩
  | .hbm, ⟨45, _⟩ => ⟨S256x512, .f32⟩
  | .hbm, ⟨46, _⟩ => ⟨S256x512, .f32⟩
  | .hbm, ⟨47, _⟩ => ⟨S256x512, .f32⟩
  | .hbm, ⟨48, _⟩ => ⟨S_, .f32⟩
  | .hbm, ⟨49, _⟩ => ⟨S256x512, .f32⟩
  | .hbm, ⟨50, _⟩ => ⟨S256x512, .f32⟩
  | .hbm, ⟨51, _⟩ => ⟨S256x512, .f32⟩
  | .hbm, ⟨52, _⟩ => ⟨S_, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S_, .f32⟩
  | .hbm, ⟨60, _⟩ => ⟨S256x512, .f32⟩
  | .hbm, ⟨61, _⟩ => ⟨S256x512, .f32⟩
  | .hbm, ⟨62, _⟩ => ⟨S256x512, .f32⟩
  | .hbm, ⟨63, _⟩ => ⟨S_, .f32⟩
  | .hbm, ⟨64, _⟩ => ⟨S256x512, .f32⟩
  | .hbm, ⟨65, _⟩ => ⟨S256x512, .f32⟩
  | .hbm, ⟨66, _⟩ => ⟨S256x512, .f32⟩
  | .hbm, ⟨67, _⟩ => ⟨S_, .f32⟩
  | .hbm, ⟨68, _⟩ => ⟨S256x512, .f32⟩
  | .hbm, ⟨69, _⟩ => ⟨S256x512, .f32⟩
  | .hbm, ⟨70, _⟩ => ⟨S256x512, .f32⟩
  | .hbm, ⟨71, _⟩ => ⟨S_, .f32⟩
  | .hbm, ⟨72, _⟩ => ⟨S256x512, .f32⟩
  | .hbm, ⟨73, _⟩ => ⟨S256x512, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== InBwd.lean ====
abbrev S4096x512 : Shape := ⟨2, ![4096, 512]⟩
abbrev S4096x1024 : Shape := ⟨2, ![4096, 1024]⟩
abbrev S4096 : Shape := ⟨1, ![4096]⟩
abbrev S1024x2560 : Shape := ⟨2, ![1024, 2560]⟩
abbrev S1x1024 : Shape := ⟨2, ![1, 1024]⟩
abbrev S1x512 : Shape := ⟨2, ![1, 512]⟩
abbrev S1x256 : Shape := ⟨2, ![1, 256]⟩
abbrev S3x256 : Shape := ⟨2, ![3, 256]⟩
abbrev S1x1 : Shape := ⟨2, ![1, 1]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x640 : Shape := ⟨2, ![1024, 640]⟩
abbrev S1x1024x640 : Shape := ⟨3, ![1, 1024, 640]⟩
abbrev S4x1024x640 : Shape := ⟨3, ![4, 1024, 640]⟩
abbrev S8x128 : Shape := ⟨2, ![8, 128]⟩
abbrev S3x1024 : Shape := ⟨2, ![3, 1024]⟩
abbrev S11x1024 : Shape := ⟨2, ![11, 1024]⟩
abbrev S2x4x512x640 : Shape := ⟨4, ![2, 4, 512, 640]⟩
abbrev S16x1024 : Shape := ⟨2, ![16, 1024]⟩
abbrev S512x512 : Shape := ⟨2, ![512, 512]⟩
abbrev S512x1024 : Shape := ⟨2, ![512, 1024]⟩
abbrev S512x128 : Shape := ⟨2, ![512, 128]⟩
abbrev S512x2560 : Shape := ⟨2, ![512, 2560]⟩
abbrev S4 : Shape := ⟨1, ![4]⟩
abbrev S1 : Shape := ⟨1, ![1]⟩
abbrev S256x128 : Shape := ⟨2, ![256, 128]⟩
abbrev S256x512 : Shape := ⟨2, ![256, 512]⟩
abbrev S256x1024 : Shape := ⟨2, ![256, 1024]⟩
abbrev S256x2560 : Shape := ⟨2, ![256, 2560]⟩
abbrev S256 : Shape := ⟨1, ![256]⟩
abbrev S256x1 : Shape := ⟨2, ![256, 1]⟩
abbrev S1024 : Shape := ⟨1, ![1024]⟩
abbrev S1024x512 : Shape := ⟨2, ![1024, 512]⟩
abbrev S1x1x512x512 : Shape := ⟨4, ![1, 1, 512, 512]⟩
abbrev S1x1x512x128 : Shape := ⟨4, ![1, 1, 512, 128]⟩
abbrev S1x1x512x384 : Shape := ⟨4, ![1, 1, 512, 384]⟩
abbrev S512x384 : Shape := ⟨2, ![512, 384]⟩
abbrev S1x1x512x256 : Shape := ⟨4, ![1, 1, 512, 256]⟩
abbrev S512x256 : Shape := ⟨2, ![512, 256]⟩

abbrev nBuf : Space → Nat
  | .hbm => 105
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x1024, .bf16⟩
  | .hbm, ⟨4, _⟩ => ⟨S4096, .i32⟩
  | .hbm, ⟨5, _⟩ => ⟨S1024x2560, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1x512, .f32⟩
  | .hbm, ⟨11, _⟩ => ⟨S1x256, .f32⟩
  | .hbm, ⟨12, _⟩ => ⟨S1x256, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S3x256, .f32⟩
  | .hbm, ⟨17, _⟩ => ⟨S1x1, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S4096, .f32⟩
  | .hbm, ⟨30, _⟩ => ⟨S4096x1, .f32⟩
  | .hbm, ⟨31, _⟩ => ⟨S1x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S1x4096x1x32, .f32⟩
  | .hbm, ⟨38, _⟩ => ⟨S1x4096x4x32, .f32⟩
  | .hbm, ⟨39, _⟩ => ⟨S4096x128, .f32⟩
  | .hbm, ⟨40, _⟩ => ⟨S4096x32, .f32⟩
  | .hbm, ⟨41, _⟩ => ⟨S4096x64, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1024x640, .f32⟩
  | .hbm, ⟨62, _⟩ => ⟨S1024x640, .f32⟩
  | .hbm, ⟨63, _⟩ => ⟨S1024x640, .f32⟩
  | .hbm, ⟨64, _⟩ => ⟨S1024x640, .f32⟩
  | .hbm, ⟨65, _⟩ => ⟨S1x1024x640, .f32⟩
  | .hbm, ⟨66, _⟩ => ⟨S1x1024x640, .f32⟩
  | .hbm, ⟨67, _⟩ => ⟨S1x1024x640, .f32⟩
  | .hbm, ⟨68, _⟩ => ⟨S1x1024x640, .f32⟩
  | .hbm, ⟨69, _⟩ => ⟨S4x1024x640, .f32⟩
  | .hbm, ⟨70, _⟩ => ⟨S4x1024x640, .bf16⟩
  | .hbm, ⟨71, _⟩ => ⟨S_, .f32⟩
  | .hbm, ⟨72, _⟩ => ⟨S8x128, .f32⟩
  | .hbm, ⟨73, _⟩ => ⟨S_, .i32⟩
  | .hbm, ⟨74, _⟩ => ⟨S_, .f32⟩
  | .hbm, ⟨75, _⟩ => ⟨S1x1024, .f32⟩
  | .hbm, ⟨76, _⟩ => ⟨S_, .i32⟩
  | .hbm, ⟨77, _⟩ => ⟨S_, .f32⟩
  | .hbm, ⟨78, _⟩ => ⟨S1x1024, .f32⟩
  | .hbm, ⟨79, _⟩ => ⟨S_, .i32⟩
  | .hbm, ⟨80, _⟩ => ⟨S_, .f32⟩
  | .hbm, ⟨81, _⟩ => ⟨S1x1024, .f32⟩
  | .hbm, ⟨82, _⟩ => ⟨S_, .i32⟩
  | .hbm, ⟨83, _⟩ => ⟨S_, .f32⟩
  | .hbm, ⟨84, _⟩ => ⟨S1x1024, .f32⟩
  | .hbm, ⟨85, _⟩ => ⟨S_, .i32⟩
  | .hbm, ⟨86, _⟩ => ⟨S_, .f32⟩
  | .hbm, ⟨87, _⟩ => ⟨S1x1024, .f32⟩
  | .hbm, ⟨88, _⟩ => ⟨S_, .i32⟩
  | .hbm, ⟨89, _⟩ => ⟨S_, .f32⟩
  | .hbm, ⟨90, _⟩ => ⟨S1x1024, .f32⟩
  | .hbm, ⟨91, _⟩ => ⟨S_, .i32⟩
  | .hbm, ⟨92, _⟩ => ⟨S_, .f32⟩
  | .hbm, ⟨93, _⟩ => ⟨S1x1024, .f32⟩
  | .hbm, ⟨94, _⟩ => ⟨S_, .i32⟩
  | .hbm, ⟨95, _⟩ => ⟨S_, .f32⟩
  | .hbm, ⟨96, _⟩ => ⟨S3x1024, .f32⟩
  | .hbm, ⟨97, _⟩ => ⟨S_, .i32⟩
  | .hbm, ⟨98, _⟩ => ⟨S_, .f32⟩
  | .hbm, ⟨99, _⟩ => ⟨S1x1024, .f32⟩
  | .hbm, ⟨100, _⟩ => ⟨S11x1024, .f32⟩
  | .hbm, ⟨101, _⟩ => ⟨S4096x1024, .f32⟩
  | .hbm, ⟨102, _⟩ => ⟨S2x4x512x640, .f32⟩
  | .hbm, ⟨103, _⟩ => ⟨S1x1024, .f32⟩
  | .hbm, ⟨104, _⟩ => ⟨S16x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S11x1024, .f32⟩
  | .local _ .vmem, ⟨20, _⟩ => ⟨S512x1024, .f32⟩
  | .local _ .vmem, ⟨21, _⟩ => ⟨S512x1024, .f32⟩
  | .local _ .vmem, ⟨22, _⟩ => ⟨S2x4x512x640, .f32⟩
  | .local _ .vmem, ⟨23, _⟩ => ⟨S1x1024, .f32⟩
  | .local _ .vmem, ⟨24, _⟩ => ⟨S16x1024, .f32⟩
  | .local _ .vmem, ⟨25, _⟩ => ⟨S512x2560, .bf16⟩
  | .local _ .vmem, ⟨26, _⟩ => ⟨S1024x2560, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_5 : Ref sig .tc := ⟨.hbm, 71, rfl⟩
abbrev main_v47 : Ref sig .tc := ⟨.hbm, 72, rfl⟩
abbrev main_c : Ref sig .tc := ⟨.hbm, 73, rfl⟩
abbrev main_call0_v0 : Ref sig .tc := ⟨.hbm, 74, rfl⟩
abbrev main_v48 : Ref sig .tc := ⟨.hbm, 75, rfl⟩
abbrev main_c_6 : Ref sig .tc := ⟨.hbm, 76, rfl⟩
abbrev main_call1_v0 : Ref sig .tc := ⟨.hbm, 77, rfl⟩
abbrev main_v49 : Ref sig .tc := ⟨.hbm, 78, rfl⟩
abbrev main_c_7 : Ref sig .tc := ⟨.hbm, 79, rfl⟩
abbrev main_call2_v0 : Ref sig .tc := ⟨.hbm, 80, rfl⟩
abbrev main_v50 : Ref sig .tc := ⟨.hbm, 81, rfl⟩
abbrev main_c_8 : Ref sig .tc := ⟨.hbm, 82, rfl⟩
abbrev main_call3_v0 : Ref sig .tc := ⟨.hbm, 83, rfl⟩
abbrev main_v51 : Ref sig .tc := ⟨.hbm, 84, rfl⟩
abbrev main_c_9 : Ref sig .tc := ⟨.hbm, 85, rfl⟩
abbrev main_call4_v0 : Ref sig .tc := ⟨.hbm, 86, rfl⟩
abbrev main_v52 : Ref sig .tc := ⟨.hbm, 87, rfl⟩
abbrev main_c_10 : Ref sig .tc := ⟨.hbm, 88, rfl⟩
abbrev main_call5_v0 : Ref sig .tc := ⟨.hbm, 89, rfl⟩
abbrev main_v53 : Ref sig .tc := ⟨.hbm, 90, rfl⟩
abbrev main_c_11 : Ref sig .tc := ⟨.hbm, 91, rfl⟩
abbrev main_call6_v0 : Ref sig .tc := ⟨.hbm, 92, rfl⟩
abbrev main_v54 : Ref sig .tc := ⟨.hbm, 93, rfl⟩
abbrev main_c_12 : Ref sig .tc := ⟨.hbm, 94, rfl⟩
abbrev main_call7_v0 : Ref sig .tc := ⟨.hbm, 95, rfl⟩
abbrev main_v55 : Ref sig .tc := ⟨.hbm, 96, rfl⟩
abbrev main_c_13 : Ref sig .tc := ⟨.hbm, 97, rfl⟩
abbrev main_call8_v0 : Ref sig .tc := ⟨.hbm, 98, rfl⟩
abbrev main_v56 : Ref sig .tc := ⟨.hbm, 99, rfl⟩
abbrev main_v57 : Ref sig .tc := ⟨.hbm, 100, rfl⟩
abbrev main_v58_0 : Ref sig .tc := ⟨.hbm, 101, rfl⟩
abbrev main_v58_1 : Ref sig .tc := ⟨.hbm, 102, rfl⟩
abbrev main_v58_2 : Ref sig .tc := ⟨.hbm, 103, rfl⟩
abbrev main_v58_3 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v723 : BitVec 1 := Scalar.cmpi .eq arg0 c7_i32
  let v724 : BitVec 32 := Scalar.extui v723
  let c0_i32_413 : BitVec 32 := 0#32
  let v725 : BitVec 1 := Scalar.cmpi .ne v724 c0_i32_413
  v725

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S11x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x4x512x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InBwdRefIdeal.lean ====
abbrev S4096x512 : Shape := ⟨2, ![4096, 512]⟩
abbrev S4096x1024 : Shape := ⟨2, ![4096, 1024]⟩
abbrev S4096 : Shape := ⟨1, ![4096]⟩
abbrev S1024x2560 : Shape := ⟨2, ![1024, 2560]⟩
abbrev S1x1024 : Shape := ⟨2, ![1, 1024]⟩
abbrev S1x512 : Shape := ⟨2, ![1, 512]⟩
abbrev S1x256 : Shape := ⟨2, ![1, 256]⟩
abbrev S3x256 : Shape := ⟨2, ![3, 256]⟩
abbrev S1x1 : Shape := ⟨2, ![1, 1]⟩
abbrev S_ : Shape := ⟨0, ![]⟩
abbrev S4096x1 : Shape := ⟨2, ![4096, 1]⟩
abbrev S4096x2560 : Shape := ⟨2, ![4096, 2560]⟩
abbrev S4096x8x64 : Shape := ⟨3, ![4096, 8, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x8x32 : Shape := ⟨3, ![4096, 8, 32]⟩
abbrev S2560x1024 : Shape := ⟨2, ![2560, 1024]⟩
abbrev S1024 : Shape := ⟨1, ![1024]⟩
abbrev S3x1024 : Shape := ⟨2, ![3, 1024]⟩
abbrev S11x1024 : Shape := ⟨2, ![11, 1024]⟩
abbrev S12x1024 : Shape := ⟨2, ![12, 1024]⟩
abbrev S16x1024 : Shape := ⟨2, ![16, 1024]⟩
abbrev S2x512x4x640 : Shape := ⟨4, ![2, 512, 4, 640]⟩
abbrev S2x4x512x640 : Shape := ⟨4, ![2, 4, 512, 640]⟩

abbrev nBuf : Space → Nat
  | .hbm => 233
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x1024, .bf16⟩
  | 4 => ⟨S4096, .i32⟩
  | 5 => ⟨S1024x2560, .f32⟩
  | 6 => ⟨S4096x1024, .f32⟩
  | 7 => ⟨S1x1024, .f32⟩
  | 8 => ⟨S4096x1024, .f32⟩
  | 9 => ⟨S1x1024, .f32⟩
  | 10 => ⟨S1x512, .f32⟩
  | 11 => ⟨S1x256, .f32⟩
  | 12 => ⟨S1x256, .f32⟩
  | 13 => ⟨S1x1024, .f32⟩
  | 14 => ⟨S1x1024, .f32⟩
  | 15 => ⟨S1x1024, .f32⟩
  | 16 => ⟨S3x256, .f32⟩
  | 17 => ⟨S1x1, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S4096x1024, .f32⟩
  | 36 => ⟨S4096x1024, .f32⟩
  | 37 => ⟨S4096x2560, .f32⟩
  | 38 => ⟨S4096x512, .f32⟩
  | 39 => ⟨S4096x8x64, .f32⟩
  | 40 => ⟨S4096x512, .f32⟩
  | 41 => ⟨S4096x8x64, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S_, .f32⟩
  | 51 => ⟨S32, .f32⟩
  | 52 => ⟨S32, .f32⟩
  | 53 => ⟨S4096, .f32⟩
  | 54 => ⟨S4096x1, .f32⟩
  | 55 => ⟨S1x32, .f32⟩
  | 56 => ⟨S4096x32, .f32⟩
  | 57 => ⟨S4096x32, .f32⟩
  | 58 => ⟨S4096x32, .f32⟩
  | 59 => ⟨S4096x32, .f32⟩
  | 60 => ⟨S4096x1x32, .f32⟩
  | 61 => ⟨S4096x32, .f32⟩
  | 62 => ⟨S4096x1x32, .f32⟩
  | 63 => ⟨S4096x8x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x32, .f32⟩
  | 75 => ⟨S4096x8x64, .f32⟩
  | 76 => ⟨S4096x512, .f32⟩
  | 77 => ⟨S_, .f32⟩
  | 78 => ⟨S4096x512, .f32⟩
  | 79 => ⟨S4096x512, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S32, .f32⟩
  | 88 => ⟨S_, .f32⟩
  | 89 => ⟨S32, .f32⟩
  | 90 => ⟨S32, .f32⟩
  | 91 => ⟨S4096, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x32, .f32⟩
  | 98 => ⟨S4096x1x32, .f32⟩
  | 99 => ⟨S4096x32, .f32⟩
  | 100 => ⟨S4096x1x32, .f32⟩
  | 101 => ⟨S4096x8x32, .f32⟩
  | 102 => ⟨S4096x8x32, .f32⟩
  | 103 => ⟨S4096x8x32, .f32⟩
  | 104 => ⟨S4096x8x32, .f32⟩
  | 105 => ⟨S4096x8x32, .f32⟩
  | 106 => ⟨S4096x8x32, .f32⟩
  | 107 => ⟨S4096x8x32, .f32⟩
  | 108 => ⟨S4096x8x32, .f32⟩
  | 109 => ⟨S4096x8x32, .f32⟩
  | 110 => ⟨S4096x8x32, .f32⟩
  | 111 => ⟨S4096x8x32, .f32⟩
  | 112 => ⟨S4096x8x32, .f32⟩
  | 113 => ⟨S4096x8x64, .f32⟩
  | 114 => ⟨S4096x512, .f32⟩
  | 115 => ⟨S4096x512, .f32⟩
  | 116 => ⟨S4096x1024, .f32⟩
  | 117 => ⟨S4096x1024, .f32⟩
  | 118 => ⟨S_, .f32⟩
  | 119 => ⟨S4096x2560, .f32⟩
  | 120 => ⟨S_, .f32⟩
  | 121 => ⟨S4096x2560, .f32⟩
  | 122 => ⟨S4096x2560, .f32⟩
  | 123 => ⟨S4096x8x64, .f32⟩
  | 124 => ⟨S4096x8x32, .f32⟩
  | 125 => ⟨S4096x8x32, .f32⟩
  | 126 => ⟨S4096x8x32, .f32⟩
  | 127 => ⟨S4096x8x32, .f32⟩
  | _ => ⟨S4096x512, .f32⟩

abbrev hbmTy0_1 (i : Nat) : BufTy := match i % 128 with
  | 0 => ⟨S4096x8x32, .f32⟩
  | 1 => ⟨S4096x8x32, .f32⟩
  | 2 => ⟨S4096x8x32, .f32⟩
  | 3 => ⟨S4096x8x32, .f32⟩
  | 4 => ⟨S4096x8x32, .f32⟩
  | 5 => ⟨S4096x8x32, .f32⟩
  | 6 => ⟨S4096x8x32, .f32⟩
  | 7 => ⟨S4096x8x32, .f32⟩
  | 8 => ⟨S4096x8x32, .f32⟩
  | 9 => ⟨S_, .f32⟩
  | 10 => ⟨S4096x8x64, .f32⟩
  | 11 => ⟨S_, .f32⟩
  | 12 => ⟨S4096x8x64, .f32⟩
  | 13 => ⟨S4096x8x64, .f32⟩
  | 14 => ⟨S_, .f32⟩
  | 15 => ⟨S4096x512, .f32⟩
  | 16 => ⟨S4096x512, .f32⟩
  | 17 => ⟨S4096x8x64, .f32⟩
  | 18 => ⟨S4096x8x32, .f32⟩
  | 19 => ⟨S4096x8x32, .f32⟩
  | 20 => ⟨S4096x8x32, .f32⟩
  | 21 => ⟨S4096x8x32, .f32⟩
  | 22 => ⟨S4096x8x32, .f32⟩
  | 23 => ⟨S4096x8x32, .f32⟩
  | 24 => ⟨S4096x8x32, .f32⟩
  | 25 => ⟨S4096x8x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S_, .f32⟩
  | 32 => ⟨S4096x8x64, .f32⟩
  | 33 => ⟨S_, .f32⟩
  | 34 => ⟨S4096x8x64, .f32⟩
  | 35 => ⟨S4096x8x64, .f32⟩
  | 36 => ⟨S4096x512, .f32⟩
  | 37 => ⟨S_, .f32⟩
  | 38 => ⟨S4096x2560, .f32⟩
  | 39 => ⟨S4096x2560, .f32⟩
  | 40 => ⟨S4096x512, .f32⟩
  | 41 => ⟨S_, .f32⟩
  | 42 => ⟨S4096x2560, .f32⟩
  | 43 => ⟨S4096x2560, .f32⟩
  | 44 => ⟨S2560x1024, .f32⟩
  | 45 => ⟨S1024x2560, .f32⟩
  | 46 => ⟨S4096x1024, .f32⟩
  | 47 => ⟨S4096x1024, .f32⟩
  | 48 => ⟨S_, .f32⟩
  | 49 => ⟨S1024, .f32⟩
  | 50 => ⟨S1x1024, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S4096x1024, .f32⟩
  | 58 => ⟨S4096x1024, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S_, .i32⟩
  | 71 => ⟨S_, .f32⟩
  | 72 => ⟨S1x1024, .f32⟩
  | 73 => ⟨S_, .i32⟩
  | 74 => ⟨S_, .f32⟩
  | 75 => ⟨S1x1024, .f32⟩
  | 76 => ⟨S_, .i32⟩
  | 77 => ⟨S_, .f32⟩
  | 78 => ⟨S1x1024, .f32⟩
  | 79 => ⟨S_, .i32⟩
  | 80 => ⟨S_, .f32⟩
  | 81 => ⟨S1x1024, .f32⟩
  | 82 => ⟨S_, .i32⟩
  | 83 => ⟨S_, .f32⟩
  | 84 => ⟨S1x1024, .f32⟩
  | 85 => ⟨S_, .i32⟩
  | 86 => ⟨S_, .f32⟩
  | 87 => ⟨S1x1024, .f32⟩
  | 88 => ⟨S_, .i32⟩
  | 89 => ⟨S_, .f32⟩
  | 90 => ⟨S1x1024, .f32⟩
  | 91 => ⟨S_, .i32⟩
  | 92 => ⟨S_, .f32⟩
  | 93 => ⟨S3x1024, .f32⟩
  | 94 => ⟨S_, .i32⟩
  | 95 => ⟨S_, .f32⟩
  | 96 => ⟨S1x1024, .f32⟩
  | 97 => ⟨S11x1024, .f32⟩
  | 98 => ⟨S12x1024, .f32⟩
  | 99 => ⟨S_, .i32⟩
  | 100 => ⟨S_, .f32⟩
  | 101 => ⟨S16x1024, .f32⟩
  | 102 => ⟨S4096x1024, .f32⟩
  | 103 => ⟨S2x512x4x640, .f32⟩
  | 104 => ⟨S2x4x512x640, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_7 : Ref sig .tc := ⟨.hbm, 81, rfl⟩
abbrev main_v55 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_cst_11 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_12 : Ref sig .tc := ⟨.hbm, 137, rfl⟩
abbrev main_v106 : Ref sig .tc := ⟨.hbm, 138, rfl⟩
abbrev main_cst_13 : Ref sig .tc := ⟨.hbm, 139, rfl⟩
abbrev main_v107 : Ref sig .tc := ⟨.hbm, 140, rfl⟩
abbrev main_v108 : Ref sig .tc := ⟨.hbm, 141, rfl⟩
abbrev main_cst_14 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_15 : Ref sig .tc := ⟨.hbm, 159, rfl⟩
abbrev main_v125 : Ref sig .tc := ⟨.hbm, 160, rfl⟩
abbrev main_cst_16 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_17 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_18 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_19 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_20 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_21 : Ref sig .tc := ⟨.hbm, 188, rfl⟩
abbrev main_v148 : Ref sig .tc := ⟨.hbm, 189, rfl⟩
abbrev main_v149 : Ref sig .tc := ⟨.hbm, 190, rfl⟩
abbrev main_cst_22 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_c : Ref sig .tc := ⟨.hbm, 198, rfl⟩
abbrev main_call0_v0 : Ref sig .tc := ⟨.hbm, 199, rfl⟩
abbrev main_v156 : Ref sig .tc := ⟨.hbm, 200, rfl⟩
abbrev main_c_23 : Ref sig .tc := ⟨.hbm, 201, rfl⟩
abbrev main_call1_v0 : Ref sig .tc := ⟨.hbm, 202, rfl⟩
abbrev main_v157 : Ref sig .tc := ⟨.hbm, 203, rfl⟩
abbrev main_c_24 : Ref sig .tc := ⟨.hbm, 204, rfl⟩
abbrev main_call2_v0 : Ref sig .tc := ⟨.hbm, 205, rfl⟩
abbrev main_v158 : Ref sig .tc := ⟨.hbm, 206, rfl⟩
abbrev main_c_25 : Ref sig .tc := ⟨.hbm, 207, rfl⟩
abbrev main_call3_v0 : Ref sig .tc := ⟨.hbm, 208, rfl⟩
abbrev main_v159 : Ref sig .tc := ⟨.hbm, 209, rfl⟩
abbrev main_c_26 : Ref sig .tc := ⟨.hbm, 210, rfl⟩
abbrev main_call4_v0 : Ref sig .tc := ⟨.hbm, 211, rfl⟩
abbrev main_v160 : Ref sig .tc := ⟨.hbm, 212, rfl⟩
abbrev main_c_27 : Ref sig .tc := ⟨.hbm, 213, rfl⟩
abbrev main_call5_v0 : Ref sig .tc := ⟨.hbm, 214, rfl⟩
abbrev main_v161 : Ref sig .tc := ⟨.hbm, 215, rfl⟩
abbrev main_c_28 : Ref sig .tc := ⟨.hbm, 216, rfl⟩
abbrev main_call6_v0 : Ref sig .tc := ⟨.hbm, 217, rfl⟩
abbrev main_v162 : Ref sig .tc := ⟨.hbm, 218, rfl⟩
abbrev main_c_29 : Ref sig .tc := ⟨.hbm, 219, rfl⟩
abbrev main_call7_v0 : Ref sig .tc := ⟨.hbm, 220, rfl⟩
abbrev main_v163 : Ref sig .tc := ⟨.hbm, 221, rfl⟩
abbrev main_c_30 : Ref sig .tc := ⟨.hbm, 222, rfl⟩
abbrev main_call8_v0 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_c_31 : Ref sig .tc := ⟨.hbm, 227, rfl⟩
abbrev main_call9_v0 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩

abbrev nD : Nat := 1
abbrev τ : Topo := Topo.v7x

variable {F : FTy → Type} [FloatOps F]
-- ==== Proof.RowMath.lean ====
/-
  The arithmetic on the extended reals that the row-wise gradients rest on: a nonnegative real factor goes through a
  sum whatever the summands are, a doubled term is a term times two, and the reciprocal root of a mean square is a
  nonnegative real whose square times the mean square is one (or is zero where the mean square is infinite).
-/
module

public import Idealize.ShloMosaic.Lib.Pointwise

@[expose] public section

noncomputable section

namespace Cert.RowMath

open Idealize.ShloMosaic

/-- A nonnegative real factor goes into a sum of two extended reals. -/
theorem mul_add_of_nonneg (a : ℝ) (ha : 0 ≤ a) (y z : EReal) : (a : EReal) * (y + z) = a * y + a * z :=
  EReal.left_distrib_of_nonneg_of_ne_top (by exact_mod_cast ha) (EReal.coe_ne_top a) y z

/-- A nonnegative real factor goes into a sum of extended reals, whatever the summands are. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih => rw [Finset.sum_insert hi, Finset.sum_insert hi, mul_add_of_nonneg a ha, ih]

/-- A term added to itself is the term times the real number two. -/
theorem add_self (y : EReal) : y + y = y * ((2 : ℝ) : EReal) := by
  induction y using EReal.rec with
  | bot => rw [EReal.bot_mul_coe_of_pos (by norm_num)]; rfl
  | top => rw [EReal.top_mul_coe_of_pos (by norm_num)]; rfl
  | coe r => rw [← EReal.coe_add, ← EReal.coe_mul, mul_two]

/-- The pattern of the row length 1024. -/
theorem ofBits_1024 : Ideal.ofBits .f32 0x44800000#32 = ((1024 : ℝ) : EReal) := by
  simp [Ideal.ofBits, Ideal.ieee, -EReal.coe_mul]; norm_num

/-- The pattern of one half. -/
theorem ofBits_half : Ideal.ofBits .f32 0x3F000000#32 = ((1 / 2 : ℝ) : EReal) := by
  simp [Ideal.ofBits, Ideal.ieee, -EReal.coe_mul]; norm_num

/-- The pattern of minus one half. -/
theorem ofBits_neg_half : Ideal.ofBits .f32 0xBF000000#32 = ((-(1 / 2) : ℝ) : EReal) := by
  simp [Ideal.ofBits, Ideal.ieee, -EReal.coe_mul]; norm_num

/-- The pattern of two. -/
theorem ofBits_two : Ideal.ofBits .f32 0x40000000#32 = ((2 : ℝ) : EReal) := by
  simp [Ideal.ofBits, Ideal.ieee, -EReal.coe_mul]; norm_num

/-- The pattern of one over 1024. -/
theorem ofBits_inv1024 : Ideal.ofBits .f32 0x3A800000#32 = ((1 / 1024 : ℝ) : EReal) := by
  simp [Ideal.ofBits, Ideal.ieee, -EReal.coe_mul]; norm_num

/-- The pattern of the small number added to a mean square is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The square of an extended real is not negative. -/
theorem sq_nonneg (x : EReal) : 0 ≤ x * x := by
  induction x using EReal.rec with
  | bot => simp
  | top => simp
  | coe r => rw [← EReal.coe_mul]; exact_mod_cast mul_self_nonneg r

/-- The reciprocal root of a number that is a nonnegative one plus a positive real: a nonnegative real `ρ`; where the
    number is infinite, `ρ` and its quotient by the number are zero; elsewhere the number is a positive real `s` with
    `ρ * ρ * s = 1`. -/
theorem rsqrt_cases (q : EReal) (e : ℝ) (he : 0 < e) (hq : 0 ≤ q) :
    ∃ ρ : ℝ, 0 ≤ ρ ∧ Ideal.rsqrt (q + e) = (ρ : EReal)
      ∧ Ideal.div (Ideal.rsqrt (q + e)) (q + e) = ((ρ * ρ * ρ : ℝ) : EReal) := by
  induction q using EReal.rec with
  | bot => simp at hq
  | top =>
    refine ⟨0, le_rfl, ?_, ?_⟩
    · rw [EReal.top_add_coe]; simp
    · rw [EReal.top_add_coe]; simp [Ideal.div]
  | coe r =>
    have hr : 0 ≤ r := by exact_mod_cast hq
    have hs : 0 < r + e := by positivity
    refine ⟨(Real.sqrt (r + e))⁻¹, by positivity, ?_, ?_⟩
    · rw [← EReal.coe_add, Ideal.rsqrt_coe, if_neg (not_lt.mpr hs.le), if_neg hs.ne']
    · rw [← EReal.coe_add, Ideal.rsqrt_coe, if_neg (not_lt.mpr hs.le), if_neg hs.ne', Ideal.div_coe hs.ne',
        ← EReal.coe_mul]
      congr 1
      have h := Real.mul_self_sqrt hs.le
      have h0 : Real.sqrt (r + e) ≠ 0 := (Real.sqrt_pos.mpr hs).ne'
      field_simp
      rw [sq, h]

/-! ## A row's root mean square norm and its gradient -/

/-- The mean square of a row of 1024 elements, with the small number added. -/
def msq {n : ℕ} (x : Fin n → EReal) : EReal :=
  Ideal.div (∑ k, x k * x k) (Ideal.ofBits .f32 0x44800000#32) + Ideal.ofBits .f32 0x358637BD#32

/-- The reciprocal root mean square of a row. -/
def rms {n : ℕ} (x : Fin n → EReal) : EReal := Ideal.rsqrt (msq x)

/-- The gradient of the norm through a row, as the kernel writes it: `r (g - x̂ mean(x̂ g))`, `x̂ = x r`. -/
def bwd {n : ℕ} (x g : Fin n → EReal) (k : Fin n) : EReal :=
  rms x * (g k - x k * rms x * Ideal.div (∑ j, x j * rms x * g j) (Ideal.ofBits .f32 0x44800000#32))

/-- What the transposed norm gives for the mean square: the factor it multiplies both copies of the row by. -/
def pull {n : ℕ} (x g : Fin n → EReal) : EReal :=
  Ideal.div ((∑ j, x j * g j) * (Ideal.ofBits .f32 0xBF000000#32 * Ideal.div (rms x) (msq x)))
    (Ideal.ofBits .f32 0x44800000#32)

/-- The gradient of the norm through a row, as the transposed norm writes it. -/
def vjp {n : ℕ} (x g : Fin n → EReal) (k : Fin n) : EReal := g k * rms x + x k * pull x g + pull x g * x k

/-- A quotient by the row length is a product. -/
theorem div_1024 (y : EReal) : Ideal.div y (Ideal.ofBits .f32 0x44800000#32) = y * ((1 / 1024 : ℝ) : EReal) := by
  rw [ofBits_1024, Ideal.div_coe (by norm_num)]

/-- The reciprocal root mean square of any row is a nonnegative real `ρ`, and its quotient by the mean square is
    `ρ³`. -/
theorem rms_cases {n : ℕ} (x : Fin n → EReal) :
    ∃ ρ : ℝ, 0 ≤ ρ ∧ rms x = (ρ : EReal) ∧ Ideal.div (rms x) (msq x) = ((ρ * ρ * ρ : ℝ) : EReal) := by
  obtain ⟨e, he, h⟩ := ofBits_eps
  unfold rms msq
  rw [h, div_1024]
  refine rsqrt_cases _ e he (mul_nonneg (Finset.sum_nonneg fun k _ => sq_nonneg _) ?_)
  exact_mod_cast (by norm_num : (0 : ℝ) ≤ 1 / 1024)

/-- The two gradients of the norm through a row agree, for every row and every cotangent, infinite elements
    included. -/
theorem bwd_eq_vjp {n : ℕ} (x g : Fin n → EReal) (k : Fin n) : bwd x g k = vjp x g k := by
  obtain ⟨ρ, h0, hr, hd⟩ := rms_cases x
  have hS : ∑ j, x j * rms x * g j = (ρ : EReal) * ∑ j, x j * g j := by
    rw [mul_sum _ ρ h0, hr]
    exact Finset.sum_congr rfl fun j _ => by rw [mul_comm (x j) _, mul_assoc]
  unfold bwd vjp pull
  rw [hS, hd, hr, div_1024, div_1024, ofBits_neg_half]
  generalize ∑ j, x j * g j = S
  rw [sub_eq_add_neg, mul_add_of_nonneg ρ h0, add_assoc]
  congr 1
  · exact mul_comm _ _
  · have e1 : x k * (S * ((-(1 / 2) : ℝ) * ((ρ * ρ * ρ : ℝ) : EReal)) * ((1 / 1024 : ℝ) : EReal))
        = x k * S * (((-(1 / 2) * (ρ * ρ * ρ) * (1 / 1024)) : ℝ) : EReal) := by
      push_cast; ac_rfl
    have e2 : (-(1 / 2) * (ρ * ρ * ρ) * (1 / 1024)) * 2 = -(ρ * ρ * ρ * (1 / 1024)) := by ring
    rw [mul_comm (S * _ * _) (x k), e1, add_self, mul_assoc (x k * S), ← EReal.coe_mul, e2, EReal.coe_neg, mul_neg,
      mul_neg]
    congr 1
    push_cast
    ac_rfl

end Cert.RowMath

end
-- ==== Proof.MlpRow.lean ====
/-
  One row of the feed-forward block and of its gradient, as plain functions of the row, its target, the two gains and
  the two weight matrices over the extended reals: the forward values, the loss error, and the gradients with respect to
  the hidden activations and the row itself. Both programs are read against these functions.
-/
module

public import proofs.«01_k».proof.Proof.RowMath

@[expose] public section

noncomputable section

namespace Cert.MlpRow

open Idealize.ShloMosaic Cert.RowMath

/-- A row normalised by its root mean square and scaled by a gain. -/
def nrm {n : ℕ} (x g : Fin n → EReal) (k : Fin n) : EReal := x k * rms x * g k

section
variable (x tgt gpre gpost : Fin 1024 → EReal) (WU : Fin 1024 → Fin 4096 → EReal) (WD : Fin 4096 → Fin 1024 → EReal)

/-- The first product of the block, at the normalised row. -/
def up (l : Fin 4096) : EReal := ∑ k, nrm x gpre k * WU k l

/-- The squared positive part of the first product. -/
def act (l : Fin 4096) : EReal := max (up x gpre WU l) 0 * max (up x gpre WU l) 0

/-- The second product of the block. -/
def down (d : Fin 1024) : EReal := ∑ l, act x gpre WU l * WD l d

/-- The error of the block's output, residual included, against the target. -/
def err (d : Fin 1024) : EReal := x d + nrm (down x gpre WU WD) gpost d - tgt d

/-- The gradient of the loss at the block's output. -/
def dout (d : Fin 1024) : EReal := err x tgt gpre gpost WU WD d * Ideal.ofBits .f32 0x3A800000#32

/-- The gradient at the second product. -/
def ddown (d : Fin 1024) : EReal :=
  bwd (down x gpre WU WD) (fun k => dout x tgt gpre gpost WU WD k * gpost k) d

/-- The gradient at the first product. -/
def dup (l : Fin 4096) : EReal :=
  Ideal.ofBits .f32 0x40000000#32 * max (up x gpre WU l) 0 * ∑ d, ddown x tgt gpre gpost WU WD d * WD l d

/-- The gradient at the normalised row. -/
def dnorm (k : Fin 1024) : EReal := ∑ l, dup x tgt gpre gpost WU WD l * WU k l

/-- The gradient at the row itself: through the residual and through the first norm. -/
def drow (k : Fin 1024) : EReal :=
  dout x tgt gpre gpost WU WD k + bwd x (fun j => dnorm x tgt gpre gpost WU WD j * gpre j) k

/-- What the row adds to the gradient of the first gain. -/
def dgpre (k : Fin 1024) : EReal := dnorm x tgt gpre gpost WU WD k * (x k * rms x)

/-- What the row adds to the gradient of the second gain. -/
def dgpost (k : Fin 1024) : EReal :=
  dout x tgt gpre gpost WU WD k * (down x gpre WU WD k * rms (down x gpre WU WD))

/-- The row's mean squared error. -/
def mse : EReal :=
  Ideal.div (∑ d, err x tgt gpre gpost WU WD d * err x tgt gpre gpost WU WD d) (Ideal.ofBits .f32 0x44800000#32)

end

/-- A sum over 4096 positions is the sum of its four stretches of 1024. -/
theorem sum_four (f : Fin 4096 → EReal) :
    (∑ c : Fin 1024, f ⟨c, by omega⟩) + (∑ c : Fin 1024, f ⟨1024 + c, by omega⟩)
      + (∑ c : Fin 1024, f ⟨2048 + c, by omega⟩) + (∑ c : Fin 1024, f ⟨3072 + c, by omega⟩) = ∑ l, f l := by
  rw [show ∑ l, f l = _ from Fin.sum_univ_add (a := 3072) (b := 1024) f,
    show ∑ l : Fin 3072, f (Fin.castAdd 1024 l) = _ from Fin.sum_univ_add (a := 2048) (b := 1024) (fun l : Fin 3072 => f (Fin.castAdd 1024 l)),
    show ∑ l : Fin 2048, f (Fin.castAdd 1024 (Fin.castAdd 1024 l)) = _ from
      Fin.sum_univ_add (a := 1024) (b := 1024) (fun l : Fin 2048 => f (Fin.castAdd 1024 (Fin.castAdd 1024 l)))]
  rfl

end Cert.MlpRow

end
-- ==== Proof.MlpPayload.lean ====
/-
  What each value that the kernel's body stores or keeps is worth at a row and a column of its block.
-/
module

public import proofs.«01_k».proof.Proof.MlpRow
public import proofs.«01_k».proof.Proof.Gen.MlpIdeal.Skeleton
public import Idealize.ShloMosaic.Lib.Pointwise

@[expose] public section

set_option maxRecDepth 16384

noncomputable section

namespace Cert.MlpIdeal.Payload

open Idealize.ShloMosaic Cert.MlpIdeal Cert.MlpIdeal.Gen Cert.RowMath Cert.MlpRow

/-- A row of a block. -/
abbrev row {n k : ℕ} (x : Shape.Idx ⟨2, ![n, k]⟩ → EReal) (r : Fin n) (c : Fin k) : EReal := x (ix2 r c)

variable (v3 : Vec Ideal S256x1024 .f32) (v14 : Vec Ideal S1x1024 .f32) (v20 : Vec Ideal S1x1024x1024 .bf16)
  (v17 : FVec Ideal S256x1024 .bf16) (r : Fin 256) (d : Fin 1024)

/-- The first norm's reciprocal root mean square is that of the block's row. -/
theorem pay5 : k0_pay5 (F := Ideal) v3 (ix2 r 0) = rms (row v3 r) := by
  pointwise [k0_pay5, rms, msq]

/-- The row scaled by it. -/
theorem pay6 : k0_pay6 (F := Ideal) v3 (ix2 r d) = v3 (ix2 r d) * rms (row v3 r) := by
  pointwise [k0_pay6, pay5]

/-- The normalised row. -/
theorem pay7 : k0_pay7 (F := Ideal) v3 v14 (ix2 r d) = nrm (row v3 r) (row v14 0) d := by
  pointwise [k0_pay7, pay6, nrm]

/-- The positive part of the first product, first stretch of columns. -/
theorem pay9 : k0_pay9 (F := Ideal) v3 v14 v20 (ix2 r d)
    = max (∑ k, k0_pay7 (F := Ideal) v3 v14 (ix2 r k) * v20 (ix3 0 k d)) 0 := by
  pointwise [k0_pay9]

theorem pay10 : k0_pay10 (F := Ideal) v3 v14 v20 = k0_pay9 v3 v14 v20 := by
  funext j; idx_vars j; pointwise [k0_pay10]

theorem pay11 : k0_pay11 (F := Ideal) v3 v14 v20 (ix2 r d)
    = k0_pay9 (F := Ideal) v3 v14 v20 (ix2 r d) * k0_pay9 (F := Ideal) v3 v14 v20 (ix2 r d) := by
  pointwise [k0_pay11]

/-- The positive part of the first product, second stretch. -/
theorem pay12 : k0_pay12 (F := Ideal) v17 v20 (ix2 r d) = max (∑ k, v17 (ix2 r k) * v20 (ix3 0 k d)) 0 := by
  pointwise [k0_pay12]

theorem pay13 : k0_pay13 (F := Ideal) v17 v20 = k0_pay12 v17 v20 := by
  funext j; idx_vars j; pointwise [k0_pay13]

theorem pay14 : k0_pay14 (F := Ideal) v17 v20 (ix2 r d)
    = k0_pay12 (F := Ideal) v17 v20 (ix2 r d) * k0_pay12 (F := Ideal) v17 v20 (ix2 r d) := by
  pointwise [k0_pay14]

/-- The positive part of the first product, third stretch. -/
theorem pay16 : k0_pay16 (F := Ideal) v17 v20 (ix2 r d) = max (∑ k, v17 (ix2 r k) * v20 (ix3 0 k d)) 0 := by
  pointwise [k0_pay16]

theorem pay17 : k0_pay17 (F := Ideal) v17 v20 = k0_pay16 v17 v20 := by
  funext j; idx_vars j; pointwise [k0_pay17]

theorem pay18 : k0_pay18 (F := Ideal) v17 v20 (ix2 r d)
    = k0_pay16 (F := Ideal) v17 v20 (ix2 r d) * k0_pay16 (F := Ideal) v17 v20 (ix2 r d) := by
  pointwise [k0_pay18]

/-- The positive part of the first product, last stretch. -/
theorem pay20 : k0_pay20 (F := Ideal) v17 v20 (ix2 r d) = max (∑ k, v17 (ix2 r k) * v20 (ix3 0 k d)) 0 := by
  pointwise [k0_pay20]

theorem pay21 : k0_pay21 (F := Ideal) v17 v20 = k0_pay20 v17 v20 := by
  funext j; idx_vars j; pointwise [k0_pay21]

theorem pay22 : k0_pay22 (F := Ideal) v17 v20 (ix2 r d)
    = k0_pay20 (F := Ideal) v17 v20 (ix2 r d) * k0_pay20 (F := Ideal) v17 v20 (ix2 r d) := by
  pointwise [k0_pay22]

variable (v19 v49 : FVec Ideal S256x1024 .f32) (v29 v59 : FVec Ideal S256x1024 .bf16) (v31 v46 v76 : Vec Ideal S1024x1024 .bf16)
  (v35 v65 : Vec Ideal S1x1024x1024 .bf16) (v62 : FVec Ideal S1024x1024 .bf16)

/-- The second product's first two partial sums. -/
theorem pay15 : k0_pay15 (F := Ideal) v17 v19 v29 v31 v35 v46 (ix2 r d)
    = v19 (ix2 r d) + (∑ k, v29 (ix2 r k) * v31 (ix2 k d))
      + ∑ k, k0_pay14 (F := Ideal) v17 v35 (ix2 r k) * v46 (ix2 k d) := by
  pointwise [k0_pay15]

/-- The second product's last two partial sums. -/
theorem pay23 : k0_pay23 (F := Ideal) v17 v49 v59 v62 (constant S256x1024 .f32 0x00000000#32) v65 v76 (ix2 r d)
    = v49 (ix2 r d) + (∑ k, v59 (ix2 r k) * v62 (ix2 k d))
      + ∑ k, k0_pay22 (F := Ideal) v17 v65 (ix2 r k) * v76 (ix2 k d) := by
  pointwise [k0_pay23]

variable (cst : FVec Ideal S256x1024 .f32) (v90 : Vec Ideal S1x1024 .f32) (v94 : Vec Ideal S256x1024 .f32)

theorem pay24 : k0_pay24 (F := Ideal) v17 v49 v59 v62 cst v65 v76 (ix2 r 0)
    = rms (row (k0_pay23 (F := Ideal) v17 v49 v59 v62 cst v65 v76) r) := by
  pointwise [k0_pay24, rms, msq]

theorem pay25 : k0_pay25 (F := Ideal) v17 v49 v59 v62 cst v65 v76 (ix2 r d)
    = k0_pay23 (F := Ideal) v17 v49 v59 v62 cst v65 v76 (ix2 r d)
      * rms (row (k0_pay23 (F := Ideal) v17 v49 v59 v62 cst v65 v76) r) := by
  pointwise [k0_pay25, pay24]

/-- The error against the target. -/
theorem pay26 : k0_pay26 (F := Ideal) v3 v17 v49 v59 v62 cst v65 v76 v90 v94 (ix2 r d)
    = v3 (ix2 r d) + nrm (row (k0_pay23 (F := Ideal) v17 v49 v59 v62 cst v65 v76) r) (row v90 0) d - v94 (ix2 r d) := by
  pointwise [k0_pay26, pay25, nrm]

theorem pay28 : k0_pay28 (F := Ideal) v3 v17 v49 v59 v62 cst v65 v76 v90 v94 (ix2 r d)
    = k0_pay26 (F := Ideal) v3 v17 v49 v59 v62 cst v65 v76 v90 v94 (ix2 r d)
      * k0_pay26 (F := Ideal) v3 v17 v49 v59 v62 cst v65 v76 v90 v94 (ix2 r d) := by
  pointwise [k0_pay28]

variable (v97 : FVec Ideal S1x1 .f32) (v98 v95 v89 : FVec Ideal S256x1024 .f32) (v87 : FVec Ideal S256x1 .f32)

/-- The loss after the block: what it was and half the sum of the rows' mean squares. -/
theorem pay29 : k0_pay29 (F := Ideal) v97 v98 (ix2 0 0)
    = v97 (ix2 0 0) + Ideal.ofBits .f32 0x3F000000#32
      * ∑ r : Fin 256, Ideal.div (∑ k : Fin 1024, v98 (ix2 r k)) (Ideal.ofBits .f32 0x44800000#32) := by
  pointwise [k0_pay29]

theorem pay30 : k0_pay30 (F := Ideal) v95 (ix2 r d) = v95 (ix2 r d) * Ideal.ofBits .f32 0x3A800000#32 := by
  pointwise [k0_pay30]

/-- The second gain's gradient after the block. -/
theorem pay31 : k0_pay31 (F := Ideal) v89 v95 v14 (ix2 0 d)
    = v14 (ix2 0 d) + ∑ r : Fin 256, v95 (ix2 r d) * Ideal.ofBits .f32 0x3A800000#32 * v89 (ix2 r d) := by
  pointwise [k0_pay31, pay30]

/-- The gradient at the second product. -/
theorem pay32 : k0_pay32 (F := Ideal) v87 v89 v95 v14 (ix2 r d)
    = v87 (ix2 r 0) * (v95 (ix2 r d) * Ideal.ofBits .f32 0x3A800000#32 * v14 (ix2 0 d)
      - v89 (ix2 r d) * Ideal.div (∑ k : Fin 1024, v89 (ix2 r k) * (v95 (ix2 r k) * Ideal.ofBits .f32 0x3A800000#32 * v14 (ix2 0 k)))
          (Ideal.ofBits .f32 0x44800000#32)) := by
  pointwise [k0_pay32, pay30]

variable (v131 : FVec Ideal S256x1024 .bf16) (v135 : FVec Ideal S1024x1024 .bf16) (v137 v150 v163 v176 : Vec Ideal S256x1024 .f32)
  (v147 v160 v173 : Vec Ideal S1024x1024 .bf16) (v143 v156 v169 v182 : Vec Ideal S1x1024x1024 .bf16)
  (v133 v159 v162 v165 v13 : FVec Ideal S256x1024 .f32) (v186 v193 : Vec Ideal S1x1024 .f32)

theorem pay34 : k0_pay34 (F := Ideal) v147 = v147 := by
  funext j; idx_vars j; pointwise [k0_pay34]

/-- The gradient at the first product, first stretch of columns. -/
theorem pay35 : k0_pay35 (F := Ideal) v131 v135 v137 (ix2 r d)
    = Ideal.ofBits .f32 0x40000000#32 * v137 (ix2 r d) * ∑ k, v131 (ix2 r k) * v135 (ix2 d k) := by
  pointwise [k0_pay35]

theorem pay36 : k0_pay36 (F := Ideal) v131 v147 v137 (ix2 r d)
    = Ideal.ofBits .f32 0x40000000#32 * v137 (ix2 r d) * ∑ k, v131 (ix2 r k) * v147 (ix2 d k) := by
  pointwise [k0_pay36]

theorem pay37 : k0_pay37 (F := Ideal) v131 v133 v135 v137 v143 v147 v150 v156 (ix2 r d)
    = v133 (ix2 r d) + (∑ k, k0_pay35 (F := Ideal) v131 v135 v137 (ix2 r k) * v143 (ix3 0 d k))
      + ∑ k, k0_pay36 (F := Ideal) v131 v147 v150 (ix2 r k) * v156 (ix3 0 d k) := by
  pointwise [k0_pay37]

theorem pay40 : k0_pay40 (F := Ideal) (k0_pay38 v131 v160) (k0_pay39 v163) (ix2 r d)
    = Ideal.ofBits .f32 0x40000000#32 * v163 (ix2 r d) * ∑ k, v131 (ix2 r k) * v160 (ix2 d k) := by
  pointwise [k0_pay40, k0_pay38, k0_pay39]

theorem pay41 : k0_pay41 (F := Ideal) v131 v147 v137 (ix2 r d)
    = Ideal.ofBits .f32 0x40000000#32 * v137 (ix2 r d) * ∑ k, v131 (ix2 r k) * v147 (ix2 d k) := by
  pointwise [k0_pay41]

/-- The gradient at the normalised row. -/
theorem pay42 : k0_pay42 (F := Ideal) v131 v159 v162 v165 v169 v173 v176 v182 (ix2 r d)
    = v159 (ix2 r d) + (∑ k, k0_pay40 (F := Ideal) v162 v165 (ix2 r k) * v169 (ix3 0 d k))
      + ∑ k, k0_pay41 (F := Ideal) v131 v173 v176 (ix2 r k) * v182 (ix3 0 d k) := by
  pointwise [k0_pay42]

/-- The first gain's gradient after the block. -/
theorem pay43 : k0_pay43 (F := Ideal) v13 v131 v159 v162 v165 v169 v173 v176 v182 v186 (ix2 0 d)
    = v186 (ix2 0 d) + ∑ r : Fin 256, k0_pay42 (F := Ideal) v131 v159 v162 v165 v169 v173 v176 v182 (ix2 r d) * v13 (ix2 r d) := by
  pointwise [k0_pay43]

theorem pay44 : k0_pay44 (F := Ideal) v131 v159 v162 v165 v169 v173 v176 v182 v193 (ix2 r d)
    = k0_pay42 (F := Ideal) v131 v159 v162 v165 v169 v173 v176 v182 (ix2 r d) * v193 (ix2 0 d) := by
  pointwise [k0_pay44]

theorem pay45 : k0_pay45 (F := Ideal) v13 v131 v159 v162 v165 v169 v173 v176 v182 v193 (ix2 r d)
    = v13 (ix2 r d) * k0_pay44 (F := Ideal) v131 v159 v162 v165 v169 v173 v176 v182 v193 (ix2 r d) := by
  pointwise [k0_pay45]

variable (v11 : FVec Ideal S256x1 .f32) (v110 v195 v196 : FVec Ideal S256x1024 .f32)

/-- The gradient at the row: the residual's part and the first norm's. -/
theorem pay1 : k0_pay1 (F := Ideal) v11 v13 v110 v195 v196 (ix2 r d)
    = v110 (ix2 r d) + v11 (ix2 r 0) * (v195 (ix2 r d)
      - v13 (ix2 r d) * Ideal.div (∑ k : Fin 1024, v196 (ix2 r k)) (Ideal.ofBits .f32 0x44800000#32)) := by
  pointwise [k0_pay1]

end Cert.MlpIdeal.Payload

end
-- ==== Proof.MlpBlocks.lean ====
/-
  The values one grid point of the kernel computes from its blocks (256 rows of the input and of the target, the two
  gains, the two weight matrices), named and read at a row and a column as the row functions of `MlpRow`.
-/
module

public import proofs.«01_k».proof.Proof.MlpPayload
public import Idealize.ShloMosaic.Lib.Pipeline.ValueKit

@[expose] public section

set_option maxRecDepth 16384

noncomputable section

namespace Cert.MlpIdeal.Blocks

open Idealize.ShloMosaic Cert.MlpIdeal Cert.MlpIdeal.Gen Cert.RowMath Cert.MlpRow Cert.MlpIdeal.Payload

/-- The first weight matrix, of the stack of its four column stretches. -/
def wu (W4 : Vec Ideal S4x1024x1024 .bf16) (k : Fin 1024) (l : Fin 4096) : EReal :=
  W4 (ix3 ⟨l.val / 1024, by omega⟩ k ⟨l.val % 1024, by omega⟩)

/-- The second weight matrix. -/
def wd (W5 : Vec Ideal S4096x1024 .bf16) (l : Fin 4096) (d : Fin 1024) : EReal := W5 (ix2 l d)

variable (X T : Vec Ideal S256x1024 .f32) (G GP : Vec Ideal S1x1024 .f32) (W4 : Vec Ideal S4x1024x1024 .bf16)
  (W5 : Vec Ideal S4096x1024 .bf16)

/-! ## The stretches of the weights the body loads -/

def u0 : Vec Ideal S1x1024x1024 .bf16 := View.ld W4 (Rect.unit ![0, 0, 0] ![1, 1024, 1024] inb_S4x1024x1024_S1x1024x1024_0_0_0)
def u1 : Vec Ideal S1x1024x1024 .bf16 := View.ld W4 (Rect.unit ![1, 0, 0] ![1, 1024, 1024] inb_S4x1024x1024_S1x1024x1024_1_0_0)
def u2 : Vec Ideal S1x1024x1024 .bf16 := View.ld W4 (Rect.unit ![2, 0, 0] ![1, 1024, 1024] inb_S4x1024x1024_S1x1024x1024_2_0_0)
def u3 : Vec Ideal S1x1024x1024 .bf16 := View.ld W4 (Rect.unit ![3, 0, 0] ![1, 1024, 1024] inb_S4x1024x1024_S1x1024x1024_3_0_0)
def d0 : Vec Ideal S1024x1024 .bf16 := View.ld W5 (Rect.unit ![0, 0] ![1024, 1024] inb_S4096x1024_S1024x1024_0_0)
def d1 : Vec Ideal S1024x1024 .bf16 := View.ld W5 (Rect.unit ![1024, 0] ![1024, 1024] inb_S4096x1024_S1024x1024_1024_0)
def d2 : Vec Ideal S1024x1024 .bf16 := View.ld W5 (Rect.unit ![2048, 0] ![1024, 1024] inb_S4096x1024_S1024x1024_2048_0)
def d3 : Vec Ideal S1024x1024 .bf16 := View.ld W5 (Rect.unit ![3072, 0] ![1024, 1024] inb_S4096x1024_S1024x1024_3072_0)

variable (r : Fin 256) (k c d : Fin 1024)

theorem u0_apply : u0 W4 (ix3 0 k c) = wu W4 k ⟨c, by omega⟩ :=
  View.ld_unit_apply_of W4 _ _ _ _ _ fun a => by fin_cases a <;> simp [ix3] <;> omega
theorem u1_apply : u1 W4 (ix3 0 k c) = wu W4 k ⟨1024 + c, by omega⟩ :=
  View.ld_unit_apply_of W4 _ _ _ _ _ fun a => by fin_cases a <;> simp [ix3] <;> omega
theorem u2_apply : u2 W4 (ix3 0 k c) = wu W4 k ⟨2048 + c, by omega⟩ :=
  View.ld_unit_apply_of W4 _ _ _ _ _ fun a => by fin_cases a <;> simp [ix3] <;> omega
theorem u3_apply : u3 W4 (ix3 0 k c) = wu W4 k ⟨3072 + c, by omega⟩ :=
  View.ld_unit_apply_of W4 _ _ _ _ _ fun a => by fin_cases a <;> simp [ix3] <;> omega
theorem d0_apply : d0 W5 (ix2 c d) = wd W5 ⟨c, by omega⟩ d :=
  View.ld_unit_apply_of W5 _ _ _ _ _ fun a => by fin_cases a <;> simp [ix2]
theorem d1_apply : d1 W5 (ix2 c d) = wd W5 ⟨1024 + c, by omega⟩ d :=
  View.ld_unit_apply_of W5 _ _ _ _ _ fun a => by fin_cases a <;> simp [ix2]
theorem d2_apply : d2 W5 (ix2 c d) = wd W5 ⟨2048 + c, by omega⟩ d :=
  View.ld_unit_apply_of W5 _ _ _ _ _ fun a => by fin_cases a <;> simp [ix2]
theorem d3_apply : d3 W5 (ix2 c d) = wd W5 ⟨3072 + c, by omega⟩ d :=
  View.ld_unit_apply_of W5 _ _ _ _ _ fun a => by fin_cases a <;> simp [ix2]

theorem pay19 (v : Vec Ideal S1024x1024 .bf16) : k0_pay19 (F := Ideal) v = v := by
  funext j; idx_vars j; pointwise [k0_pay19]
theorem pay27 (v : Vec Ideal S1x1 .f32) : k0_pay27 (F := Ideal) v = v := by
  funext j; idx_vars j; pointwise [k0_pay27]
theorem pay8 : k0_pay8 (F := Ideal) (ix2 r d) = 0 := by pointwise [k0_pay8]
theorem pay33 : k0_pay33 (F := Ideal) (ix2 r d) = 0 := by pointwise [k0_pay33]
theorem pay2 : k0_pay2 (F := Ideal) (ix2 0 d) = 0 := by pointwise [k0_pay2]
theorem pay3 : k0_pay3 (F := Ideal) (ix2 0 d) = 0 := by pointwise [k0_pay3]
theorem pay4 : k0_pay4 (F := Ideal) (ix2 0 0) = 0 := by pointwise [k0_pay4]

/-! ## The forward values -/

/-- The normalised rows. -/
def hB : FVec Ideal S256x1024 .bf16 := k0_pay7 (F := Ideal) X G

theorem hB_apply : hB X G (ix2 r d) = nrm (row X r) (row G 0) d := pay7 X G r d

/-- The second product of the block. -/
def sB : FVec Ideal S256x1024 .f32 :=
  k0_pay23 (hB X G) (k0_pay15 (hB X G) k0_pay8 (k0_pay11 X G (u0 W4)) (d0 W5) (u1 W4) (d1 W5)) (k0_pay18 (hB X G) (u2 W4))
    (k0_pay19 (d2 W5)) (constant S256x1024 .f32 0x00000000#32) (u3 W4) (d3 W5)

theorem pos0 : k0_pay9 (F := Ideal) X G (u0 W4) (ix2 r c) = max (up (row X r) (row G 0) (wu W4) ⟨c, by omega⟩) 0 := by
  simp only [Payload.pay9, pay7, u0_apply, up]
theorem pos1 : k0_pay12 (F := Ideal) (hB X G) (u1 W4) (ix2 r c) = max (up (row X r) (row G 0) (wu W4) ⟨1024 + c, by omega⟩) 0 := by
  simp only [Payload.pay12, hB_apply, u1_apply, up]
theorem pos2 : k0_pay16 (F := Ideal) (hB X G) (u2 W4) (ix2 r c) = max (up (row X r) (row G 0) (wu W4) ⟨2048 + c, by omega⟩) 0 := by
  simp only [Payload.pay16, hB_apply, u2_apply, up]
theorem pos3 : k0_pay20 (F := Ideal) (hB X G) (u3 W4) (ix2 r c) = max (up (row X r) (row G 0) (wu W4) ⟨3072 + c, by omega⟩) 0 := by
  simp only [Payload.pay20, hB_apply, u3_apply, up]

theorem act0 : k0_pay11 (F := Ideal) X G (u0 W4) (ix2 r c) = act (row X r) (row G 0) (wu W4) ⟨c, by omega⟩ := by
  rw [pay11, pos0, act]
theorem act1 : k0_pay14 (F := Ideal) (hB X G) (u1 W4) (ix2 r c) = act (row X r) (row G 0) (wu W4) ⟨1024 + c, by omega⟩ := by
  rw [pay14, pos1, act]
theorem act2 : k0_pay18 (F := Ideal) (hB X G) (u2 W4) (ix2 r c) = act (row X r) (row G 0) (wu W4) ⟨2048 + c, by omega⟩ := by
  rw [pay18, pos2, act]
theorem act3 : k0_pay22 (F := Ideal) (hB X G) (u3 W4) (ix2 r c) = act (row X r) (row G 0) (wu W4) ⟨3072 + c, by omega⟩ := by
  rw [pay22, pos3, act]

/-- The second product at a row: its four partial sums are one sum over the 4096 hidden columns. -/
theorem sB_apply : sB X G W4 W5 (ix2 r d) = down (row X r) (row G 0) (wu W4) (wd W5) d := by
  rw [sB, pay23, pay15, pay19, pay8, zero_add, down, ← sum_four]
  simp only [act0, act1, act2, act3, d0_apply, d1_apply, d2_apply, d3_apply]

theorem sB_row : row (sB X G W4 W5) r = down (row X r) (row G 0) (wu W4) (wd W5) := by
  funext d; exact sB_apply X G W4 W5 r d

/-- The reciprocal root mean square of the second product's rows. -/
def rB : FVec Ideal S256x1 .f32 :=
  k0_pay24 (hB X G) (k0_pay15 (hB X G) k0_pay8 (k0_pay11 X G (u0 W4)) (d0 W5) (u1 W4) (d1 W5)) (k0_pay18 (hB X G) (u2 W4))
    (k0_pay19 (d2 W5)) (constant S256x1024 .f32 0x00000000#32) (u3 W4) (d3 W5)

theorem rB_apply : rB X G W4 W5 (ix2 r 0) = rms (down (row X r) (row G 0) (wu W4) (wd W5)) := by
  rw [rB, pay24, ← sB, sB_row]

/-- The second product's rows scaled by it. -/
def nB : FVec Ideal S256x1024 .f32 :=
  k0_pay25 (hB X G) (k0_pay15 (hB X G) k0_pay8 (k0_pay11 X G (u0 W4)) (d0 W5) (u1 W4) (d1 W5)) (k0_pay18 (hB X G) (u2 W4))
    (k0_pay19 (d2 W5)) (constant S256x1024 .f32 0x00000000#32) (u3 W4) (d3 W5)

theorem nB_apply : nB X G W4 W5 (ix2 r d)
    = down (row X r) (row G 0) (wu W4) (wd W5) d * rms (down (row X r) (row G 0) (wu W4) (wd W5)) := by
  rw [nB, pay25, ← sB, sB_row, sB_apply]

/-- The error against the target. -/
def eB : FVec Ideal S256x1024 .f32 :=
  k0_pay26 X (hB X G) (k0_pay15 (hB X G) k0_pay8 (k0_pay11 X G (u0 W4)) (d0 W5) (u1 W4) (d1 W5)) (k0_pay18 (hB X G) (u2 W4))
    (k0_pay19 (d2 W5)) (constant S256x1024 .f32 0x00000000#32) (u3 W4) (d3 W5) GP T

theorem eB_apply : eB X T G GP W4 W5 (ix2 r d) = err (row X r) (row T r) (row G 0) (row GP 0) (wu W4) (wd W5) d := by
  rw [eB, pay26, ← sB, sB_row, err]

/-- Its square. -/
def qB : FVec Ideal S256x1024 .f32 :=
  k0_pay28 X (hB X G) (k0_pay15 (hB X G) k0_pay8 (k0_pay11 X G (u0 W4)) (d0 W5) (u1 W4) (d1 W5)) (k0_pay18 (hB X G) (u2 W4))
    (k0_pay19 (d2 W5)) (constant S256x1024 .f32 0x00000000#32) (u3 W4) (d3 W5) GP T

theorem qB_apply : qB X T G GP W4 W5 (ix2 r d) = err (row X r) (row T r) (row G 0) (row GP 0) (wu W4) (wd W5) d
    * err (row X r) (row T r) (row G 0) (row GP 0) (wu W4) (wd W5) d := by
  rw [qB, pay28, ← eB, eB_apply]

/-! ## The backward values -/

/-- The gradient at the second product. -/
def gB : FVec Ideal S256x1024 .bf16 := k0_pay32 (rB X G W4 W5) (nB X G W4 W5) (eB X T G GP W4 W5) GP

theorem gB_apply : gB X T G GP W4 W5 (ix2 r d) = ddown (row X r) (row T r) (row G 0) (row GP 0) (wu W4) (wd W5) d := by
  rw [gB, pay32]
  simp only [rB_apply, nB_apply, eB_apply, ddown, bwd, dout]

theorem dup0 : k0_pay35 (F := Ideal) (gB X T G GP W4 W5) (k0_pay34 (d0 W5)) (k0_pay10 X G (u0 W4)) (ix2 r c)
    = dup (row X r) (row T r) (row G 0) (row GP 0) (wu W4) (wd W5) ⟨c, by omega⟩ := by
  simp only [pay35, pay34, pay10, pos0, gB_apply, d0_apply, dup]
theorem dup1 : k0_pay36 (F := Ideal) (gB X T G GP W4 W5) (d1 W5) (k0_pay13 (hB X G) (u1 W4)) (ix2 r c)
    = dup (row X r) (row T r) (row G 0) (row GP 0) (wu W4) (wd W5) ⟨1024 + c, by omega⟩ := by
  simp only [pay36, pay13, pos1, gB_apply, d1_apply, dup]
theorem dup2 : k0_pay40 (F := Ideal) (k0_pay38 (gB X T G GP W4 W5) (d2 W5)) (k0_pay39 (k0_pay17 (hB X G) (u2 W4))) (ix2 r c)
    = dup (row X r) (row T r) (row G 0) (row GP 0) (wu W4) (wd W5) ⟨2048 + c, by omega⟩ := by
  simp only [pay40, pay17, pos2, gB_apply, d2_apply, dup]
theorem dup3 : k0_pay41 (F := Ideal) (gB X T G GP W4 W5) (d3 W5) (k0_pay21 (hB X G) (u3 W4)) (ix2 r c)
    = dup (row X r) (row T r) (row G 0) (row GP 0) (wu W4) (wd W5) ⟨3072 + c, by omega⟩ := by
  simp only [pay41, pay21, pos3, gB_apply, d3_apply, dup]

/-- The first two partial sums of the gradient at the normalised rows. -/
def aB : FVec Ideal S256x1024 .f32 :=
  k0_pay37 (gB X T G GP W4 W5) k0_pay33 (k0_pay34 (d0 W5)) (k0_pay10 X G (u0 W4)) (u0 W4) (d1 W5) (k0_pay13 (hB X G) (u1 W4)) (u1 W4)

/-- The gradient at the normalised rows. -/
def bB : FVec Ideal S256x1024 .f32 :=
  k0_pay42 (gB X T G GP W4 W5) (aB X T G GP W4 W5) (k0_pay38 (gB X T G GP W4 W5) (d2 W5)) (k0_pay39 (k0_pay17 (hB X G) (u2 W4)))
    (u2 W4) (d3 W5) (k0_pay21 (hB X G) (u3 W4)) (u3 W4)

theorem bB_eq : bB X T G GP W4 W5 =
    k0_pay42 (gB X T G GP W4 W5) (aB X T G GP W4 W5) (k0_pay38 (gB X T G GP W4 W5) (d2 W5)) (k0_pay39 (k0_pay17 (hB X G) (u2 W4)))
    (u2 W4) (d3 W5) (k0_pay21 (hB X G) (u3 W4)) (u3 W4) := rfl

theorem bB_apply : bB X T G GP W4 W5 (ix2 r d) = dnorm (row X r) (row T r) (row G 0) (row GP 0) (wu W4) (wd W5) d := by
  rw [bB, pay42, aB, pay37, pay33, zero_add, dnorm, ← sum_four]
  simp only [dup0, dup1, dup2, dup3, u0_apply, u1_apply, u2_apply, u3_apply]

/-- The gradient at the rows. -/
def xB : FVec Ideal S256x1024 .f32 :=
  k0_pay1 (k0_pay5 X) (k0_pay6 X) (k0_pay30 (eB X T G GP W4 W5))
    (k0_pay44 (gB X T G GP W4 W5) (aB X T G GP W4 W5) (k0_pay38 (gB X T G GP W4 W5) (d2 W5)) (k0_pay39 (k0_pay17 (hB X G) (u2 W4)))
      (u2 W4) (d3 W5) (k0_pay21 (hB X G) (u3 W4)) (u3 W4) G)
    (k0_pay45 (k0_pay6 X) (gB X T G GP W4 W5) (aB X T G GP W4 W5) (k0_pay38 (gB X T G GP W4 W5) (d2 W5)) (k0_pay39 (k0_pay17 (hB X G) (u2 W4)))
      (u2 W4) (d3 W5) (k0_pay21 (hB X G) (u3 W4)) (u3 W4) G)

theorem xB_apply : xB X T G GP W4 W5 (ix2 r d) = drow (row X r) (row T r) (row G 0) (row GP 0) (wu W4) (wd W5) d := by
  rw [xB, pay1]
  simp only [pay45, pay44, ← bB_eq, pay30, pay5, pay6, eB_apply, bB_apply, drow, bwd, dout]

/-! ## The accumulators -/

/-- The first gain's gradient after a block. -/
theorem accPre (acc : Vec Ideal S1x1024 .f32) :
    k0_pay43 (k0_pay6 X) (gB X T G GP W4 W5) (aB X T G GP W4 W5) (k0_pay38 (gB X T G GP W4 W5) (d2 W5)) (k0_pay39 (k0_pay17 (hB X G) (u2 W4)))
      (u2 W4) (d3 W5) (k0_pay21 (hB X G) (u3 W4)) (u3 W4) acc (ix2 0 d)
    = acc (ix2 0 d) + ∑ r : Fin 256, dgpre (row X r) (row T r) (row G 0) (row GP 0) (wu W4) (wd W5) d := by
  rw [pay43]
  simp only [← bB_eq, bB_apply, pay6, dgpre]

/-- The second gain's gradient after a block. -/
theorem accPost (acc : Vec Ideal S1x1024 .f32) :
    k0_pay31 (nB X G W4 W5) (eB X T G GP W4 W5) acc (ix2 0 d)
    = acc (ix2 0 d) + ∑ r : Fin 256, dgpost (row X r) (row T r) (row G 0) (row GP 0) (wu W4) (wd W5) d := by
  rw [pay31]
  simp only [eB_apply, nB_apply, dgpost, dout]

/-- The loss after a block. -/
theorem accLoss (acc : Vec Ideal S1x1 .f32) :
    k0_pay29 (k0_pay27 acc) (qB X T G GP W4 W5) (ix2 0 0)
    = acc (ix2 0 0) + Ideal.ofBits .f32 0x3F000000#32
      * ∑ r : Fin 256, mse (row X r) (row T r) (row G 0) (row GP 0) (wu W4) (wd W5) := by
  rw [pay29, pay27]
  simp only [qB_apply, mse]

end Cert.MlpIdeal.Blocks

end
-- ==== Proof.MlpOuts.lean ====
/-
  What each output block of the kernel holds after a grid point, read at a row and a column: the row functions of the
  blocks of that point. The accumulated outputs grow by the sums over the block's rows.
-/
module

public import proofs.«01_k».proof.Proof.MlpBlocks
public import proofs.«01_k».proof.Proof.Gen.MlpIdeal.Value
public import Idealize.ShloMosaic.Lib.Pipeline.ValueKit
public import Idealize.ShloMosaic.Lib.Pipeline.ReadBack

@[expose] public section

set_option maxRecDepth 16384

noncomputable section

namespace Cert.MlpIdeal.Outs

open Idealize.ShloMosaic Idealize.ShloMosaic.TcCoe Idealize.SL.Sem
open Cert.MlpIdeal Cert.MlpIdeal.Gen Cert.RowMath Cert.MlpRow Cert.MlpIdeal.Payload Cert.MlpIdeal.Blocks

variable (m : (ℓ : Loc nD τ sig) → Buf (Elt Ideal) ℓ) (c : Dev nD) (t : Fin cfg0.N) (r : Fin 256) (d : Fin 1024) (l : Fin 4096)

/-- The point's block of the input. -/
abbrev bx : Vec Ideal S256x1024 .f32 := iblk m c 0 t
/-- The point's block of the target. -/
abbrev bt : Vec Ideal S256x1024 .f32 := iblk m c 1 t
/-- The first gain. -/
abbrev bg : Vec Ideal S1x1024 .f32 := iblk m c 2 t
/-- The second gain. -/
abbrev bp : Vec Ideal S1x1024 .f32 := iblk m c 3 t
/-- The stacked first weights. -/
abbrev bu : Vec Ideal S4x1024x1024 .bf16 := iblk m c 4 t
/-- The second weights. -/
abbrev bd : Vec Ideal S4096x1024 .bf16 := iblk m c 5 t

theorem out6_eq : (outsAt0 m c t.val t.isLt).1 = hB (bx m c t) (bg m c t) := by
  by_cases h0 : t.val % 16 = 0
  · rw [outsAt0_A m c t h0]; frame_out; rfl
  · rw [outsAt0_B m c t h0]; frame_out; rfl

theorem out9_eq : (outsAt0 m c t.val t.isLt).2.2.2.1
    = gB (bx m c t) (bt m c t) (bg m c t) (bp m c t) (bu m c t) (bd m c t) := by
  by_cases h0 : t.val % 16 = 0
  · rw [outsAt0_A m c t h0]
    frame_open
    simp (disch := decide) only [↓ View.readCov_skip, ↓ View.readCov_cons_toLoadRect, ↓ View.readCov_fill]
    frame_out; rfl
  · rw [outsAt0_B m c t h0]
    frame_open
    simp (disch := decide) only [↓ View.readCov_skip, ↓ View.readCov_cons_toLoadRect, ↓ View.readCov_fill]
    frame_out; rfl

theorem out10_eq : (outsAt0 m c t.val t.isLt).2.2.2.2.1
    = xB (bx m c t) (bt m c t) (bg m c t) (bp m c t) (bu m c t) (bd m c t) := by
  by_cases h0 : t.val % 16 = 0
  · rw [outsAt0_A m c t h0]
    frame_open
    simp (disch := decide) only [↓ View.readCov_skip, ↓ View.readCov_cons_toLoadRect, ↓ View.readCov_fill]
    frame_out; rfl
  · rw [outsAt0_B m c t h0]
    frame_open
    simp (disch := decide) only [↓ View.readCov_skip, ↓ View.readCov_cons_toLoadRect, ↓ View.readCov_fill]
    frame_out; rfl

/-- The normalised rows. -/
theorem out6 : (outsAt0 m c t.val t.isLt).1 (ix2 r d) = nrm (row (bx m c t) r) (row (bg m c t) 0) d := by
  rw [out6_eq]; exact hB_apply _ _ r d

/-- The gradient at the second product. -/
theorem out9 : (outsAt0 m c t.val t.isLt).2.2.2.1 (ix2 r d)
    = ddown (row (bx m c t) r) (row (bt m c t) r) (row (bg m c t) 0) (row (bp m c t) 0) (wu (bu m c t)) (wd (bd m c t)) d := by
  rw [out9_eq]; exact gB_apply _ _ _ _ _ _ r d

/-- The gradient at the rows. -/
theorem out10 : (outsAt0 m c t.val t.isLt).2.2.2.2.1 (ix2 r d)
    = drow (row (bx m c t) r) (row (bt m c t) r) (row (bg m c t) 0) (row (bp m c t) 0) (wu (bu m c t)) (wd (bd m c t)) d := by
  rw [out10_eq]; exact xB_apply _ _ _ _ _ _ r d

/-- Four stretches of 1024 columns stored one after another hold, at a column, what their stretch holds there. -/
theorem tiles (P0 P1 P2 P3 : Vec Ideal S256x1024 .bf16) (f : Fin 4096 → EReal)
    (hP0 : ∀ k : Fin 1024, P0 (ix2 r k) = f ⟨k, by omega⟩) (hP1 : ∀ k : Fin 1024, P1 (ix2 r k) = f ⟨1024 + k, by omega⟩)
    (h2 : ∀ k : Fin 1024, P2 (ix2 r k) = f ⟨2048 + k, by omega⟩) (h3 : ∀ k : Fin 1024, P3 (ix2 r k) = f ⟨3072 + k, by omega⟩) :
    View.canon [⟨Rect.unit ![0, 3072] ![256, 1024] inb_S256x4096_S256x1024_0_3072, P3⟩,
      ⟨Rect.unit ![0, 2048] ![256, 1024] inb_S256x4096_S256x1024_0_2048, P2⟩,
      ⟨Rect.unit ![0, 1024] ![256, 1024] inb_S256x4096_S256x1024_0_1024, P1⟩,
      ⟨Rect.unit ![0, 0] ![256, 1024] inb_S256x4096_S256x1024_0_0, P0⟩] (ix2 r l : Shape.Idx S256x4096) = f l := by
  have piece (P : Vec Ideal S256x1024 .bf16) (o : ℕ) (ho : ∀ k : Fin 1024, o + k.val < 4096)
      (hP : ∀ k : Fin 1024, P (ix2 r k) = f ⟨o + k, ho k⟩) (x : S256x1024.Idx) (hr : r.val = (x 0).val)
      (hl : l.val = o + (x 1).val) : P x = f l := by
    have hx : x = ix2 r (x 1) := by
      funext a
      fin_cases a
      · exact Fin.ext hr.symm
      · rfl
    exact (congrArg P hx).trans ((hP (x 1)).trans (congrArg f (Fin.ext hl.symm)))
  canon_tiles x h
  case piece0 => exact piece P3 3072 (fun k => by omega) h3 x h0 h1
  case piece1 => exact piece P2 2048 (fun k => by omega) h2 x h0 h1
  case piece2 => exact piece P1 1024 (fun k => by omega) hP1 x h0 h1
  case piece3 => exact piece P0 0 (fun k => by omega) (fun k => (hP0 k).trans (by simp)) x h0 (h1.trans (Nat.zero_add _).symm)

theorem out7 : (outsAt0 m c t.val t.isLt).2.1 (ix2 r l)
    = act (row (bx m c t) r) (row (bg m c t) 0) (wu (bu m c t)) l := by
  by_cases h0 : t.val % 16 = 0
  · rw [outsAt0_A m c t h0]; frame_out
    exact tiles r l _ _ _ _ _ (act0 _ _ _ r) (act1 _ _ _ r) (act2 _ _ _ r) (act3 _ _ _ r)
  · rw [outsAt0_B m c t h0]; frame_out
    exact tiles r l _ _ _ _ _ (act0 _ _ _ r) (act1 _ _ _ r) (act2 _ _ _ r) (act3 _ _ _ r)

theorem out8 : (outsAt0 m c t.val t.isLt).2.2.1 (ix2 r l)
    = dup (row (bx m c t) r) (row (bt m c t) r) (row (bg m c t) 0) (row (bp m c t) 0) (wu (bu m c t)) (wd (bd m c t)) l := by
  by_cases h0 : t.val % 16 = 0
  · rw [outsAt0_A m c t h0]
    frame_open
    simp (disch := decide) only [↓ View.readCov_skip, ↓ View.readCov_cons_toLoadRect, ↓ View.readCov_fill]
    frame_out
    exact tiles r l _ _ _ _ _ (dup0 _ _ _ _ _ _ r) (dup1 _ _ _ _ _ _ r) (dup2 _ _ _ _ _ _ r) (dup3 _ _ _ _ _ _ r)
  · rw [outsAt0_B m c t h0]
    frame_open
    simp (disch := decide) only [↓ View.readCov_skip, ↓ View.readCov_cons_toLoadRect, ↓ View.readCov_fill]
    frame_out
    exact tiles r l _ _ _ _ _ (dup0 _ _ _ _ _ _ r) (dup1 _ _ _ _ _ _ r) (dup2 _ _ _ _ _ _ r) (dup3 _ _ _ _ _ _ r)

/-! ## The accumulated outputs -/

/-- What a point adds to the first gain's gradient. -/
def addPre : EReal := ∑ r : Fin 256,
  dgpre (row (bx m c t) r) (row (bt m c t) r) (row (bg m c t) 0) (row (bp m c t) 0) (wu (bu m c t)) (wd (bd m c t)) d
/-- What a point adds to the second gain's gradient. -/
def addPost : EReal := ∑ r : Fin 256,
  dgpost (row (bx m c t) r) (row (bt m c t) r) (row (bg m c t) 0) (row (bp m c t) 0) (wu (bu m c t)) (wd (bd m c t)) d
/-- What a point adds to the loss. -/
def addLoss : EReal := Ideal.ofBits .f32 0x3F000000#32 * ∑ r : Fin 256,
  mse (row (bx m c t) r) (row (bt m c t) r) (row (bg m c t) 0) (row (bp m c t) 0) (wu (bu m c t)) (wd (bd m c t))

theorem pre_A (h0 : t.val % 16 = 0) : (outsAt0 m c t.val t.isLt).2.2.2.2.2.1 (ix2 0 d) = 0 + addPre m c t d := by
  rw [outsAt0_A m c t h0]
  frame_open
  simp (disch := decide) only [↓ View.readCov_skip, ↓ View.readCov_cons_toLoadRect, ↓ View.readCov_fill]
  frame_out
  rw [← pay2 d]; exact accPre _ _ _ _ _ _ d _

theorem pre_B (h0 : ¬t.val % 16 = 0) : (outsAt0 m c t.val t.isLt).2.2.2.2.2.1 (ix2 0 d)
    = (outsAt0 m c (t.val - 1) (Nat.lt_of_le_of_lt (Nat.sub_le _ _) t.isLt)).2.2.2.2.2.1 (ix2 0 d) + addPre m c t d := by
  rw [outsAt0_B m c t h0]
  frame_open
  simp (disch := decide) only [↓ View.readCov_skip, ↓ View.readCov_cons_toLoadRect, ↓ View.readCov_fill]
  frame_out
  exact accPre _ _ _ _ _ _ d _

theorem post_A (h0 : t.val % 16 = 0) : (outsAt0 m c t.val t.isLt).2.2.2.2.2.2.1 (ix2 0 d) = 0 + addPost m c t d := by
  rw [outsAt0_A m c t h0]
  frame_open
  simp (disch := decide) only [↓ View.readCov_skip, ↓ View.readCov_cons_toLoadRect, ↓ View.readCov_fill]
  frame_out
  rw [← pay3 d]; exact accPost _ _ _ _ _ _ d _

theorem post_B (h0 : ¬t.val % 16 = 0) : (outsAt0 m c t.val t.isLt).2.2.2.2.2.2.1 (ix2 0 d)
    = (outsAt0 m c (t.val - 1) (Nat.lt_of_le_of_lt (Nat.sub_le _ _) t.isLt)).2.2.2.2.2.2.1 (ix2 0 d) + addPost m c t d := by
  rw [outsAt0_B m c t h0]
  frame_open
  simp (disch := decide) only [↓ View.readCov_skip, ↓ View.readCov_cons_toLoadRect, ↓ View.readCov_fill]
  frame_out
  exact accPost _ _ _ _ _ _ d _

theorem loss_A (h0 : t.val % 16 = 0) : (outsAt0 m c t.val t.isLt).2.2.2.2.2.2.2 (ix2 0 0) = 0 + addLoss m c t := by
  rw [outsAt0_A m c t h0]
  frame_open
  simp (disch := decide) only [↓ View.readCov_skip, ↓ View.readCov_cons_toLoadRect, ↓ View.readCov_fill]
  frame_out
  rw [← pay4]; exact accLoss _ _ _ _ _ _ _

theorem loss_B (h0 : ¬t.val % 16 = 0) : (outsAt0 m c t.val t.isLt).2.2.2.2.2.2.2 (ix2 0 0)
    = (outsAt0 m c (t.val - 1) (Nat.lt_of_le_of_lt (Nat.sub_le _ _) t.isLt)).2.2.2.2.2.2.2 (ix2 0 0) + addLoss m c t := by
  rw [outsAt0_B m c t h0]
  frame_open
  simp (disch := decide) only [↓ View.readCov_skip, ↓ View.readCov_cons_toLoadRect, ↓ View.readCov_fill]
  frame_out
  exact accLoss _ _ _ _ _ _ _

end Cert.MlpIdeal.Outs

end
-- ==== Proof.MlpArrays.lean ====
/-
  The kernel's result arrays after the run, as row functions of its argument arrays.
-/
module

public import proofs.«01_k».proof.Proof.MlpOuts
public import Idealize.ShloMosaic.Lib.StableHlo.ReadAt

@[expose] public section

set_option maxRecDepth 16384

noncomputable section

namespace Cert.MlpIdeal.Arrays

open Idealize.ShloMosaic Idealize.ShloMosaic.TcCoe Idealize.SL.Sem
open Cert.MlpIdeal Cert.MlpIdeal.Gen Cert.RowMath Cert.MlpRow Cert.MlpIdeal.Payload Cert.MlpIdeal.Blocks Cert.MlpIdeal.Outs

variable (m : (ℓ : Loc nD τ sig) → Buf (Elt Ideal) ℓ) (c : Dev nD) (t : Fin cfg0.N)

/-- A row of the input. -/
def xr (i : Fin 4096) (k : Fin 1024) : EReal := (m ((c : Thread nD τ).loc main_arg0) : Vec Ideal S4096x1024 .f32) (ix2 i k)
/-- A row of the target. -/
def tr (i : Fin 4096) (k : Fin 1024) : EReal := (m ((c : Thread nD τ).loc main_arg1) : Vec Ideal S4096x1024 .f32) (ix2 i k)
/-- The first gain. -/
def gr (k : Fin 1024) : EReal := (m ((c : Thread nD τ).loc main_arg2) : Vec Ideal S1x1024 .f32) (ix2 0 k)
/-- The second gain. -/
def pr (k : Fin 1024) : EReal := (m ((c : Thread nD τ).loc main_arg3) : Vec Ideal S1x1024 .f32) (ix2 0 k)
/-- The first weights. -/
def ur (k : Fin 1024) (l : Fin 4096) : EReal := (m ((c : Thread nD τ).loc main_arg4) : Vec Ideal S1024x4096 .f32) (ix2 k l)
/-- The second weights. -/
def dr (l : Fin 4096) (d : Fin 1024) : EReal := (m ((c : Thread nD τ).loc main_arg5) : Vec Ideal S4096x1024 .f32) (ix2 l d)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

theorem lt (r : Fin 256) : 256 * t.val + r.val < 4096 := by
  have h : cfg0.N = 16 := N_0
  have := t.isLt
  omega

/-! ## The blocks, of the arguments -/

theorem bx_row (r : Fin 256) : row (bx m c t) r = xr m c ⟨256 * t.val + r, lt t r⟩ := by
  funext k
  simp only [row, xr]
  blk_point [bx, iblk, V, idx0 t]
theorem bt_row (r : Fin 256) : row (bt m c t) r = tr m c ⟨256 * t.val + r, lt t r⟩ := by
  funext k
  simp only [row, tr]
  blk_point [iblk, V, idx1 t]
theorem bg_row : row (bg m c t) 0 = gr m c := by
  funext k
  simp only [row, gr]
  blk_point [iblk, V, idx2 t]
theorem bp_row : row (bp m c t) 0 = pr m c := by
  funext k
  simp only [row, pr]
  blk_point [iblk, V, idx3 t]
theorem bd_eq : wd (bd m c t) = dr m c := by
  funext k d
  simp only [wd, dr]
  blk_point [iblk, V, idx5 t]
/-- The stack of the first weights' column stretches, as the host lays it out. -/
theorem stack_apply (a : Fin 4) (k b : Fin 1024) :
    (V m c main_v9 : Vec Ideal S4x1024x1024 .bf16) (ix3 a k b) = ur m c k ⟨1024 * a.val + b.val, by omega⟩ := by
  simp only [ur]
  unfold V hostOps0
  after_reads_at
  fin_vals a with ha
  all_goals simp only [ha, Nat.reduceSub, Nat.reduceLT, ↓reduceDIte]
  all_goals after_reads_at

theorem bu_at (a : Fin 4) (k b : Fin 1024) :
    bu m c t (ix3 a k b) = (V m c main_v9 : Vec Ideal S4x1024x1024 .bf16) (ix3 a k b) := by
  simp only [bu]
  blk_simp [iblk, idx4 t]
  congr 1
  funext x
  fin_cases x <;> apply Fin.ext <;> blk_simp [idx4 t] <;> simp [ix3]

theorem bu_eq : wu (bu m c t) = ur m c := by
  funext k l
  rw [wu, bu_at, stack_apply]
  congr 1
  exact Fin.ext (Nat.div_add_mod _ _)

/-- The normalised input. -/
theorem final6 : (dats m 0 c).arrAt 6 cfg0.N
    = (fun j => nrm (xr m c (j 0)) (gr m c) (j 1) : Shape.Idx S4096x1024 → EReal) := by
  refine (dats m 0 c).arrAt_eq_of_covers 6 _ (by decide +kernel) fun t hf y => ?_
  blk_simp
  rw [after0_6]
  obtain ⟨r, d, rfl⟩ : ∃ (r : Fin 256) (d : Fin 1024), y = (ix2 r d : Shape.Idx ⟨2, ![256, 1024]⟩) := ⟨y 0, y 1, eq_ix2 y⟩
  refine (out6 m c t r d).trans ?_
  rw [bx_row, bg_row]
  congr 2
  all_goals (apply Fin.ext; blk_simp [idx6 t])
  all_goals exact congrArg (· + r.val) (Nat.mul_comm 256 t.val)

/-- The squared positive part of the first product. -/
theorem final7 : (dats m 0 c).arrAt 7 cfg0.N
    = (fun j => act (xr m c (j 0)) (gr m c) (ur m c) (j 1) : Shape.Idx S4096x4096 → EReal) := by
  refine (dats m 0 c).arrAt_eq_of_covers 7 _ (by decide +kernel) fun t hf y => ?_
  blk_simp
  rw [after0_7]
  obtain ⟨r, d, rfl⟩ : ∃ (r : Fin 256) (d : Fin 4096), y = (ix2 r d : Shape.Idx ⟨2, ![256, 4096]⟩) := ⟨y 0, y 1, eq_ix2 y⟩
  refine (out7 m c t r d).trans ?_
  rw [bx_row, bg_row, bu_eq]
  congr 2
  all_goals (apply Fin.ext; blk_simp [idx7 t])
  all_goals exact congrArg (· + r.val) (Nat.mul_comm 256 t.val)

/-- The gradient at the first product. -/
theorem final8 : (dats m 0 c).arrAt 8 cfg0.N
    = (fun j => dup (xr m c (j 0)) (tr m c (j 0)) (gr m c) (pr m c) (ur m c) (dr m c) (j 1) : Shape.Idx S4096x4096 → EReal) := by
  refine (dats m 0 c).arrAt_eq_of_covers 8 _ (by decide +kernel) fun t hf y => ?_
  blk_simp
  rw [after0_8]
  obtain ⟨r, d, rfl⟩ : ∃ (r : Fin 256) (d : Fin 4096), y = (ix2 r d : Shape.Idx ⟨2, ![256, 4096]⟩) := ⟨y 0, y 1, eq_ix2 y⟩
  refine (out8 m c t r d).trans ?_
  rw [bx_row, bt_row, bg_row, bp_row, bu_eq, bd_eq]
  congr 2
  all_goals (apply Fin.ext; blk_simp [idx8 t])
  all_goals exact congrArg (· + r.val) (Nat.mul_comm 256 t.val)

/-- The gradient at the second product. -/
theorem final9 : (dats m 0 c).arrAt 9 cfg0.N
    = (fun j => ddown (xr m c (j 0)) (tr m c (j 0)) (gr m c) (pr m c) (ur m c) (dr m c) (j 1) : Shape.Idx S4096x1024 → EReal) := by
  refine (dats m 0 c).arrAt_eq_of_covers 9 _ (by decide +kernel) fun t hf y => ?_
  blk_simp
  rw [after0_9]
  obtain ⟨r, d, rfl⟩ : ∃ (r : Fin 256) (d : Fin 1024), y = (ix2 r d : Shape.Idx ⟨2, ![256, 1024]⟩) := ⟨y 0, y 1, eq_ix2 y⟩
  refine (out9 m c t r d).trans ?_
  rw [bx_row, bt_row, bg_row, bp_row, bu_eq, bd_eq]
  congr 2
  all_goals (apply Fin.ext; blk_simp [idx9 t])
  all_goals exact congrArg (· + r.val) (Nat.mul_comm 256 t.val)

/-- The gradient at the input. -/
theorem final10 : (dats m 0 c).arrAt 10 cfg0.N
    = (fun j => drow (xr m c (j 0)) (tr m c (j 0)) (gr m c) (pr m c) (ur m c) (dr m c) (j 1) : Shape.Idx S4096x1024 → EReal) := by
  refine (dats m 0 c).arrAt_eq_of_covers 10 _ (by decide +kernel) fun t hf y => ?_
  blk_simp
  rw [after0_10]
  obtain ⟨r, d, rfl⟩ : ∃ (r : Fin 256) (d : Fin 1024), y = (ix2 r d : Shape.Idx ⟨2, ![256, 1024]⟩) := ⟨y 0, y 1, eq_ix2 y⟩
  refine (out10 m c t r d).trans ?_
  rw [bx_row, bt_row, bg_row, bp_row, bu_eq, bd_eq]
  congr 2
  all_goals (apply Fin.ext; blk_simp [idx10 t])
  all_goals exact congrArg (· + r.val) (Nat.mul_comm 256 t.val)

/-- The accumulated sums over the 16 blocks of 256 rows are the sums over the 4096 rows. -/
theorem sum_rows (f : Fin 4096 → EReal) :
    ∑ t : Fin cfg0.N, ∑ r : Fin 256, f ⟨256 * t.val + r, lt t r⟩ = ∑ i, f i := by
  have e : ∀ (t : Fin cfg0.N) (r : Fin 256), f ⟨256 * t.val + r, lt t r⟩
      = f ⟨t.val * 256 + r.val, by have := lt t r; omega⟩ := fun t r => congrArg f (Fin.ext (by simp [Nat.mul_comm]))
  simp only [e]
  exact Fin.sum_mul_add_fin cfg0.N 256 f (by rw [show cfg0.N = 16 from N_0])

/-- The first gain's gradient. -/
theorem final11 : (dats m 0 c).arrAt 11 cfg0.N
    = (fun j => ∑ i, dgpre (xr m c i) (tr m c i) (gr m c) (pr m c) (ur m c) (dr m c) (j 1) : Shape.Idx S1x1024 → EReal) := by
  refine (dats m 0 c).arrAt_eq_of_after_last 11 t0_15 (by decide +kernel) _ fun j => ?_
  blk_simp
  rw [after0_11]
  obtain ⟨z, d, rfl⟩ : ∃ (z : Fin 1) (d : Fin 1024), j = (ix2 z d : Shape.Idx ⟨2, ![1, 1024]⟩) := ⟨j 0, j 1, eq_ix2 j⟩
  obtain rfl : z = 0 := Subsingleton.elim _ _
  refine (Pipeline.eq_sum_fin_of_reset_step_apply_last (fun n h (_ : Unit) => (outsAt0 m c n h).2.2.2.2.2.1 (ix2 0 d)) 16 (fun _ => 0)
    (fun t _ => addPre m c t d) (fun t h _ => pre_A m c t d h) (fun t h _ => pre_B m c t d h) (le_of_eq N_0) t0_15 rfl ()).trans ?_
  rw [zero_add, ← sum_rows]
  simp only [addPre, bx_row, bt_row, bg_row, bp_row, bu_eq, bd_eq]
  rfl

/-- The second gain's gradient. -/
theorem final12 : (dats m 0 c).arrAt 12 cfg0.N
    = (fun j => ∑ i, dgpost (xr m c i) (tr m c i) (gr m c) (pr m c) (ur m c) (dr m c) (j 1) : Shape.Idx S1x1024 → EReal) := by
  refine (dats m 0 c).arrAt_eq_of_after_last 12 t0_15 (by decide +kernel) _ fun j => ?_
  blk_simp
  rw [after0_12]
  obtain ⟨z, d, rfl⟩ : ∃ (z : Fin 1) (d : Fin 1024), j = (ix2 z d : Shape.Idx ⟨2, ![1, 1024]⟩) := ⟨j 0, j 1, eq_ix2 j⟩
  obtain rfl : z = 0 := Subsingleton.elim _ _
  refine (Pipeline.eq_sum_fin_of_reset_step_apply_last (fun n h (_ : Unit) => (outsAt0 m c n h).2.2.2.2.2.2.1 (ix2 0 d)) 16 (fun _ => 0)
    (fun t _ => addPost m c t d) (fun t h _ => post_A m c t d h) (fun t h _ => post_B m c t d h) (le_of_eq N_0) t0_15 rfl ()).trans ?_
  rw [zero_add, ← sum_rows]
  simp only [addPost, bx_row, bt_row, bg_row, bp_row, bu_eq, bd_eq]
  rfl

/-- The loss: half the sum over all rows of their mean squared errors. -/
theorem final13 : (dats m 0 c).arrAt 13 cfg0.N
    = (fun _ => Ideal.ofBits .f32 0x3F000000#32 * ∑ i, mse (xr m c i) (tr m c i) (gr m c) (pr m c) (ur m c) (dr m c) : Shape.Idx S1x1 → EReal) := by
  refine (dats m 0 c).arrAt_eq_of_after_last 13 t0_15 (by decide +kernel) _ fun j => ?_
  blk_simp
  rw [after0_13]
  obtain ⟨z, y, rfl⟩ : ∃ (z y : Fin 1), j = (ix2 z y : Shape.Idx ⟨2, ![1, 1]⟩) := ⟨j 0, j 1, eq_ix2 j⟩
  obtain rfl : z = 0 := Subsingleton.elim _ _
  obtain rfl : y = 0 := Subsingleton.elim _ _
  refine (Pipeline.eq_sum_fin_of_reset_step_apply_last (fun n h (_ : Unit) => (outsAt0 m c n h).2.2.2.2.2.2.2 (ix2 0 0)) 16 (fun _ => 0)
    (fun t _ => addLoss m c t) (fun t h _ => loss_A m c t h) (fun t h _ => loss_B m c t h) (le_of_eq N_0) t0_15 rfl ()).trans ?_
  rw [zero_add, ← sum_rows]
  simp only [addLoss, bx_row, bt_row, bg_row, bp_row, bu_eq, bd_eq]
  rw [ofBits_half]
  exact (mul_sum _ _ (by norm_num) _).symm

end Cert.MlpIdeal.Arrays

end
-- ==== Proof.MlpRefValue.lean ====
/-
  The reference's named values and results, read at a row and a column as the row functions of `MlpRow`. The transposed
  norms agree with the kernel's form of the norm's gradient for every row.
-/
module

public import proofs.«01_k».proof.Proof.MlpRow
public import proofs.«01_k».proof.Proof.Gen.MlpRefIdeal.Run
public import Idealize.ShloMosaic.Lib.Pointwise
public import Idealize.ShloMosaic.Lib.Tactic.CleanTypes

@[expose] public section

set_option maxRecDepth 16384

noncomputable section

namespace Cert.MlpRefIdeal.Rows

open Idealize.ShloMosaic Idealize.ShloMosaic.TcCoe Idealize.SL.Sem Idealize.ShloMosaic.StableHlo
open Cert.MlpRefIdeal Cert.MlpRefIdeal.Gen Cert.MlpRefIdeal.Value Cert.RowMath Cert.MlpRow

variable (V : Valuation τ sig (Elt Ideal)) (i : Fin 4096) (k d : Fin 1024) (l : Fin 4096)

/-- A row of the input. -/
def xr (i : Fin 4096) (k : Fin 1024) : EReal := (V (Proc.devRef .tc main_arg0) : Vec Ideal S4096x1024 .f32) (ix2 i k)
/-- A row of the target. -/
def tr (i : Fin 4096) (k : Fin 1024) : EReal := (V (Proc.devRef .tc main_arg1) : Vec Ideal S4096x1024 .f32) (ix2 i k)
/-- The first gain. -/
def gr (k : Fin 1024) : EReal := (V (Proc.devRef .tc main_arg2) : Vec Ideal S1x1024 .f32) (ix2 0 k)
/-- The second gain. -/
def pr (k : Fin 1024) : EReal := (V (Proc.devRef .tc main_arg3) : Vec Ideal S1x1024 .f32) (ix2 0 k)
/-- The first weights. -/
def ur (k : Fin 1024) (l : Fin 4096) : EReal := (V (Proc.devRef .tc main_arg4) : Vec Ideal S1024x4096 .f32) (ix2 k l)
/-- The second weights. -/
def dr (l : Fin 4096) (d : Fin 1024) : EReal := (V (Proc.devRef .tc main_arg5) : Vec Ideal S4096x1024 .f32) (ix2 l d)

theorem v6 : (res_main_v6 V : Vec Ideal S4096x1 .f32) (ix2 i 0) = msq (xr V i) := by
  unfold res_main_v6; clean_types; pointwise [msq, xr]

theorem v7 : (res_main_v7 V : Vec Ideal S4096x1 .f32) (ix2 i 0) = rms (xr V i) := by
  unfold res_main_v7; clean_types; pointwise [v6, rms]

theorem v12 : (res_main_v12 V : Vec Ideal S4096x1024 .f32) (ix2 i k) = xr V i k * rms (xr V i) := by
  unfold res_main_v12; clean_types; pointwise [v7, xr]

/-- The normalised input. -/
theorem v14 : (res_main_v14 V : Vec Ideal S4096x1024 .f32) (ix2 i k) = nrm (xr V i) (gr V) k := by
  unfold res_main_v14; clean_types; pointwise [v12, nrm, gr]

/-- The first product. -/
theorem v15 : (res_main_v15 V : Vec Ideal S4096x4096 .f32) (ix2 i l) = up (xr V i) (gr V) (ur V) l := by
  unfold res_main_v15; clean_types; pointwise [v14, up, ur]

theorem v16 : (res_main_v16 V : Vec Ideal S4096x4096 .f32) (ix2 i l) = max (up (xr V i) (gr V) (ur V) l) 0 := by
  unfold res_main_v16; clean_types; pointwise [v15]

theorem v20 : (res_main_v20 V : Vec Ideal S4096x4096 .f32) (ix2 i l) = act (xr V i) (gr V) (ur V) l := by
  unfold res_main_v20; clean_types; pointwise [v16, act]

/-- The second product. -/
theorem v23 : (res_main_v23 V : Vec Ideal S4096x1024 .f32) (ix2 i d) = down (xr V i) (gr V) (ur V) (dr V) d := by
  unfold res_main_v23; clean_types; pointwise [v20, down, dr]

theorem v30 : (res_main_v30 V : Vec Ideal S4096x1 .f32) (ix2 i 0) = msq (down (xr V i) (gr V) (ur V) (dr V)) := by
  unfold res_main_v30; clean_types; pointwise [msq, v23]

theorem v31 : (res_main_v31 V : Vec Ideal S4096x1 .f32) (ix2 i 0) = rms (down (xr V i) (gr V) (ur V) (dr V)) := by
  unfold res_main_v31; clean_types; pointwise [v30, rms]

theorem v36 : (res_main_v36 V : Vec Ideal S4096x1024 .f32) (ix2 i d)
    = down (xr V i) (gr V) (ur V) (dr V) d * rms (down (xr V i) (gr V) (ur V) (dr V)) := by
  unfold res_main_v36; clean_types; pointwise [v23, v31]

/-- The error against the target. -/
theorem v40 : (res_main_v40 V : Vec Ideal S4096x1024 .f32) (ix2 i d) = err (xr V i) (tr V i) (gr V) (pr V) (ur V) (dr V) d := by
  unfold res_main_v40; clean_types; pointwise [v36, err, nrm, pr, tr, xr]

/-- Half of one over the row length times twice the error is the error over the row length. -/
theorem scale (e : EReal) :
    Ideal.div (Ideal.ofBits .f32 0x3F000000#32) (Ideal.ofBits .f32 0x44800000#32) * (Ideal.ofBits .f32 0x40000000#32 * e)
      = e * Ideal.ofBits .f32 0x3A800000#32 := by
  rw [div_1024, ofBits_half, ofBits_two, ofBits_inv1024, ← mul_assoc, ← EReal.coe_mul, ← EReal.coe_mul, mul_comm]
  norm_num

/-- The gradient of the loss at the block's output. -/
theorem v54 : (res_main_v54 V : Vec Ideal S4096x1024 .f32) (ix2 i d) = dout (xr V i) (tr V i) (gr V) (pr V) (ur V) (dr V) d := by
  rw [dout, ← scale]
  unfold res_main_v54; clean_types; pointwise [v40]

theorem v59 : (res_main_v59 V : Vec Ideal S4096x1024 .f32) (ix2 i d)
    = dout (xr V i) (tr V i) (gr V) (pr V) (ur V) (dr V) d * pr V d := by
  unfold res_main_v59; clean_types; pointwise [v54, pr]

theorem v69 : (res_main_v69 V : Vec Ideal S4096x1024 .f32) (ix2 i d)
    = pull (down (xr V i) (gr V) (ur V) (dr V)) (fun k => dout (xr V i) (tr V i) (gr V) (pr V) (ur V) (dr V) k * pr V k) := by
  unfold res_main_v69; clean_types; pointwise [v23, v59, v31, v30, pull]
  rw [Fin.sum_univ_one, v31, v30]

/-- The gradient at the second product. -/
theorem v73 : (res_main_v73 V : Vec Ideal S4096x1024 .f32) (ix2 i d) = ddown (xr V i) (tr V i) (gr V) (pr V) (ur V) (dr V) d := by
  rw [ddown, bwd_eq_vjp, vjp]
  unfold res_main_v73; clean_types; pointwise [v23, v59, v31, v69]

/-- Where the first product is not positive, the product with its positive part is zero. -/
theorem gate (u y : EReal) :
    Scalar.select (FloatOps.cmpf (F := Ideal) (φ := .f32) .ogt u 0) (y * (Ideal.ofBits .f32 0x40000000#32 * max u 0)) 0
      = Ideal.ofBits .f32 0x40000000#32 * max u 0 * y := by
  rw [Ideal.cmpf_def]
  by_cases h : 0 < u
  · simp [Ideal.cmp, Scalar.select, h, mul_comm]
  · simp [Ideal.cmp, Scalar.select, h, max_eq_right (not_lt.mp h)]

/-- The gradient at the first product. -/
theorem v77 : (res_main_v77 V : Vec Ideal S4096x4096 .f32) (ix2 i l) = dup (xr V i) (tr V i) (gr V) (pr V) (ur V) (dr V) l := by
  rw [dup, ← gate]
  unfold res_main_v77; clean_types; pointwise [v73, v15, v16, dr]

/-- The gradient at the normalised input. -/
theorem v78 : (res_main_v78 V : Vec Ideal S4096x1024 .f32) (ix2 i k) = dnorm (xr V i) (tr V i) (gr V) (pr V) (ur V) (dr V) k := by
  unfold res_main_v78; clean_types; pointwise [v77, dnorm, ur]

theorem v83 : (res_main_v83 V : Vec Ideal S4096x1024 .f32) (ix2 i k)
    = dnorm (xr V i) (tr V i) (gr V) (pr V) (ur V) (dr V) k * gr V k := by
  unfold res_main_v83; clean_types; pointwise [v78, gr]

theorem v93 : (res_main_v93 V : Vec Ideal S4096x1024 .f32) (ix2 i k)
    = pull (xr V i) (fun j => dnorm (xr V i) (tr V i) (gr V) (pr V) (ur V) (dr V) j * gr V j) := by
  unfold res_main_v93; clean_types; pointwise [v83, v7, v6, pull, xr]
  rw [Fin.sum_univ_one, v7, v6]

/-! ## The results -/

/-- The gradient at the input. -/
theorem dx : (addf (res_main_v54 V) (addf (addf (mulf (res_main_v83 V) (broadcastInDim S4096x1024 ![0, 1] bcast_S4096x1_S4096x1024_0_1 (res_main_v7 V)))
      (mulf (V (Proc.devRef .tc main_arg0)) (res_main_v93 V))) (mulf (res_main_v93 V) (V (Proc.devRef .tc main_arg0)))) : Vec Ideal S4096x1024 .f32) (ix2 i k)
    = drow (xr V i) (tr V i) (gr V) (pr V) (ur V) (dr V) k := by
  rw [drow, bwd_eq_vjp, vjp]
  clean_types; pointwise [v54, v83, v7, v93, xr]

/-- The first gain's gradient. -/
theorem dg : (shapeCast S1x1024 (Host.reduceAdd (mulf (res_main_v12 V) (res_main_v78 V)) (constant S_ .f32 0x00000000#32) reducesTo_S4096x1024_S1024_d0 h_S_)
      shapeCasts_S1024_S1x1024 : Vec Ideal S1x1024 .f32) (ix2 0 k)
    = ∑ i, dgpre (xr V i) (tr V i) (gr V) (pr V) (ur V) (dr V) k := by
  clean_types; pointwise [v12, v78, dgpre]
  exact Finset.sum_congr rfl fun i _ => mul_comm _ _

/-- The second gain's gradient. -/
theorem dp : (shapeCast S1x1024 (Host.reduceAdd (mulf (res_main_v36 V) (res_main_v54 V)) (constant S_ .f32 0x00000000#32) reducesTo_S4096x1024_S1024_d0 h_S_)
      shapeCasts_S1024_S1x1024 : Vec Ideal S1x1024 .f32) (ix2 0 k)
    = ∑ i, dgpost (xr V i) (tr V i) (gr V) (pr V) (ur V) (dr V) k := by
  clean_types; pointwise [v36, v54, dgpost]
  exact Finset.sum_congr rfl fun i _ => mul_comm _ _

/-- The loss. -/
theorem loss : (shapeCast S1x1 (mulf (constant S_ .f32 0x3F000000#32) (Host.reduceAdd (Host.divf (Host.reduceAdd (mulf (res_main_v40 V) (res_main_v40 V))
      (constant S_ .f32 0x00000000#32) reducesTo_S4096x1024_S4096_d1 h_S_) (broadcastInDim S4096 ![] bcast_S_S4096 (constant S_ .f32 0x44800000#32)))
      (constant S_ .f32 0x00000000#32) reducesTo_S4096_S_d0 h_S_)) shapeCasts_S_S1x1 : Vec Ideal S1x1 .f32) (ix2 0 0)
    = Ideal.ofBits .f32 0x3F000000#32 * ∑ i, mse (xr V i) (tr V i) (gr V) (pr V) (ur V) (dr V) := by
  clean_types; pointwise [v40, mse]

end Cert.MlpRefIdeal.Rows

end
-- ==== Proof.MlpClaim.lean ====
/-
  The claims about the gradient call of the multilayer perceptron: the reference's frame, and the two programs' equal
  results. Both programs' results are the row functions of `MlpRow` at rows of the arguments, which agree.
-/
module

public import proofs.«01_k».proof.Defs
public import proofs.«01_k».proof.Proof.MlpArrays
public import proofs.«01_k».proof.Proof.MlpRefValue
public import Idealize.ShloMosaic.Adequacy
public import Idealize.ShloMosaic.Init

@[expose] public section

set_option maxRecDepth 16384

noncomputable section

namespace Cert.MlpClaim

open Idealize.ShloMosaic Idealize.ShloMosaic.TcCoe Idealize.SL.Sem Idealize.ShloMosaic.StableHlo
open Cert.MlpRow

/-- The reference runs, keeps its arguments, and has no semaphores. -/
theorem ref_frame : Cert.quiescent_MlpRefIdeal (hMlpRefIdeal := Cert.MlpRefIdeal.Gen.facts) := fun m ρ _ =>
  (θ_run Cert.MlpRefIdeal.defs _ _).mono
    (fun r h => ⟨fun c => (h c).2.2.2.2.2.2.2.2, Idealize.ShloMosaic.sem_eq_zero_of_no_sems (by decide) r.2⟩)
    (Cert.MlpRefIdeal.Value.run (F := Ideal) m ρ)

section
variable (V : Valuation Cert.MlpRefIdeal.τ Cert.MlpRefIdeal.sig (Elt Ideal))
  (m : (ℓ : Loc Cert.MlpIdeal.nD Cert.MlpIdeal.τ Cert.MlpIdeal.sig) → Buf (Elt Ideal) ℓ) (c : Dev Cert.MlpIdeal.nD)

/-- The two programs' arguments agree. -/
def Agree : Prop :=
  V (Proc.devRef .tc Cert.MlpRefIdeal.main_arg0) = m ((c : Thread Cert.MlpIdeal.nD Cert.MlpIdeal.τ).loc Cert.MlpIdeal.main_arg0)
  ∧ V (Proc.devRef .tc Cert.MlpRefIdeal.main_arg1) = m ((c : Thread Cert.MlpIdeal.nD Cert.MlpIdeal.τ).loc Cert.MlpIdeal.main_arg1)
  ∧ V (Proc.devRef .tc Cert.MlpRefIdeal.main_arg2) = m ((c : Thread Cert.MlpIdeal.nD Cert.MlpIdeal.τ).loc Cert.MlpIdeal.main_arg2)
  ∧ V (Proc.devRef .tc Cert.MlpRefIdeal.main_arg3) = m ((c : Thread Cert.MlpIdeal.nD Cert.MlpIdeal.τ).loc Cert.MlpIdeal.main_arg3)
  ∧ V (Proc.devRef .tc Cert.MlpRefIdeal.main_arg4) = m ((c : Thread Cert.MlpIdeal.nD Cert.MlpIdeal.τ).loc Cert.MlpIdeal.main_arg4)
  ∧ V (Proc.devRef .tc Cert.MlpRefIdeal.main_arg5) = m ((c : Thread Cert.MlpIdeal.nD Cert.MlpIdeal.τ).loc Cert.MlpIdeal.main_arg5)

variable {V m c} (h : Agree V m c)
include h

theorem xr_eq : Cert.MlpRefIdeal.Rows.xr V = Cert.MlpIdeal.Arrays.xr m c :=
  funext fun i => funext fun k => congrFun h.1 (ix2 i k)
theorem tr_eq : Cert.MlpRefIdeal.Rows.tr V = Cert.MlpIdeal.Arrays.tr m c :=
  funext fun i => funext fun k => congrFun h.2.1 (ix2 i k)
theorem gr_eq : Cert.MlpRefIdeal.Rows.gr V = Cert.MlpIdeal.Arrays.gr m c :=
  funext fun k => congrFun h.2.2.1 (ix2 0 k)
theorem pr_eq : Cert.MlpRefIdeal.Rows.pr V = Cert.MlpIdeal.Arrays.pr m c :=
  funext fun k => congrFun h.2.2.2.1 (ix2 0 k)
theorem ur_eq : Cert.MlpRefIdeal.Rows.ur V = Cert.MlpIdeal.Arrays.ur m c :=
  funext fun k => funext fun l => congrFun h.2.2.2.2.1 (ix2 k l)
theorem dr_eq : Cert.MlpRefIdeal.Rows.dr V = Cert.MlpIdeal.Arrays.dr m c :=
  funext fun l => funext fun d => congrFun h.2.2.2.2.2 (ix2 l d)

end

/-- The call and the reference end with equal results. -/
theorem algebraic : Cert.algebraic_MlpIdeal_MlpRefIdeal (hMlpIdeal := Cert.MlpIdeal.Gen.facts) (hMlpRefIdeal := Cert.MlpRefIdeal.Gen.facts) := by
  intro m ρ m' ρ' _ hagree
  have hA : ∀ c : Dev Cert.MlpIdeal.nD, Agree (launchContents m' c) m c := fun c => hagree c
  refine ⟨_, _, _, _, _, _, _, _, (θ_run Cert.MlpIdeal.defs _ _).mono (fun r h c => h c) (Cert.MlpIdeal.Value.run_blocks m ρ),
    (θ_run Cert.MlpRefIdeal.defs _ _).mono (fun r h c => ?_) (Cert.MlpRefIdeal.Value.run (F := Ideal) m' ρ')⟩
  have hx := xr_eq (hA c)
  have ht := tr_eq (hA c)
  have hg := gr_eq (hA c)
  have hp := pr_eq (hA c)
  have hu := ur_eq (hA c)
  have hd := dr_eq (hA c)
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · rw [Cert.MlpIdeal.Arrays.final6]; funext j; rw [← hx, ← hg, eq_ix2 j]; exact Cert.MlpRefIdeal.Rows.v14 _ (j 0) (j 1)
  · rw [Cert.MlpIdeal.Arrays.final7]; funext j; rw [← hx, ← hg, ← hu, eq_ix2 j]; exact Cert.MlpRefIdeal.Rows.v20 _ (j 0) (j 1)
  · rw [Cert.MlpIdeal.Arrays.final8]; funext j; rw [← hx, ← ht, ← hg, ← hp, ← hu, ← hd, eq_ix2 j]; exact Cert.MlpRefIdeal.Rows.v77 _ (j 0) (j 1)
  · rw [Cert.MlpIdeal.Arrays.final9]; funext j; rw [← hx, ← ht, ← hg, ← hp, ← hu, ← hd, eq_ix2 j]; exact Cert.MlpRefIdeal.Rows.v73 _ (j 0) (j 1)
  · rw [Cert.MlpIdeal.Arrays.final10]; funext j; rw [← hx, ← ht, ← hg, ← hp, ← hu, ← hd, eq_ix2 j]; exact Cert.MlpRefIdeal.Rows.dx _ (j 0) (j 1)
  · rw [Cert.MlpIdeal.Arrays.final11]; funext j; rw [← hx, ← ht, ← hg, ← hp, ← hu, ← hd, eq_ix2 j, Subsingleton.elim (α := Fin 1) (j 0) 0]
    exact Cert.MlpRefIdeal.Rows.dg _ (j 1)
  · rw [Cert.MlpIdeal.Arrays.final12]; funext j; rw [← hx, ← ht, ← hg, ← hp, ← hu, ← hd, eq_ix2 j, Subsingleton.elim (α := Fin 1) (j 0) 0]
    exact Cert.MlpRefIdeal.Rows.dp _ (j 1)
  · rw [Cert.MlpIdeal.Arrays.final13]; funext j; rw [← hx, ← ht, ← hg, ← hp, ← hu, ← hd, eq_ix2 j, Subsingleton.elim (α := Fin 1) (j 0) 0, Subsingleton.elim (α := Fin 1) (j 1) 0]
    exact Cert.MlpRefIdeal.Rows.loss _

end Cert.MlpClaim

end
-- ==== Proof.GradUp.lean ====
/-
  The gradient of the first weights of the multilayer perceptron: the call's result holds, at a half, a chip, a row and a
  column, the sum over the tokens of the products of the two operands there, and so does the reference's.
-/
module

public import proofs.«01_k».proof.Proof.Gen.GradUpIdeal.Value
public import proofs.«01_k».proof.Proof.Gen.GradUpRefIdeal.Run
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.GradUpIdeal.Sums

open Idealize.ShloMosaic Idealize.ShloMosaic.TcCoe Idealize.SL.Sem
open Cert.GradUpIdeal Cert.GradUpIdeal.Gen

variable (A : Vec Ideal S4096x1024 .bf16) (B : Vec Ideal S4096x1024 .bf16) (r : Fin 512) (d : Fin 1024)

/-- The first stored half. -/
theorem pay2 : k0_pay2 (F := Ideal) A B (ix4 0 0 r d)
    = ∑ s, (A : S4096x1024.Idx → EReal) (ix2 s (⟨r.val, by omega⟩ : Fin 1024)) * (B : S4096x1024.Idx → EReal) (ix2 s d) := by
  pointwise [k0_pay2, k0_pay1]

/-- The second stored half. -/
theorem pay3 : k0_pay3 (F := Ideal) A B (ix4 0 0 r d)
    = ∑ s, (A : S4096x1024.Idx → EReal) (ix2 s (⟨512 + r.val, by omega⟩ : Fin 1024)) * (B : S4096x1024.Idx → EReal) (ix2 s d) := by
  pointwise [k0_pay3, k0_pay1]

variable (m : (ℓ : Loc nD τ sig) → Buf (Elt Ideal) ℓ) (c : Dev nD) (t : Fin cfg0.N)

/-- The normalised input. -/
def ar (s : Fin 4096) (k : Fin 1024) : EReal := (m ((c : Thread nD τ).loc main_arg0) : Vec Ideal S4096x1024 .bf16) (ix2 s k)
/-- The gradient at the first product. -/
def br (s : Fin 4096) (l : Fin 4096) : EReal := (m ((c : Thread nD τ).loc main_arg1) : Vec Ideal S4096x4096 .bf16) (ix2 s l)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val, 0, 0] := (by decide +kernel : ∀ t : Fin grid0.N, _)

theorem lt (d : Fin 1024) : 1024 * t.val + d.val < 4096 := by
  have h : cfg0.N = 4 := N_0
  have := t.isLt
  omega

theorem a_at (s : Fin 4096) (k : Fin 1024) : (iblk m c 0 t : Vec Ideal S4096x1024 .bf16) (ix2 s k) = ar m c s k := by
  simp only [ar]
  blk_point [iblk, V, idx0 t]
theorem b_at (s : Fin 4096) (k : Fin 1024) : (iblk m c 1 t : Vec Ideal S4096x1024 .bf16) (ix2 s k) = br m c s ⟨1024 * t.val + k, lt t k⟩ := by
  simp only [br]
  blk_point [iblk, V, idx1 t]

/-- An index of a stored half is its row and column. -/
theorem at_row (x : S1x1x512x1024.Idx) (r : Fin 512) (d : Fin 1024) (h2 : r.val = (x 2).val) (h3 : d.val = (x 3).val) :
    x = (ix4 0 0 r d : Shape.Idx ⟨4, ![1, 1, 512, 1024]⟩) := by
  rw [eq_ix4 x, Subsingleton.elim (α := Fin 1) (x 0) 0, Subsingleton.elim (α := Fin 1) (x 1) 0]
  congr 1
  · exact Fin.ext h2.symm
  · exact Fin.ext h3.symm

/-- The block a point leaves. -/
theorem out (h : Fin 2) : (outsAt0 m c t : Vec Ideal S2x1x512x1024 .f32) (ix4 h 0 r d)
    = ∑ s, ar m c s (⟨512 * h.val + r.val, by omega⟩ : Fin 1024) * br m c s ⟨1024 * t.val + d, lt t d⟩ := by
  unfold outsAt0
  frame_out
  canon_tiles x hx
  case piece0 =>
    obtain rfl : h = 1 := Fin.ext (by have e : h.val = 1 + (x 0).val := hx0; have := h.isLt; show h.val = 1; omega)
    refine (congrArg (k0_pay3 _ _) (at_row x r d hx2 hx3)).trans ((pay3 _ _ r d).trans ?_)
    simp only [a_at, b_at]
    rfl
  case piece1 =>
    obtain rfl : h = 0 := Fin.ext (by have e : h.val = (x 0).val := hx0; show h.val = 0; omega)
    refine (congrArg (k0_pay2 _ _) (at_row x r d hx2 hx3)).trans ((pay2 _ _ r d).trans ?_)
    simp only [a_at, b_at]
    exact Finset.sum_congr rfl fun s _ => congrArg (fun k => ar m c s k * _) (Fin.ext (Nat.zero_add _).symm)

/-- The result. -/
theorem final : (dats m 0 c).arrAt 2 cfg0.N
    = (fun j => ∑ s, ar m c s (⟨512 * (j 0).val + (j 2).val, by have h0 : (j 0).val < 2 := (j 0).isLt; have h2 : (j 2).val < 512 := (j 2).isLt; omega⟩ : Fin 1024)
        * br m c s (⟨1024 * (j 1).val + (j 3).val, by have h0 : (j 1).val < 4 := (j 1).isLt; have h2 : (j 3).val < 1024 := (j 3).isLt; omega⟩ : Fin 4096)
        : Shape.Idx S2x4x512x1024 → EReal) := by
  refine (dats m 0 c).arrAt_eq_of_covers 2 _ (by decide +kernel) fun t hf y => ?_
  blk_simp
  rw [after0_2]
  obtain ⟨h, u, r, d, rfl⟩ : ∃ (h : Fin 2) (u : Fin 1) (r : Fin 512) (d : Fin 1024), y = (ix4 h u r d : Shape.Idx ⟨4, ![2, 1, 512, 1024]⟩) :=
    ⟨y 0, y 1, y 2, y 3, eq_ix4 y⟩
  obtain rfl : u = 0 := Subsingleton.elim _ _
  refine (out r d m c t h).trans ?_
  refine Finset.sum_congr rfl fun s _ => congrArg₂ (fun k l => ar m c s k * br m c s l) ?_ ?_
  all_goals (apply Fin.ext; blk_simp [idx2 t])
  all_goals omega

end Cert.GradUpIdeal.Sums

namespace Cert.GradUpRefIdeal.Sums

open Idealize.ShloMosaic Idealize.ShloMosaic.TcCoe Idealize.SL.Sem
open Cert.GradUpRefIdeal Cert.GradUpRefIdeal.Gen

/-- The reference's result at an index. -/
theorem value (A : Vec Ideal S4096x1024 .bf16) (B : Vec Ideal S4096x4096 .bf16) (h : Fin 2) (q : Fin 4) (r : Fin 512) (d : Fin 1024) :
    (transpose S2x4x512x1024 [0, 2, 1, 3] (shapeCast S2x512x4x1024 (transpose S1024x4096 [1, 0] (Host.dotGeneral (F := Ideal) dot_S4096x4096_S4096x1024_S4096x1024_0_0_1_1_n_n none
      (extf .f32 B bitsLt_bf16_f32) (extf .f32 A bitsLt_bf16_f32)) transposes_S4096x1024_S1024x4096_1_0) shapeCasts_S1024x4096_S2x512x4x1024)
      transposes_S2x512x4x1024_S2x4x512x1024_0_2_1_3 : Vec Ideal S2x4x512x1024 .f32) (ix4 h q r d)
    = ∑ s, (A : S4096x1024.Idx → EReal) (ix2 s (⟨512 * h.val + r.val, by omega⟩ : Fin 1024))
        * (B : S4096x4096.Idx → EReal) (ix2 s (⟨1024 * q.val + d.val, by omega⟩ : Fin 4096)) := by
  pointwise []
  refine Finset.sum_congr rfl fun s _ => (mul_comm _ _).trans (congrArg₂ (fun k l => A (ix2 s k) * B (ix2 s l)) ?_ ?_)
  all_goals exact Fin.ext (congrArg (· + _) (Nat.mul_comm _ _))

end Cert.GradUpRefIdeal.Sums

end
-- ==== Proof.GradDown.lean ====
/-
  The gradient of the second weights of the multilayer perceptron: the call's result holds, at a half, a chip, a row and a
  column, the sum over the tokens of the products of the two operands there, and so does the reference's.
-/
module

public import proofs.«01_k».proof.Proof.Gen.GradDownIdeal.Value
public import proofs.«01_k».proof.Proof.Gen.GradDownRefIdeal.Run
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.GradDownIdeal.Sums

open Idealize.ShloMosaic Idealize.ShloMosaic.TcCoe Idealize.SL.Sem
open Cert.GradDownIdeal Cert.GradDownIdeal.Gen

variable (A : Vec Ideal S4096x1024 .bf16) (B : Vec Ideal S4096x1024 .bf16) (r : Fin 512) (d : Fin 1024)

/-- The first stored half. -/
theorem pay2 : k0_pay2 (F := Ideal) A B (ix4 0 0 r d)
    = ∑ s, (A : S4096x1024.Idx → EReal) (ix2 s (⟨r.val, by omega⟩ : Fin 1024)) * (B : S4096x1024.Idx → EReal) (ix2 s d) := by
  pointwise [k0_pay2, k0_pay1]

/-- The second stored half. -/
theorem pay3 : k0_pay3 (F := Ideal) A B (ix4 0 0 r d)
    = ∑ s, (A : S4096x1024.Idx → EReal) (ix2 s (⟨512 + r.val, by omega⟩ : Fin 1024)) * (B : S4096x1024.Idx → EReal) (ix2 s d) := by
  pointwise [k0_pay3, k0_pay1]

variable (m : (ℓ : Loc nD τ sig) → Buf (Elt Ideal) ℓ) (c : Dev nD) (t : Fin cfg0.N)

/-- The squared positive part. -/
def ar (s : Fin 4096) (k : Fin 4096) : EReal := (m ((c : Thread nD τ).loc main_arg0) : Vec Ideal S4096x4096 .bf16) (ix2 s k)
/-- The gradient at the second product. -/
def br (s : Fin 4096) (l : Fin 1024) : EReal := (m ((c : Thread nD τ).loc main_arg1) : Vec Ideal S4096x1024 .bf16) (ix2 s l)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val, 0, 0] := (by decide +kernel : ∀ t : Fin grid0.N, _)

theorem lt (d : Fin 1024) : 1024 * t.val + d.val < 4096 := by
  have h : cfg0.N = 4 := N_0
  have := t.isLt
  omega

theorem a_at (s : Fin 4096) (k : Fin 1024) : (iblk m c 0 t : Vec Ideal S4096x1024 .bf16) (ix2 s k) = ar m c s ⟨1024 * t.val + k, lt t k⟩ := by
  simp only [ar]
  blk_point [iblk, V, idx0 t]
theorem b_at (s : Fin 4096) (k : Fin 1024) : (iblk m c 1 t : Vec Ideal S4096x1024 .bf16) (ix2 s k) = br m c s k := by
  simp only [br]
  blk_point [iblk, V, idx1 t]

/-- An index of a stored half is its row and column. -/
theorem at_row (x : S1x1x512x1024.Idx) (r : Fin 512) (d : Fin 1024) (h2 : r.val = (x 2).val) (h3 : d.val = (x 3).val) :
    x = (ix4 0 0 r d : Shape.Idx ⟨4, ![1, 1, 512, 1024]⟩) := by
  rw [eq_ix4 x, Subsingleton.elim (α := Fin 1) (x 0) 0, Subsingleton.elim (α := Fin 1) (x 1) 0]
  congr 1
  · exact Fin.ext h2.symm
  · exact Fin.ext h3.symm

/-- The block a point leaves. -/
theorem out (h : Fin 2) : (outsAt0 m c t : Vec Ideal S2x1x512x1024 .f32) (ix4 h 0 r d)
    = ∑ s, ar m c s ⟨1024 * t.val + (512 * h.val + r.val), lt t ⟨512 * h.val + r.val, by omega⟩⟩ * br m c s d := by
  unfold outsAt0
  frame_out
  canon_tiles x hx
  case piece0 =>
    obtain rfl : h = 1 := Fin.ext (by have e : h.val = 1 + (x 0).val := hx0; have := h.isLt; show h.val = 1; omega)
    refine (congrArg (k0_pay3 _ _) (at_row x r d hx2 hx3)).trans ((pay3 _ _ r d).trans ?_)
    simp only [a_at, b_at]
    rfl
  case piece1 =>
    obtain rfl : h = 0 := Fin.ext (by have e : h.val = (x 0).val := hx0; show h.val = 0; omega)
    refine (congrArg (k0_pay2 _ _) (at_row x r d hx2 hx3)).trans ((pay2 _ _ r d).trans ?_)
    simp only [a_at, b_at]
    exact Finset.sum_congr rfl fun s _ => congrArg (fun k => ar m c s k * _) (Fin.ext (congrArg (1024 * t.val + ·) (Nat.zero_add _).symm))

/-- The result. -/
theorem final : (dats m 0 c).arrAt 2 cfg0.N
    = (fun j => ∑ s, ar m c s (⟨1024 * (j 1).val + (512 * (j 0).val + (j 2).val), by have h0 : (j 0).val < 2 := (j 0).isLt; have h1 : (j 1).val < 4 := (j 1).isLt; have h2 : (j 2).val < 512 := (j 2).isLt; omega⟩ : Fin 4096)
        * br m c s (j 3)
        : Shape.Idx S2x4x512x1024 → EReal) := by
  refine (dats m 0 c).arrAt_eq_of_covers 2 _ (by decide +kernel) fun t hf y => ?_
  blk_simp
  rw [after0_2]
  obtain ⟨h, u, r, d, rfl⟩ : ∃ (h : Fin 2) (u : Fin 1) (r : Fin 512) (d : Fin 1024), y = (ix4 h u r d : Shape.Idx ⟨4, ![2, 1, 512, 1024]⟩) :=
    ⟨y 0, y 1, y 2, y 3, eq_ix4 y⟩
  obtain rfl : u = 0 := Subsingleton.elim _ _
  refine (out r d m c t h).trans ?_
  refine Finset.sum_congr rfl fun s _ => congrArg₂ (fun k l => ar m c s k * br m c s l) ?_ ?_
  all_goals (apply Fin.ext; blk_simp [idx2 t])
  all_goals omega

end Cert.GradDownIdeal.Sums

namespace Cert.GradDownRefIdeal.Sums

open Idealize.ShloMosaic Idealize.ShloMosaic.TcCoe Idealize.SL.Sem
open Cert.GradDownRefIdeal Cert.GradDownRefIdeal.Gen

/-- The reference's result at an index. -/
theorem value (A : Vec Ideal S4096x4096 .bf16) (B : Vec Ideal S4096x1024 .bf16) (h : Fin 2) (q : Fin 4) (r : Fin 512) (d : Fin 1024) :
    (transpose S2x4x512x1024 [1, 0, 2, 3] (shapeCast S4x2x512x1024 (transpose S4096x1024 [1, 0] (Host.dotGeneral (F := Ideal) dot_S4096x1024_S4096x4096_S1024x4096_0_0_1_1_n_n none
      (extf .f32 B bitsLt_bf16_f32) (extf .f32 A bitsLt_bf16_f32)) transposes_S1024x4096_S4096x1024_1_0) shapeCasts_S4096x1024_S4x2x512x1024)
      transposes_S4x2x512x1024_S2x4x512x1024_1_0_2_3 : Vec Ideal S2x4x512x1024 .f32) (ix4 h q r d)
    = ∑ s, (A : S4096x4096.Idx → EReal) (ix2 s (⟨1024 * q.val + (512 * h.val + r.val), by omega⟩ : Fin 4096)) * (B : S4096x1024.Idx → EReal) (ix2 s d) := by
  pointwise []
  refine Finset.sum_congr rfl fun s _ => (mul_comm _ _).trans (congrArg (fun k => A (ix2 s k) * B (ix2 s d)) (Fin.ext (by simp only; omega)))

end Cert.GradDownRefIdeal.Sums

end
-- ==== Proof.GradClaim.lean ====
/-
  The claims about the two gradients of the weights of the multilayer perceptron: the references' frames, and equal results.
-/
module

public import proofs.«01_k».proof.Defs
public import proofs.«01_k».proof.Proof.GradUp
public import proofs.«01_k».proof.Proof.GradDown
public import Idealize.ShloMosaic.Adequacy
public import Idealize.ShloMosaic.Init

@[expose] public section

set_option maxRecDepth 16384

noncomputable section

namespace Cert.GradClaim

open Idealize.ShloMosaic Idealize.ShloMosaic.TcCoe Idealize.SL.Sem Idealize.ShloMosaic.StableHlo

/-- The reference runs, keeps its arguments, and has no semaphores. -/
theorem up_ref_frame : Cert.quiescent_GradUpRefIdeal (hGradUpRefIdeal := Cert.GradUpRefIdeal.Gen.facts) := fun m ρ _ =>
  (θ_run Cert.GradUpRefIdeal.defs _ _).mono
    (fun r h => ⟨fun c => (h c).2, Idealize.ShloMosaic.sem_eq_zero_of_no_sems (by decide) r.2⟩)
    (Cert.GradUpRefIdeal.Value.run (F := Ideal) m ρ)

/-- The call and the reference end with equal results. -/
theorem up_algebraic : Cert.algebraic_GradUpIdeal_GradUpRefIdeal (hGradUpIdeal := Cert.GradUpIdeal.Gen.facts) (hGradUpRefIdeal := Cert.GradUpRefIdeal.Gen.facts) := by
  intro m ρ m' ρ' _ hA
  refine ⟨_, (θ_run Cert.GradUpIdeal.defs _ _).mono (fun r h c => h c) (Cert.GradUpIdeal.Value.run_blocks m ρ),
    (θ_run Cert.GradUpRefIdeal.defs _ _).mono (fun r h c => ?_) (Cert.GradUpRefIdeal.Value.run (F := Ideal) m' ρ')⟩
  obtain ⟨h0, hk⟩ := h c
  refine ⟨h0.trans ?_, hk⟩
  · rw [(hA c).1, (hA c).2, Cert.GradUpIdeal.Sums.final]
    funext j
    refine (congrArg _ (eq_ix4 j)).trans ((Cert.GradUpRefIdeal.Sums.value _ _ (j 0) (j 1) (j 2) (j 3)).trans rfl)

/-- The reference runs, keeps its arguments, and has no semaphores. -/
theorem down_ref_frame : Cert.quiescent_GradDownRefIdeal (hGradDownRefIdeal := Cert.GradDownRefIdeal.Gen.facts) := fun m ρ _ =>
  (θ_run Cert.GradDownRefIdeal.defs _ _).mono
    (fun r h => ⟨fun c => (h c).2, Idealize.ShloMosaic.sem_eq_zero_of_no_sems (by decide) r.2⟩)
    (Cert.GradDownRefIdeal.Value.run (F := Ideal) m ρ)

/-- The call and the reference end with equal results. -/
theorem down_algebraic : Cert.algebraic_GradDownIdeal_GradDownRefIdeal (hGradDownIdeal := Cert.GradDownIdeal.Gen.facts) (hGradDownRefIdeal := Cert.GradDownRefIdeal.Gen.facts) := by
  intro m ρ m' ρ' _ hA
  refine ⟨_, (θ_run Cert.GradDownIdeal.defs _ _).mono (fun r h c => h c) (Cert.GradDownIdeal.Value.run_blocks m ρ),
    (θ_run Cert.GradDownRefIdeal.defs _ _).mono (fun r h c => ?_) (Cert.GradDownRefIdeal.Value.run (F := Ideal) m' ρ')⟩
  obtain ⟨h0, hk⟩ := h c
  refine ⟨h0.trans ?_, hk⟩
  · rw [(hA c).1, (hA c).2, Cert.GradDownIdeal.Sums.final]
    funext j
    refine (congrArg _ (eq_ix4 j)).trans ((Cert.GradDownRefIdeal.Sums.value _ _ (j 0) (j 1) (j 2) (j 3)).trans rfl)

end Cert.GradClaim

end
-- ==== Proof.AdamRow.lean ====
/-
  One parameter's AdamW step on the extended reals: the two moments and the update, and the two quotients by the
  bias corrections, which a program may also write as products by their reciprocals.
-/
module

public import Idealize.ShloMosaic.PureOps.Ideal
public import Mathlib.Tactic.NormNum

@[expose] public section

noncomputable section

namespace Cert.AdamRow

open Idealize.ShloMosaic

/-- The first moment after the step. -/
def mom (m g : EReal) : EReal := Ideal.ofBits .f32 0x3F666666#32 * m + Ideal.ofBits .f32 0x3DCCCCCD#32 * g

/-- The second moment after the step. -/
def sec (v g : EReal) : EReal := Ideal.ofBits .f32 0x3F7FBE77#32 * v + Ideal.ofBits .f32 0x3A83126F#32 * (g * g)

/-- The update of the parameter, with the bias corrections as divisions. -/
def upd (w m v g : EReal) : EReal :=
  Ideal.ofBits .f32 0xBA83126F#32
    * (Ideal.div (Ideal.div (mom m g) (Ideal.ofBits .f32 0x3F26BD02#32))
        (Ideal.sqrt (Ideal.div (sec v g) (Ideal.ofBits .f32 0x3C231ACC#32)) + Ideal.ofBits .f32 0x322BCC77#32)
      + Ideal.ofBits .f32 0x3C23D70A#32 * w)

/-- The first bias correction's value. -/
theorem corr1 : Ideal.ofBits .f32 0x3F26BD02#32 = ((5463681 / 8388608 : ℝ) : EReal) := by
  simp [Ideal.ofBits, Ideal.ieee, -EReal.coe_mul]; norm_num

/-- The second bias correction's value. -/
theorem corr2 : Ideal.ofBits .f32 0x3C231ACC#32 = ((2672307 / 268435456 : ℝ) : EReal) := by
  simp [Ideal.ofBits, Ideal.ieee, -EReal.coe_mul]; norm_num

/-- A product by the first correction's reciprocal is the division. -/
theorem mul_inv1 (x : EReal) : x * ((8388608 / 5463681 : ℝ) : EReal) = Ideal.div x (Ideal.ofBits .f32 0x3F26BD02#32) := by
  rw [corr1, Ideal.div_coe (by norm_num)]; norm_num

/-- A product by the second correction's reciprocal is the division. -/
theorem mul_inv2 (x : EReal) : x * ((268435456 / 2672307 : ℝ) : EReal) = Ideal.div x (Ideal.ofBits .f32 0x3C231ACC#32) := by
  rw [corr2, Ideal.div_coe (by norm_num)]; norm_num

/-- The update, with the bias corrections as products by reciprocals. -/
theorem upd_eq (w m v g : EReal) : Ideal.ofBits .f32 0xBA83126F#32
    * (Ideal.div (mom m g * ((8388608 / 5463681 : ℝ) : EReal))
        (Ideal.sqrt (sec v g * ((268435456 / 2672307 : ℝ) : EReal)) + Ideal.ofBits .f32 0x322BCC77#32)
      + Ideal.ofBits .f32 0x3C23D70A#32 * w) = upd w m v g := by
  rw [mul_inv1, mul_inv2]; rfl

end Cert.AdamRow

end
-- ==== Proof.AdamIn.lean ====
/-
  The AdamW call `AdamIn`: what a grid point leaves in each block is the step of the entries there, the arrays the call
  leaves are the steps of the arguments' entries, and the reference's results are the same.
-/
module

public import proofs.«01_k».proof.Proof.Gen.AdamInIdeal.Value
public import proofs.«01_k».proof.Proof.Gen.AdamInRefIdeal.Run
public import proofs.«01_k».proof.Proof.AdamRow
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.AdamInIdeal.Step

open Idealize.ShloMosaic Idealize.ShloMosaic.TcCoe Idealize.SL.Sem
open Cert.AdamInIdeal Cert.AdamInIdeal.Gen Cert.AdamRow

/-- The named reciprocal of the first bias correction. -/
theorem named1 (b : BitVec 32) : Named.named (F := Ideal) (φ := .f32) κ "inv_b1" b = ((8388608 / 5463681 : ℝ) : EReal) := rfl
/-- The named reciprocal of the second bias correction. -/
theorem named2 (b : BitVec 32) : Named.named (F := Ideal) (φ := .f32) κ "inv_b2" b = ((268435456 / 2672307 : ℝ) : EReal) := rfl

section
variable (w g mm v : Vec Ideal S256x640 .f32) (r : Fin 256) (d : Fin 640)

/-- The stored first moment. -/
theorem pay_m : k0_pay1 (F := Ideal) g mm (ix2 r d) = mom ((mm : S256x640.Idx → EReal) (ix2 r d)) ((g : S256x640.Idx → EReal) (ix2 r d)) := by
  pointwise [k0_pay1]
  rfl
/-- The stored second moment. -/
theorem pay_v : k0_pay2 (F := Ideal) g v (ix2 r d) = sec ((v : S256x640.Idx → EReal) (ix2 r d)) ((g : S256x640.Idx → EReal) (ix2 r d)) := by
  pointwise [k0_pay2]
  rfl
/-- The stored update. -/
theorem pay_u : k0_pay3 (F := Ideal) g w mm v (ix2 r d)
    = upd ((w : S256x640.Idx → EReal) (ix2 r d)) ((mm : S256x640.Idx → EReal) (ix2 r d)) ((v : S256x640.Idx → EReal) (ix2 r d)) ((g : S256x640.Idx → EReal) (ix2 r d)) := by
  refine Eq.trans ?_ (upd_eq _ _ _ _)
  rw [← pay_m g mm r d, ← pay_v g v r d, ← named1 0x3FC48605#32, ← named2 0x42C8E6D3#32]
  pointwise [k0_pay3]

end

variable (m : (ℓ : Loc nD τ sig) → Buf (Elt Ideal) ℓ) (c : Dev nD) (t : Fin cfg0.N)

/-- The argument read through window 0. -/
def wr (i : Fin 1024) (d : Fin 640) : EReal := (m ((c : Thread nD τ).loc main_arg0) : Vec Ideal S1024x640 .f32) (ix2 i d)
/-- The argument read through window 1. -/
def gr (i : Fin 1024) (d : Fin 640) : EReal := (m ((c : Thread nD τ).loc main_arg1) : Vec Ideal S1024x640 .f32) (ix2 i d)
/-- The argument read through window 2. -/
def mr (i : Fin 1024) (d : Fin 640) : EReal := (m ((c : Thread nD τ).loc main_arg2) : Vec Ideal S1024x640 .f32) (ix2 i d)
/-- The argument read through window 3. -/
def vr (i : Fin 1024) (d : Fin 640) : EReal := (m ((c : Thread nD τ).loc main_arg3) : Vec Ideal S1024x640 .f32) (ix2 i d)
theorem idx0 : ∀ t : Fin cfg0.N, win0_0.index t = ![t.val, 0] := (by decide +kernel : ∀ t : Fin grid0.N, _)
theorem idx4 : ∀ t : Fin cfg0.N, win0_4.index t = ![t.val, 0] := (by decide +kernel : ∀ t : Fin grid0.N, _)
theorem idx1 : ∀ t : Fin cfg0.N, win0_1.index t = ![t.val, 0] := (by decide +kernel : ∀ t : Fin grid0.N, _)
theorem idx5 : ∀ t : Fin cfg0.N, win0_5.index t = ![t.val, 0] := (by decide +kernel : ∀ t : Fin grid0.N, _)
theorem idx2 : ∀ t : Fin cfg0.N, win0_2.index t = ![t.val, 0] := (by decide +kernel : ∀ t : Fin grid0.N, _)
theorem idx6 : ∀ t : Fin cfg0.N, win0_6.index t = ![t.val, 0] := (by decide +kernel : ∀ t : Fin grid0.N, _)
theorem idx3 : ∀ t : Fin cfg0.N, win0_3.index t = ![t.val, 0] := (by decide +kernel : ∀ t : Fin grid0.N, _)
theorem idx7 : ∀ t : Fin cfg0.N, win0_7.index t = ![t.val, 0] := (by decide +kernel : ∀ t : Fin grid0.N, _)

/-- A row of a point's block is a row of the array. -/
theorem lt (r : Fin 256) : 256 * t.val + r.val < 1024 := by
  have h : cfg0.N = 4 := N_0
  have := t.isLt
  omega

theorem w_at (r : Fin 256) (d : Fin 640) : (iblk m c 0 t : Vec Ideal S256x640 .f32) (ix2 r d) = wr m c ⟨256 * t.val + r, lt t r⟩ d := by
  simp only [wr]
  blk_point [iblk, V, idx0 t]
theorem g_at (r : Fin 256) (d : Fin 640) : (iblk m c 1 t : Vec Ideal S256x640 .f32) (ix2 r d) = gr m c ⟨256 * t.val + r, lt t r⟩ d := by
  simp only [gr]
  blk_point [iblk, V, idx1 t]
theorem m_at (r : Fin 256) (d : Fin 640) : (iblk m c 2 t : Vec Ideal S256x640 .f32) (ix2 r d) = mr m c ⟨256 * t.val + r, lt t r⟩ d := by
  simp only [mr]
  blk_point [iblk, V, idx2 t]
theorem v_at (r : Fin 256) (d : Fin 640) : (iblk m c 3 t : Vec Ideal S256x640 .f32) (ix2 r d) = vr m c ⟨256 * t.val + r, lt t r⟩ d := by
  simp only [vr]
  blk_point [iblk, V, idx3 t]
/-- The block a point leaves in window 4. -/
theorem out4 (r : Fin 256) (d : Fin 640) : ((outsAt0 m c t).1 : Vec Ideal S256x640 .f32) (ix2 r d)
    = gr m c ⟨256 * t.val + r, lt t r⟩ d := by
  unfold outsAt0
  dsimp only
  frame_out
  exact g_at m c t r d
/-- The array the call leaves in window 4. -/
theorem final4 : (dats m 0 c).arrAt 4 cfg0.N = (fun j => gr m c (j 0) (j 1) : Shape.Idx S1024x640 → EReal) := by
  refine (dats m 0 c).arrAt_eq_of_covers 4 _ (by decide +kernel) fun t hf y => ?_
  blk_simp
  rw [after0_4]
  obtain ⟨r, d, rfl⟩ : ∃ (r : Fin 256) (d : Fin 640), y = (ix2 r d : Shape.Idx ⟨2, ![256, 640]⟩) := ⟨y 0, y 1, eq_ix2 y⟩
  refine (out4 m c t r d).trans ?_
  refine congrArg₂ (fun i d => gr m c i d) ?_ ?_
  all_goals (apply Fin.ext; blk_simp [idx4 t])
  all_goals first | omega | (dsimp only; omega)
/-- The block a point leaves in window 5. -/
theorem out5 (r : Fin 256) (d : Fin 640) : ((outsAt0 m c t).2.1 : Vec Ideal S256x640 .f32) (ix2 r d)
    = upd (wr m c ⟨256 * t.val + r, lt t r⟩ d) (mr m c ⟨256 * t.val + r, lt t r⟩ d) (vr m c ⟨256 * t.val + r, lt t r⟩ d) (gr m c ⟨256 * t.val + r, lt t r⟩ d) := by
  unfold outsAt0
  dsimp only
  frame_out
  refine (pay_u _ _ _ _ r d).trans ?_
  simp only [w_at, g_at, m_at, v_at]
/-- The array the call leaves in window 5. -/
theorem final5 : (dats m 0 c).arrAt 5 cfg0.N = (fun j => upd (wr m c (j 0) (j 1)) (mr m c (j 0) (j 1)) (vr m c (j 0) (j 1)) (gr m c (j 0) (j 1)) : Shape.Idx S1024x640 → EReal) := by
  refine (dats m 0 c).arrAt_eq_of_covers 5 _ (by decide +kernel) fun t hf y => ?_
  blk_simp
  rw [after0_5]
  obtain ⟨r, d, rfl⟩ : ∃ (r : Fin 256) (d : Fin 640), y = (ix2 r d : Shape.Idx ⟨2, ![256, 640]⟩) := ⟨y 0, y 1, eq_ix2 y⟩
  refine (out5 m c t r d).trans ?_
  refine congrArg₂ (fun i d => upd (wr m c i d) (mr m c i d) (vr m c i d) (gr m c i d)) ?_ ?_
  all_goals (apply Fin.ext; blk_simp [idx5 t])
  all_goals first | omega | (dsimp only; omega)
/-- The block a point leaves in window 6. -/
theorem out6 (r : Fin 256) (d : Fin 640) : ((outsAt0 m c t).2.2.1 : Vec Ideal S256x640 .f32) (ix2 r d)
    = mom (mr m c ⟨256 * t.val + r, lt t r⟩ d) (gr m c ⟨256 * t.val + r, lt t r⟩ d) := by
  unfold outsAt0
  dsimp only
  frame_out
  refine (pay_m _ _ r d).trans ?_
  simp only [w_at, g_at, m_at, v_at]
/-- The array the call leaves in window 6. -/
theorem final6 : (dats m 0 c).arrAt 6 cfg0.N = (fun j => mom (mr m c (j 0) (j 1)) (gr m c (j 0) (j 1)) : Shape.Idx S1024x640 → EReal) := by
  refine (dats m 0 c).arrAt_eq_of_covers 6 _ (by decide +kernel) fun t hf y => ?_
  blk_simp
  rw [after0_6]
  obtain ⟨r, d, rfl⟩ : ∃ (r : Fin 256) (d : Fin 640), y = (ix2 r d : Shape.Idx ⟨2, ![256, 640]⟩) := ⟨y 0, y 1, eq_ix2 y⟩
  refine (out6 m c t r d).trans ?_
  refine congrArg₂ (fun i d => mom (mr m c i d) (gr m c i d)) ?_ ?_
  all_goals (apply Fin.ext; blk_simp [idx6 t])
  all_goals first | omega | (dsimp only; omega)
/-- The block a point leaves in window 7. -/
theorem out7 (r : Fin 256) (d : Fin 640) : ((outsAt0 m c t).2.2.2 : Vec Ideal S256x640 .f32) (ix2 r d)
    = sec (vr m c ⟨256 * t.val + r, lt t r⟩ d) (gr m c ⟨256 * t.val + r, lt t r⟩ d) := by
  unfold outsAt0
  dsimp only
  frame_out
  refine (pay_v _ _ r d).trans ?_
  simp only [w_at, g_at, m_at, v_at]
/-- The array the call leaves in window 7. -/
theorem final7 : (dats m 0 c).arrAt 7 cfg0.N = (fun j => sec (vr m c (j 0) (j 1)) (gr m c (j 0) (j 1)) : Shape.Idx S1024x640 → EReal) := by
  refine (dats m 0 c).arrAt_eq_of_covers 7 _ (by decide +kernel) fun t hf y => ?_
  blk_simp
  rw [after0_7]
  obtain ⟨r, d, rfl⟩ : ∃ (r : Fin 256) (d : Fin 640), y = (ix2 r d : Shape.Idx ⟨2, ![256, 640]⟩) := ⟨y 0, y 1, eq_ix2 y⟩
  refine (out7 m c t r d).trans ?_
  refine congrArg₂ (fun i d => sec (vr m c i d) (gr m c i d)) ?_ ?_
  all_goals (apply Fin.ext; blk_simp [idx7 t])
  all_goals first | omega | (dsimp only; omega)

end Cert.AdamInIdeal.Step

namespace Cert.AdamInRefIdeal.Step

open Idealize.ShloMosaic Idealize.ShloMosaic.TcCoe Idealize.SL.Sem
open Cert.AdamInRefIdeal Cert.AdamInRefIdeal.Gen Cert.AdamRow

section
variable (w g mm v : Vec Ideal S1024x640 .f32)

/-- The reference's first moment. -/
theorem ref_m : ((addf (mulf (broadcastInDim S1024x640 ![] bcast_S_S1024x640 (constant (F := Ideal) S_ .f32 0x3F666666#32)) mm) (mulf (broadcastInDim S1024x640 ![] bcast_S_S1024x640 (constant (F := Ideal) S_ .f32 0x3DCCCCCD#32)) g)) : Vec Ideal S1024x640 .f32) = (fun j => mom ((mm : S1024x640.Idx → EReal) j) ((g : S1024x640.Idx → EReal) j) : S1024x640.Idx → EReal) := by
  funext j; idx_vars j
  pointwise []
  rfl
/-- The reference's second moment. -/
theorem ref_v : ((addf (mulf (broadcastInDim S1024x640 ![] bcast_S_S1024x640 (constant (F := Ideal) S_ .f32 0x3F7FBE77#32)) v) (mulf (broadcastInDim S1024x640 ![] bcast_S_S1024x640 (constant (F := Ideal) S_ .f32 0x3A83126F#32)) (mulf g g))) : Vec Ideal S1024x640 .f32) = (fun j => sec ((v : S1024x640.Idx → EReal) j) ((g : S1024x640.Idx → EReal) j) : S1024x640.Idx → EReal) := by
  funext j; idx_vars j
  pointwise []
  rfl
/-- The reference's update. -/
theorem ref_u : ((mulf (broadcastInDim S1024x640 ![] bcast_S_S1024x640 (constant (F := Ideal) S_ .f32 0xBA83126F#32)) (addf (Host.divf (Host.divf (addf (mulf (broadcastInDim S1024x640 ![] bcast_S_S1024x640 (constant (F := Ideal) S_ .f32 0x3F666666#32)) mm) (mulf (broadcastInDim S1024x640 ![] bcast_S_S1024x640 (constant (F := Ideal) S_ .f32 0x3DCCCCCD#32)) g)) (broadcastInDim S1024x640 ![] bcast_S_S1024x640 (constant (F := Ideal) S_ .f32 0x3F26BD02#32))) (addf (Host.sqrt (Host.divf (addf (mulf (broadcastInDim S1024x640 ![] bcast_S_S1024x640 (constant (F := Ideal) S_ .f32 0x3F7FBE77#32)) v) (mulf (broadcastInDim S1024x640 ![] bcast_S_S1024x640 (constant (F := Ideal) S_ .f32 0x3A83126F#32)) (mulf g g))) (broadcastInDim S1024x640 ![] bcast_S_S1024x640 (constant (F := Ideal) S_ .f32 0x3C231ACC#32)))) (broadcastInDim S1024x640 ![] bcast_S_S1024x640 (constant (F := Ideal) S_ .f32 0x322BCC77#32)))) (mulf (broadcastInDim S1024x640 ![] bcast_S_S1024x640 (constant (F := Ideal) S_ .f32 0x3C23D70A#32)) w))) : Vec Ideal S1024x640 .f32)
    = (fun j => upd ((w : S1024x640.Idx → EReal) j) ((mm : S1024x640.Idx → EReal) j) ((v : S1024x640.Idx → EReal) j) ((g : S1024x640.Idx → EReal) j) : S1024x640.Idx → EReal) := by
  funext j; idx_vars j
  pointwise []
  rfl

end

end Cert.AdamInRefIdeal.Step

end
-- ==== Proof.AdamUpDown.lean ====
/-
  The AdamW call `AdamUpDown`: what a grid point leaves in each block is the step of the entries there, the arrays the call
  leaves are the steps of the arguments' entries, and the reference's results are the same.
-/
module

public import proofs.«01_k».proof.Proof.Gen.AdamUpDownIdeal.Value
public import proofs.«01_k».proof.Proof.Gen.AdamUpDownRefIdeal.Run
public import proofs.«01_k».proof.Proof.AdamRow
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.AdamUpDownIdeal.Step

open Idealize.ShloMosaic Idealize.ShloMosaic.TcCoe Idealize.SL.Sem
open Cert.AdamUpDownIdeal Cert.AdamUpDownIdeal.Gen Cert.AdamRow

/-- The named reciprocal of the first bias correction. -/
theorem named1 (b : BitVec 32) : Named.named (F := Ideal) (φ := .f32) κ "inv_b1" b = ((8388608 / 5463681 : ℝ) : EReal) := rfl
/-- The named reciprocal of the second bias correction. -/
theorem named2 (b : BitVec 32) : Named.named (F := Ideal) (φ := .f32) κ "inv_b2" b = ((268435456 / 2672307 : ℝ) : EReal) := rfl

section
variable (w g mm v : Vec Ideal S256x1024 .f32) (r : Fin 256) (d : Fin 1024)

/-- The stored first moment. -/
theorem pay_m1 : k0_pay1 (F := Ideal) g mm (ix2 r d) = mom ((mm : S256x1024.Idx → EReal) (ix2 r d)) ((g : S256x1024.Idx → EReal) (ix2 r d)) := by
  pointwise [k0_pay1]
  rfl
/-- The stored second moment. -/
theorem pay_v1 : k0_pay2 (F := Ideal) g v (ix2 r d) = sec ((v : S256x1024.Idx → EReal) (ix2 r d)) ((g : S256x1024.Idx → EReal) (ix2 r d)) := by
  pointwise [k0_pay2]
  rfl
/-- The stored update. -/
theorem pay_u1 : k0_pay3 (F := Ideal) g w mm v (ix2 r d)
    = upd ((w : S256x1024.Idx → EReal) (ix2 r d)) ((mm : S256x1024.Idx → EReal) (ix2 r d)) ((v : S256x1024.Idx → EReal) (ix2 r d)) ((g : S256x1024.Idx → EReal) (ix2 r d)) := by
  refine Eq.trans ?_ (upd_eq _ _ _ _)
  rw [← pay_m1 g mm r d, ← pay_v1 g v r d, ← named1 0x3FC48605#32, ← named2 0x42C8E6D3#32]
  pointwise [k0_pay3]

end

section
variable (w g mm v : Vec Ideal S256x1024 .f32) (r : Fin 256) (d : Fin 1024)

/-- The stored first moment. -/
theorem pay_m2 : k0_pay4 (F := Ideal) g mm (ix2 r d) = mom ((mm : S256x1024.Idx → EReal) (ix2 r d)) ((g : S256x1024.Idx → EReal) (ix2 r d)) := by
  pointwise [k0_pay4]
  rfl
/-- The stored second moment. -/
theorem pay_v2 : k0_pay5 (F := Ideal) g v (ix2 r d) = sec ((v : S256x1024.Idx → EReal) (ix2 r d)) ((g : S256x1024.Idx → EReal) (ix2 r d)) := by
  pointwise [k0_pay5]
  rfl
/-- The stored update. -/
theorem pay_u2 : k0_pay6 (F := Ideal) g w mm v (ix2 r d)
    = upd ((w : S256x1024.Idx → EReal) (ix2 r d)) ((mm : S256x1024.Idx → EReal) (ix2 r d)) ((v : S256x1024.Idx → EReal) (ix2 r d)) ((g : S256x1024.Idx → EReal) (ix2 r d)) := by
  refine Eq.trans ?_ (upd_eq _ _ _ _)
  rw [← pay_m2 g mm r d, ← pay_v2 g v r d, ← named1 0x3FC48605#32, ← named2 0x42C8E6D3#32]
  pointwise [k0_pay6]

end

variable (m : (ℓ : Loc nD τ sig) → Buf (Elt Ideal) ℓ) (c : Dev nD) (t : Fin cfg0.N)

/-- The argument read through window 0. -/
def wr1 (i : Fin 1024) (d : Fin 1024) : EReal := (m ((c : Thread nD τ).loc main_arg0) : Vec Ideal S1024x1024 .f32) (ix2 i d)
/-- The argument read through window 1. -/
def gr1 (i : Fin 1024) (d : Fin 1024) : EReal := (m ((c : Thread nD τ).loc main_arg1) : Vec Ideal S1024x1024 .f32) (ix2 i d)
/-- The argument read through window 2. -/
def mr1 (i : Fin 1024) (d : Fin 1024) : EReal := (m ((c : Thread nD τ).loc main_arg2) : Vec Ideal S1024x1024 .f32) (ix2 i d)
/-- The argument read through window 3. -/
def vr1 (i : Fin 1024) (d : Fin 1024) : EReal := (m ((c : Thread nD τ).loc main_arg3) : Vec Ideal S1024x1024 .f32) (ix2 i d)
theorem idx0 : ∀ t : Fin cfg0.N, win0_0.index t = ![t.val, 0] := (by decide +kernel : ∀ t : Fin grid0.N, _)
theorem idx8 : ∀ t : Fin cfg0.N, win0_8.index t = ![t.val, 0] := (by decide +kernel : ∀ t : Fin grid0.N, _)
theorem idx1 : ∀ t : Fin cfg0.N, win0_1.index t = ![t.val, 0] := (by decide +kernel : ∀ t : Fin grid0.N, _)
theorem idx9 : ∀ t : Fin cfg0.N, win0_9.index t = ![t.val, 0] := (by decide +kernel : ∀ t : Fin grid0.N, _)
theorem idx2 : ∀ t : Fin cfg0.N, win0_2.index t = ![t.val, 0] := (by decide +kernel : ∀ t : Fin grid0.N, _)
theorem idx10 : ∀ t : Fin cfg0.N, win0_10.index t = ![t.val, 0] := (by decide +kernel : ∀ t : Fin grid0.N, _)
theorem idx3 : ∀ t : Fin cfg0.N, win0_3.index t = ![t.val, 0] := (by decide +kernel : ∀ t : Fin grid0.N, _)
theorem idx11 : ∀ t : Fin cfg0.N, win0_11.index t = ![t.val, 0] := (by decide +kernel : ∀ t : Fin grid0.N, _)
/-- The argument read through window 4. -/
def wr2 (i : Fin 1024) (d : Fin 1024) : EReal := (m ((c : Thread nD τ).loc main_arg4) : Vec Ideal S1024x1024 .f32) (ix2 i d)
/-- The argument read through window 5. -/
def gr2 (i : Fin 1024) (d : Fin 1024) : EReal := (m ((c : Thread nD τ).loc main_arg5) : Vec Ideal S1024x1024 .f32) (ix2 i d)
/-- The argument read through window 6. -/
def mr2 (i : Fin 1024) (d : Fin 1024) : EReal := (m ((c : Thread nD τ).loc main_arg6) : Vec Ideal S1024x1024 .f32) (ix2 i d)
/-- The argument read through window 7. -/
def vr2 (i : Fin 1024) (d : Fin 1024) : EReal := (m ((c : Thread nD τ).loc main_arg7) : Vec Ideal S1024x1024 .f32) (ix2 i d)
theorem idx4 : ∀ t : Fin cfg0.N, win0_4.index t = ![t.val, 0] := (by decide +kernel : ∀ t : Fin grid0.N, _)
theorem idx12 : ∀ t : Fin cfg0.N, win0_12.index t = ![t.val, 0] := (by decide +kernel : ∀ t : Fin grid0.N, _)
theorem idx5 : ∀ t : Fin cfg0.N, win0_5.index t = ![t.val, 0] := (by decide +kernel : ∀ t : Fin grid0.N, _)
theorem idx13 : ∀ t : Fin cfg0.N, win0_13.index t = ![t.val, 0] := (by decide +kernel : ∀ t : Fin grid0.N, _)
theorem idx6 : ∀ t : Fin cfg0.N, win0_6.index t = ![t.val, 0] := (by decide +kernel : ∀ t : Fin grid0.N, _)
theorem idx14 : ∀ t : Fin cfg0.N, win0_14.index t = ![t.val, 0] := (by decide +kernel : ∀ t : Fin grid0.N, _)
theorem idx7 : ∀ t : Fin cfg0.N, win0_7.index t = ![t.val, 0] := (by decide +kernel : ∀ t : Fin grid0.N, _)
theorem idx15 : ∀ t : Fin cfg0.N, win0_15.index t = ![t.val, 0] := (by decide +kernel : ∀ t : Fin grid0.N, _)

/-- A row of a point's block is a row of the array. -/
theorem lt (r : Fin 256) : 256 * t.val + r.val < 1024 := by
  have h : cfg0.N = 4 := N_0
  have := t.isLt
  omega

theorem w_at1 (r : Fin 256) (d : Fin 1024) : (iblk m c 0 t : Vec Ideal S256x1024 .f32) (ix2 r d) = wr1 m c ⟨256 * t.val + r, lt t r⟩ d := by
  simp only [wr1]
  blk_point [iblk, V, idx0 t]
theorem g_at1 (r : Fin 256) (d : Fin 1024) : (iblk m c 1 t : Vec Ideal S256x1024 .f32) (ix2 r d) = gr1 m c ⟨256 * t.val + r, lt t r⟩ d := by
  simp only [gr1]
  blk_point [iblk, V, idx1 t]
theorem m_at1 (r : Fin 256) (d : Fin 1024) : (iblk m c 2 t : Vec Ideal S256x1024 .f32) (ix2 r d) = mr1 m c ⟨256 * t.val + r, lt t r⟩ d := by
  simp only [mr1]
  blk_point [iblk, V, idx2 t]
theorem v_at1 (r : Fin 256) (d : Fin 1024) : (iblk m c 3 t : Vec Ideal S256x1024 .f32) (ix2 r d) = vr1 m c ⟨256 * t.val + r, lt t r⟩ d := by
  simp only [vr1]
  blk_point [iblk, V, idx3 t]
theorem w_at2 (r : Fin 256) (d : Fin 1024) : (iblk m c 4 t : Vec Ideal S256x1024 .f32) (ix2 r d) = wr2 m c ⟨256 * t.val + r, lt t r⟩ d := by
  simp only [wr2]
  blk_point [iblk, V, idx4 t]
theorem g_at2 (r : Fin 256) (d : Fin 1024) : (iblk m c 5 t : Vec Ideal S256x1024 .f32) (ix2 r d) = gr2 m c ⟨256 * t.val + r, lt t r⟩ d := by
  simp only [gr2]
  blk_point [iblk, V, idx5 t]
theorem m_at2 (r : Fin 256) (d : Fin 1024) : (iblk m c 6 t : Vec Ideal S256x1024 .f32) (ix2 r d) = mr2 m c ⟨256 * t.val + r, lt t r⟩ d := by
  simp only [mr2]
  blk_point [iblk, V, idx6 t]
theorem v_at2 (r : Fin 256) (d : Fin 1024) : (iblk m c 7 t : Vec Ideal S256x1024 .f32) (ix2 r d) = vr2 m c ⟨256 * t.val + r, lt t r⟩ d := by
  simp only [vr2]
  blk_point [iblk, V, idx7 t]
/-- The block a point leaves in window 8. -/
theorem out8 (r : Fin 256) (d : Fin 1024) : ((outsAt0 m c t).1 : Vec Ideal S256x1024 .f32) (ix2 r d)
    = gr1 m c ⟨256 * t.val + r, lt t r⟩ d := by
  unfold outsAt0
  dsimp only
  frame_out
  exact g_at1 m c t r d
/-- The array the call leaves in window 8. -/
theorem final8 : (dats m 0 c).arrAt 8 cfg0.N = (fun j => gr1 m c (j 0) (j 1) : Shape.Idx S1024x1024 → EReal) := by
  refine (dats m 0 c).arrAt_eq_of_covers 8 _ (by decide +kernel) fun t hf y => ?_
  blk_simp
  rw [after0_8]
  obtain ⟨r, d, rfl⟩ : ∃ (r : Fin 256) (d : Fin 1024), y = (ix2 r d : Shape.Idx ⟨2, ![256, 1024]⟩) := ⟨y 0, y 1, eq_ix2 y⟩
  refine (out8 m c t r d).trans ?_
  refine congrArg₂ (fun i d => gr1 m c i d) ?_ ?_
  all_goals (apply Fin.ext; blk_simp [idx8 t])
  all_goals first | omega | (dsimp only; omega)
/-- The block a point leaves in window 9. -/
theorem out9 (r : Fin 256) (d : Fin 1024) : ((outsAt0 m c t).2.1 : Vec Ideal S256x1024 .f32) (ix2 r d)
    = upd (wr1 m c ⟨256 * t.val + r, lt t r⟩ d) (mr1 m c ⟨256 * t.val + r, lt t r⟩ d) (vr1 m c ⟨256 * t.val + r, lt t r⟩ d) (gr1 m c ⟨256 * t.val + r, lt t r⟩ d) := by
  unfold outsAt0
  dsimp only
  frame_out
  refine (pay_u1 _ _ _ _ r d).trans ?_
  simp only [w_at1, g_at1, m_at1, v_at1]
/-- The array the call leaves in window 9. -/
theorem final9 : (dats m 0 c).arrAt 9 cfg0.N = (fun j => upd (wr1 m c (j 0) (j 1)) (mr1 m c (j 0) (j 1)) (vr1 m c (j 0) (j 1)) (gr1 m c (j 0) (j 1)) : Shape.Idx S1024x1024 → EReal) := by
  refine (dats m 0 c).arrAt_eq_of_covers 9 _ (by decide +kernel) fun t hf y => ?_
  blk_simp
  rw [after0_9]
  obtain ⟨r, d, rfl⟩ : ∃ (r : Fin 256) (d : Fin 1024), y = (ix2 r d : Shape.Idx ⟨2, ![256, 1024]⟩) := ⟨y 0, y 1, eq_ix2 y⟩
  refine (out9 m c t r d).trans ?_
  refine congrArg₂ (fun i d => upd (wr1 m c i d) (mr1 m c i d) (vr1 m c i d) (gr1 m c i d)) ?_ ?_
  all_goals (apply Fin.ext; blk_simp [idx9 t])
  all_goals first | omega | (dsimp only; omega)
/-- The block a point leaves in window 10. -/
theorem out10 (r : Fin 256) (d : Fin 1024) : ((outsAt0 m c t).2.2.1 : Vec Ideal S256x1024 .f32) (ix2 r d)
    = mom (mr1 m c ⟨256 * t.val + r, lt t r⟩ d) (gr1 m c ⟨256 * t.val + r, lt t r⟩ d) := by
  unfold outsAt0
  dsimp only
  frame_out
  refine (pay_m1 _ _ r d).trans ?_
  simp only [w_at1, g_at1, m_at1, v_at1]
/-- The array the call leaves in window 10. -/
theorem final10 : (dats m 0 c).arrAt 10 cfg0.N = (fun j => mom (mr1 m c (j 0) (j 1)) (gr1 m c (j 0) (j 1)) : Shape.Idx S1024x1024 → EReal) := by
  refine (dats m 0 c).arrAt_eq_of_covers 10 _ (by decide +kernel) fun t hf y => ?_
  blk_simp
  rw [after0_10]
  obtain ⟨r, d, rfl⟩ : ∃ (r : Fin 256) (d : Fin 1024), y = (ix2 r d : Shape.Idx ⟨2, ![256, 1024]⟩) := ⟨y 0, y 1, eq_ix2 y⟩
  refine (out10 m c t r d).trans ?_
  refine congrArg₂ (fun i d => mom (mr1 m c i d) (gr1 m c i d)) ?_ ?_
  all_goals (apply Fin.ext; blk_simp [idx10 t])
  all_goals first | omega | (dsimp only; omega)
/-- The block a point leaves in window 11. -/
theorem out11 (r : Fin 256) (d : Fin 1024) : ((outsAt0 m c t).2.2.2.1 : Vec Ideal S256x1024 .f32) (ix2 r d)
    = sec (vr1 m c ⟨256 * t.val + r, lt t r⟩ d) (gr1 m c ⟨256 * t.val + r, lt t r⟩ d) := by
  unfold outsAt0
  dsimp only
  frame_out
  refine (pay_v1 _ _ r d).trans ?_
  simp only [w_at1, g_at1, m_at1, v_at1]
/-- The array the call leaves in window 11. -/
theorem final11 : (dats m 0 c).arrAt 11 cfg0.N = (fun j => sec (vr1 m c (j 0) (j 1)) (gr1 m c (j 0) (j 1)) : Shape.Idx S1024x1024 → EReal) := by
  refine (dats m 0 c).arrAt_eq_of_covers 11 _ (by decide +kernel) fun t hf y => ?_
  blk_simp
  rw [after0_11]
  obtain ⟨r, d, rfl⟩ : ∃ (r : Fin 256) (d : Fin 1024), y = (ix2 r d : Shape.Idx ⟨2, ![256, 1024]⟩) := ⟨y 0, y 1, eq_ix2 y⟩
  refine (out11 m c t r d).trans ?_
  refine congrArg₂ (fun i d => sec (vr1 m c i d) (gr1 m c i d)) ?_ ?_
  all_goals (apply Fin.ext; blk_simp [idx11 t])
  all_goals first | omega | (dsimp only; omega)
/-- The block a point leaves in window 12. -/
theorem out12 (r : Fin 256) (d : Fin 1024) : ((outsAt0 m c t).2.2.2.2.1 : Vec Ideal S256x1024 .f32) (ix2 r d)
    = gr2 m c ⟨256 * t.val + r, lt t r⟩ d := by
  unfold outsAt0
  dsimp only
  frame_out
  exact g_at2 m c t r d
/-- The array the call leaves in window 12. -/
theorem final12 : (dats m 0 c).arrAt 12 cfg0.N = (fun j => gr2 m c (j 0) (j 1) : Shape.Idx S1024x1024 → EReal) := by
  refine (dats m 0 c).arrAt_eq_of_covers 12 _ (by decide +kernel) fun t hf y => ?_
  blk_simp
  rw [after0_12]
  obtain ⟨r, d, rfl⟩ : ∃ (r : Fin 256) (d : Fin 1024), y = (ix2 r d : Shape.Idx ⟨2, ![256, 1024]⟩) := ⟨y 0, y 1, eq_ix2 y⟩
  refine (out12 m c t r d).trans ?_
  refine congrArg₂ (fun i d => gr2 m c i d) ?_ ?_
  all_goals (apply Fin.ext; blk_simp [idx12 t])
  all_goals first | omega | (dsimp only; omega)
/-- The block a point leaves in window 13. -/
theorem out13 (r : Fin 256) (d : Fin 1024) : ((outsAt0 m c t).2.2.2.2.2.1 : Vec Ideal S256x1024 .f32) (ix2 r d)
    = upd (wr2 m c ⟨256 * t.val + r, lt t r⟩ d) (mr2 m c ⟨256 * t.val + r, lt t r⟩ d) (vr2 m c ⟨256 * t.val + r, lt t r⟩ d) (gr2 m c ⟨256 * t.val + r, lt t r⟩ d) := by
  unfold outsAt0
  dsimp only
  frame_out
  refine (pay_u2 _ _ _ _ r d).trans ?_
  simp only [w_at2, g_at2, m_at2, v_at2]
/-- The array the call leaves in window 13. -/
theorem final13 : (dats m 0 c).arrAt 13 cfg0.N = (fun j => upd (wr2 m c (j 0) (j 1)) (mr2 m c (j 0) (j 1)) (vr2 m c (j 0) (j 1)) (gr2 m c (j 0) (j 1)) : Shape.Idx S1024x1024 → EReal) := by
  refine (dats m 0 c).arrAt_eq_of_covers 13 _ (by decide +kernel) fun t hf y => ?_
  blk_simp
  rw [after0_13]
  obtain ⟨r, d, rfl⟩ : ∃ (r : Fin 256) (d : Fin 1024), y = (ix2 r d : Shape.Idx ⟨2, ![256, 1024]⟩) := ⟨y 0, y 1, eq_ix2 y⟩
  refine (out13 m c t r d).trans ?_
  refine congrArg₂ (fun i d => upd (wr2 m c i d) (mr2 m c i d) (vr2 m c i d) (gr2 m c i d)) ?_ ?_
  all_goals (apply Fin.ext; blk_simp [idx13 t])
  all_goals first | omega | (dsimp only; omega)
/-- The block a point leaves in window 14. -/
theorem out14 (r : Fin 256) (d : Fin 1024) : ((outsAt0 m c t).2.2.2.2.2.2.1 : Vec Ideal S256x1024 .f32) (ix2 r d)
    = mom (mr2 m c ⟨256 * t.val + r, lt t r⟩ d) (gr2 m c ⟨256 * t.val + r, lt t r⟩ d) := by
  unfold outsAt0
  dsimp only
  frame_out
  refine (pay_m2 _ _ r d).trans ?_
  simp only [w_at2, g_at2, m_at2, v_at2]
/-- The array the call leaves in window 14. -/
theorem final14 : (dats m 0 c).arrAt 14 cfg0.N = (fun j => mom (mr2 m c (j 0) (j 1)) (gr2 m c (j 0) (j 1)) : Shape.Idx S1024x1024 → EReal) := by
  refine (dats m 0 c).arrAt_eq_of_covers 14 _ (by decide +kernel) fun t hf y => ?_
  blk_simp
  rw [after0_14]
  obtain ⟨r, d, rfl⟩ : ∃ (r : Fin 256) (d : Fin 1024), y = (ix2 r d : Shape.Idx ⟨2, ![256, 1024]⟩) := ⟨y 0, y 1, eq_ix2 y⟩
  refine (out14 m c t r d).trans ?_
  refine congrArg₂ (fun i d => mom (mr2 m c i d) (gr2 m c i d)) ?_ ?_
  all_goals (apply Fin.ext; blk_simp [idx14 t])
  all_goals first | omega | (dsimp only; omega)
/-- The block a point leaves in window 15. -/
theorem out15 (r : Fin 256) (d : Fin 1024) : ((outsAt0 m c t).2.2.2.2.2.2.2 : Vec Ideal S256x1024 .f32) (ix2 r d)
    = sec (vr2 m c ⟨256 * t.val + r, lt t r⟩ d) (gr2 m c ⟨256 * t.val + r, lt t r⟩ d) := by
  unfold outsAt0
  dsimp only
  frame_out
  refine (pay_v2 _ _ r d).trans ?_
  simp only [w_at2, g_at2, m_at2, v_at2]
/-- The array the call leaves in window 15. -/
theorem final15 : (dats m 0 c).arrAt 15 cfg0.N = (fun j => sec (vr2 m c (j 0) (j 1)) (gr2 m c (j 0) (j 1)) : Shape.Idx S1024x1024 → EReal) := by
  refine (dats m 0 c).arrAt_eq_of_covers 15 _ (by decide +kernel) fun t hf y => ?_
  blk_simp
  rw [after0_15]
  obtain ⟨r, d, rfl⟩ : ∃ (r : Fin 256) (d : Fin 1024), y = (ix2 r d : Shape.Idx ⟨2, ![256, 1024]⟩) := ⟨y 0, y 1, eq_ix2 y⟩
  refine (out15 m c t r d).trans ?_
  refine congrArg₂ (fun i d => sec (vr2 m c i d) (gr2 m c i d)) ?_ ?_
  all_goals (apply Fin.ext; blk_simp [idx15 t])
  all_goals first | omega | (dsimp only; omega)

end Cert.AdamUpDownIdeal.Step

namespace Cert.AdamUpDownRefIdeal.Step

open Idealize.ShloMosaic Idealize.ShloMosaic.TcCoe Idealize.SL.Sem
open Cert.AdamUpDownRefIdeal Cert.AdamUpDownRefIdeal.Gen Cert.AdamRow

section
variable (w g mm v : Vec Ideal S1024x1024 .f32)

/-- The reference's first moment. -/
theorem ref_m1 : ((addf (mulf (broadcastInDim S1024x1024 ![] bcast_S_S1024x1024 (constant (F := Ideal) S_ .f32 0x3F666666#32)) mm) (mulf (broadcastInDim S1024x1024 ![] bcast_S_S1024x1024 (constant (F := Ideal) S_ .f32 0x3DCCCCCD#32)) g)) : Vec Ideal S1024x1024 .f32) = (fun j => mom ((mm : S1024x1024.Idx → EReal) j) ((g : S1024x1024.Idx → EReal) j) : S1024x1024.Idx → EReal) := by
  funext j; idx_vars j
  pointwise []
  rfl
/-- The reference's second moment. -/
theorem ref_v1 : ((addf (mulf (broadcastInDim S1024x1024 ![] bcast_S_S1024x1024 (constant (F := Ideal) S_ .f32 0x3F7FBE77#32)) v) (mulf (broadcastInDim S1024x1024 ![] bcast_S_S1024x1024 (constant (F := Ideal) S_ .f32 0x3A83126F#32)) (mulf g g))) : Vec Ideal S1024x1024 .f32) = (fun j => sec ((v : S1024x1024.Idx → EReal) j) ((g : S1024x1024.Idx → EReal) j) : S1024x1024.Idx → EReal) := by
  funext j; idx_vars j
  pointwise []
  rfl
/-- The reference's update. -/
theorem ref_u1 : ((mulf (broadcastInDim S1024x1024 ![] bcast_S_S1024x1024 (constant (F := Ideal) S_ .f32 0xBA83126F#32)) (addf (Host.divf (Host.divf (addf (mulf (broadcastInDim S1024x1024 ![] bcast_S_S1024x1024 (constant (F := Ideal) S_ .f32 0x3F666666#32)) mm) (mulf (broadcastInDim S1024x1024 ![] bcast_S_S1024x1024 (constant (F := Ideal) S_ .f32 0x3DCCCCCD#32)) g)) (broadcastInDim S1024x1024 ![] bcast_S_S1024x1024 (constant (F := Ideal) S_ .f32 0x3F26BD02#32))) (addf (Host.sqrt (Host.divf (addf (mulf (broadcastInDim S1024x1024 ![] bcast_S_S1024x1024 (constant (F := Ideal) S_ .f32 0x3F7FBE77#32)) v) (mulf (broadcastInDim S1024x1024 ![] bcast_S_S1024x1024 (constant (F := Ideal) S_ .f32 0x3A83126F#32)) (mulf g g))) (broadcastInDim S1024x1024 ![] bcast_S_S1024x1024 (constant (F := Ideal) S_ .f32 0x3C231ACC#32)))) (broadcastInDim S1024x1024 ![] bcast_S_S1024x1024 (constant (F := Ideal) S_ .f32 0x322BCC77#32)))) (mulf (broadcastInDim S1024x1024 ![] bcast_S_S1024x1024 (constant (F := Ideal) S_ .f32 0x3C23D70A#32)) w))) : Vec Ideal S1024x1024 .f32)
    = (fun j => upd ((w : S1024x1024.Idx → EReal) j) ((mm : S1024x1024.Idx → EReal) j) ((v : S1024x1024.Idx → EReal) j) ((g : S1024x1024.Idx → EReal) j) : S1024x1024.Idx → EReal) := by
  funext j; idx_vars j
  pointwise []
  rfl

end

end Cert.AdamUpDownRefIdeal.Step

end
-- ==== Proof.AdamOutKv.lean ====
/-
  The AdamW call `AdamOutKv`: what a grid point leaves in each block is the step of the entries there, the arrays the call
  leaves are the steps of the arguments' entries, and the reference's results are the same.
-/
module

public import proofs.«01_k».proof.Proof.Gen.AdamOutKvIdeal.Value
public import proofs.«01_k».proof.Proof.Gen.AdamOutKvRefIdeal.Run
public import proofs.«01_k».proof.Proof.AdamRow
public import Idealize.ShloMosaic.Lib.Pointwise
public import Idealize.ShloMosaic.Lib.Pipeline.ValueKit
public import Idealize.ShloMosaic.Lib.Pipeline.ReadBack
public import Idealize.ShloMosaic.Lib.Tactic.CleanTypes

@[expose] public section

set_option maxRecDepth 16384

noncomputable section

namespace Cert.AdamOutKvIdeal.Step

open Idealize.ShloMosaic Idealize.ShloMosaic.TcCoe Idealize.SL.Sem
open Cert.AdamOutKvIdeal Cert.AdamOutKvIdeal.Gen Cert.AdamRow

/-- The named reciprocal of the first bias correction. -/
theorem named1 (b : BitVec 32) : Named.named (F := Ideal) (φ := .f32) κ "inv_b1" b = ((8388608 / 5463681 : ℝ) : EReal) := rfl
/-- The named reciprocal of the second bias correction. -/
theorem named2 (b : BitVec 32) : Named.named (F := Ideal) (φ := .f32) κ "inv_b2" b = ((268435456 / 2672307 : ℝ) : EReal) := rfl

section
variable (w g mm v : Vec Ideal S256x1024 .f32) (r : Fin 256) (d : Fin 1024)

/-- The stored first moment. -/
theorem pay_m1 : k0_pay1 (F := Ideal) g mm (ix2 r d) = mom ((mm : S256x1024.Idx → EReal) (ix2 r d)) ((g : S256x1024.Idx → EReal) (ix2 r d)) := by
  pointwise [k0_pay1]
  rfl
/-- The stored second moment. -/
theorem pay_v1 : k0_pay2 (F := Ideal) g v (ix2 r d) = sec ((v : S256x1024.Idx → EReal) (ix2 r d)) ((g : S256x1024.Idx → EReal) (ix2 r d)) := by
  pointwise [k0_pay2]
  rfl
/-- The stored update. -/
theorem pay_u1 : k0_pay3 (F := Ideal) g w mm v (ix2 r d)
    = upd ((w : S256x1024.Idx → EReal) (ix2 r d)) ((mm : S256x1024.Idx → EReal) (ix2 r d)) ((v : S256x1024.Idx → EReal) (ix2 r d)) ((g : S256x1024.Idx → EReal) (ix2 r d)) := by
  refine Eq.trans ?_ (upd_eq _ _ _ _)
  rw [← pay_m1 g mm r d, ← pay_v1 g v r d, ← named1 0x3FC48605#32, ← named2 0x42C8E6D3#32]
  pointwise [k0_pay3]

end

section
variable (w g mm v : Vec Ideal S256x512 .f32) (r : Fin 256) (d : Fin 512)

/-- The stored first moment. -/
theorem pay_m2 : k0_pay4 (F := Ideal) g mm (ix2 r d) = mom ((mm : S256x512.Idx → EReal) (ix2 r d)) ((g : S256x512.Idx → EReal) (ix2 r d)) := by
  pointwise [k0_pay4]
  rfl
/-- The stored second moment. -/
theorem pay_v2 : k0_pay5 (F := Ideal) g v (ix2 r d) = sec ((v : S256x512.Idx → EReal) (ix2 r d)) ((g : S256x512.Idx → EReal) (ix2 r d)) := by
  pointwise [k0_pay5]
  rfl
/-- The stored update. -/
theorem pay_u2 : k0_pay6 (F := Ideal) g w mm v (ix2 r d)
    = upd ((w : S256x512.Idx → EReal) (ix2 r d)) ((mm : S256x512.Idx → EReal) (ix2 r d)) ((v : S256x512.Idx → EReal) (ix2 r d)) ((g : S256x512.Idx → EReal) (ix2 r d)) := by
  refine Eq.trans ?_ (upd_eq _ _ _ _)
  rw [← pay_m2 g mm r d, ← pay_v2 g v r d, ← named1 0x3FC48605#32, ← named2 0x42C8E6D3#32]
  pointwise [k0_pay6]

end

variable (m : (ℓ : Loc nD τ sig) → Buf (Elt Ideal) ℓ) (c : Dev nD) (t : Fin cfg0.N)

/-- The argument read through window 0. -/
def wr1 (i : Fin 256) (d : Fin 1024) : EReal := (m ((c : Thread nD τ).loc main_arg0) : Vec Ideal S256x1024 .f32) (ix2 i d)
/-- The argument read through window 1. -/
def gr1 (i : Fin 256) (d : Fin 1024) : EReal := (m ((c : Thread nD τ).loc main_arg1) : Vec Ideal S256x1024 .f32) (ix2 i d)
/-- The argument read through window 2. -/
def mr1 (i : Fin 256) (d : Fin 1024) : EReal := (m ((c : Thread nD τ).loc main_arg2) : Vec Ideal S256x1024 .f32) (ix2 i d)
/-- The argument read through window 3. -/
def vr1 (i : Fin 256) (d : Fin 1024) : EReal := (m ((c : Thread nD τ).loc main_arg3) : Vec Ideal S256x1024 .f32) (ix2 i d)
theorem idx0 : ∀ t : Fin cfg0.N, win0_0.index t = ![t.val, 0] := (by decide +kernel : ∀ t : Fin grid0.N, _)
theorem idx8 : ∀ t : Fin cfg0.N, win0_8.index t = ![t.val, 0] := (by decide +kernel : ∀ t : Fin grid0.N, _)
theorem idx1 : ∀ t : Fin cfg0.N, win0_1.index t = ![t.val, 0] := (by decide +kernel : ∀ t : Fin grid0.N, _)
theorem idx9 : ∀ t : Fin cfg0.N, win0_9.index t = ![t.val, 0] := (by decide +kernel : ∀ t : Fin grid0.N, _)
theorem idx2 : ∀ t : Fin cfg0.N, win0_2.index t = ![t.val, 0] := (by decide +kernel : ∀ t : Fin grid0.N, _)
theorem idx10 : ∀ t : Fin cfg0.N, win0_10.index t = ![t.val, 0] := (by decide +kernel : ∀ t : Fin grid0.N, _)
theorem idx3 : ∀ t : Fin cfg0.N, win0_3.index t = ![t.val, 0] := (by decide +kernel : ∀ t : Fin grid0.N, _)
theorem idx11 : ∀ t : Fin cfg0.N, win0_11.index t = ![t.val, 0] := (by decide +kernel : ∀ t : Fin grid0.N, _)
/-- The argument read through window 4. -/
def wr2 (i : Fin 256) (d : Fin 512) : EReal := (m ((c : Thread nD τ).loc main_arg4) : Vec Ideal S256x512 .f32) (ix2 i d)
/-- The argument read through window 5. -/
def gr2 (i : Fin 256) (d : Fin 512) : EReal := (m ((c : Thread nD τ).loc main_arg5) : Vec Ideal S256x512 .f32) (ix2 i d)
/-- The argument read through window 6. -/
def mr2 (i : Fin 256) (d : Fin 512) : EReal := (m ((c : Thread nD τ).loc main_arg6) : Vec Ideal S256x512 .f32) (ix2 i d)
/-- The argument read through window 7. -/
def vr2 (i : Fin 256) (d : Fin 512) : EReal := (m ((c : Thread nD τ).loc main_arg7) : Vec Ideal S256x512 .f32) (ix2 i d)
theorem idx4 : ∀ t : Fin cfg0.N, win0_4.index t = ![t.val, 0] := (by decide +kernel : ∀ t : Fin grid0.N, _)
theorem idx12 : ∀ t : Fin cfg0.N, win0_12.index t = ![t.val, 0] := (by decide +kernel : ∀ t : Fin grid0.N, _)
theorem idx5 : ∀ t : Fin cfg0.N, win0_5.index t = ![t.val, 0] := (by decide +kernel : ∀ t : Fin grid0.N, _)
theorem idx13 : ∀ t : Fin cfg0.N, win0_13.index t = ![t.val, 0] := (by decide +kernel : ∀ t : Fin grid0.N, _)
theorem idx6 : ∀ t : Fin cfg0.N, win0_6.index t = ![t.val, 0] := (by decide +kernel : ∀ t : Fin grid0.N, _)
theorem idx14 : ∀ t : Fin cfg0.N, win0_14.index t = ![t.val, 0] := (by decide +kernel : ∀ t : Fin grid0.N, _)
theorem idx7 : ∀ t : Fin cfg0.N, win0_7.index t = ![t.val, 0] := (by decide +kernel : ∀ t : Fin grid0.N, _)
theorem idx15 : ∀ t : Fin cfg0.N, win0_15.index t = ![t.val, 0] := (by decide +kernel : ∀ t : Fin grid0.N, _)

/-- A row of a point's block is a row of the array. -/
theorem lt (r : Fin 256) : 256 * t.val + r.val < 256 := by
  have h : cfg0.N = 1 := N_0
  have := t.isLt
  omega

theorem w_at1 (r : Fin 256) (d : Fin 1024) : (iblk m c 0 t : Vec Ideal S256x1024 .f32) (ix2 r d) = wr1 m c ⟨256 * t.val + r, lt t r⟩ d := by
  simp only [wr1]
  blk_point [iblk, V, idx0 t]
theorem g_at1 (r : Fin 256) (d : Fin 1024) : (iblk m c 1 t : Vec Ideal S256x1024 .f32) (ix2 r d) = gr1 m c ⟨256 * t.val + r, lt t r⟩ d := by
  simp only [gr1]
  blk_point [iblk, V, idx1 t]
theorem m_at1 (r : Fin 256) (d : Fin 1024) : (iblk m c 2 t : Vec Ideal S256x1024 .f32) (ix2 r d) = mr1 m c ⟨256 * t.val + r, lt t r⟩ d := by
  simp only [mr1]
  blk_point [iblk, V, idx2 t]
theorem v_at1 (r : Fin 256) (d : Fin 1024) : (iblk m c 3 t : Vec Ideal S256x1024 .f32) (ix2 r d) = vr1 m c ⟨256 * t.val + r, lt t r⟩ d := by
  simp only [vr1]
  blk_point [iblk, V, idx3 t]
theorem w_at2 (r : Fin 256) (d : Fin 512) : (iblk m c 4 t : Vec Ideal S256x512 .f32) (ix2 r d) = wr2 m c ⟨256 * t.val + r, lt t r⟩ d := by
  simp only [wr2]
  blk_point [iblk, V, idx4 t]
theorem g_at2 (r : Fin 256) (d : Fin 512) : (iblk m c 5 t : Vec Ideal S256x512 .f32) (ix2 r d) = gr2 m c ⟨256 * t.val + r, lt t r⟩ d := by
  simp only [gr2]
  blk_point [iblk, V, idx5 t]
theorem m_at2 (r : Fin 256) (d : Fin 512) : (iblk m c 6 t : Vec Ideal S256x512 .f32) (ix2 r d) = mr2 m c ⟨256 * t.val + r, lt t r⟩ d := by
  simp only [mr2]
  blk_point [iblk, V, idx6 t]
theorem v_at2 (r : Fin 256) (d : Fin 512) : (iblk m c 7 t : Vec Ideal S256x512 .f32) (ix2 r d) = vr2 m c ⟨256 * t.val + r, lt t r⟩ d := by
  simp only [vr2]
  blk_point [iblk, V, idx7 t]
/-- The block a point leaves in window 8. -/
theorem out8 (r : Fin 256) (d : Fin 1024) : ((outsAt0 m c t).1 : Vec Ideal S256x1024 .f32) (ix2 r d)
    = gr1 m c ⟨256 * t.val + r, lt t r⟩ d := by
  unfold outsAt0
  dsimp only
  frame_out
  exact g_at1 m c t r d
/-- The array the call leaves in window 8. -/
theorem final8 : (dats m 0 c).arrAt 8 cfg0.N = (fun j => gr1 m c (j 0) (j 1) : Shape.Idx S256x1024 → EReal) := by
  refine (dats m 0 c).arrAt_eq_of_covers 8 _ (by decide +kernel) fun t hf y => ?_
  blk_simp
  rw [after0_8]
  obtain ⟨r, d, rfl⟩ : ∃ (r : Fin 256) (d : Fin 1024), y = (ix2 r d : Shape.Idx ⟨2, ![256, 1024]⟩) := ⟨y 0, y 1, eq_ix2 y⟩
  refine (out8 m c t r d).trans ?_
  refine congrArg₂ (fun i d => gr1 m c i d) ?_ ?_
  all_goals (apply Fin.ext; blk_simp [idx8 t])
  all_goals first | omega | (dsimp only; omega)
/-- The block a point leaves in window 9. -/
theorem out9 (r : Fin 256) (d : Fin 1024) : ((outsAt0 m c t).2.1 : Vec Ideal S256x1024 .f32) (ix2 r d)
    = upd (wr1 m c ⟨256 * t.val + r, lt t r⟩ d) (mr1 m c ⟨256 * t.val + r, lt t r⟩ d) (vr1 m c ⟨256 * t.val + r, lt t r⟩ d) (gr1 m c ⟨256 * t.val + r, lt t r⟩ d) := by
  unfold outsAt0
  dsimp only
  frame_out
  refine (pay_u1 _ _ _ _ r d).trans ?_
  simp only [w_at1, g_at1, m_at1, v_at1]
/-- The array the call leaves in window 9. -/
theorem final9 : (dats m 0 c).arrAt 9 cfg0.N = (fun j => upd (wr1 m c (j 0) (j 1)) (mr1 m c (j 0) (j 1)) (vr1 m c (j 0) (j 1)) (gr1 m c (j 0) (j 1)) : Shape.Idx S256x1024 → EReal) := by
  refine (dats m 0 c).arrAt_eq_of_covers 9 _ (by decide +kernel) fun t hf y => ?_
  blk_simp
  rw [after0_9]
  obtain ⟨r, d, rfl⟩ : ∃ (r : Fin 256) (d : Fin 1024), y = (ix2 r d : Shape.Idx ⟨2, ![256, 1024]⟩) := ⟨y 0, y 1, eq_ix2 y⟩
  refine (out9 m c t r d).trans ?_
  refine congrArg₂ (fun i d => upd (wr1 m c i d) (mr1 m c i d) (vr1 m c i d) (gr1 m c i d)) ?_ ?_
  all_goals (apply Fin.ext; blk_simp [idx9 t])
  all_goals first | omega | (dsimp only; omega)
/-- The block a point leaves in window 10. -/
theorem out10 (r : Fin 256) (d : Fin 1024) : ((outsAt0 m c t).2.2.1 : Vec Ideal S256x1024 .f32) (ix2 r d)
    = mom (mr1 m c ⟨256 * t.val + r, lt t r⟩ d) (gr1 m c ⟨256 * t.val + r, lt t r⟩ d) := by
  unfold outsAt0
  dsimp only
  frame_out
  refine (pay_m1 _ _ r d).trans ?_
  simp only [w_at1, g_at1, m_at1, v_at1]
/-- The array the call leaves in window 10. -/
theorem final10 : (dats m 0 c).arrAt 10 cfg0.N = (fun j => mom (mr1 m c (j 0) (j 1)) (gr1 m c (j 0) (j 1)) : Shape.Idx S256x1024 → EReal) := by
  refine (dats m 0 c).arrAt_eq_of_covers 10 _ (by decide +kernel) fun t hf y => ?_
  blk_simp
  rw [after0_10]
  obtain ⟨r, d, rfl⟩ : ∃ (r : Fin 256) (d : Fin 1024), y = (ix2 r d : Shape.Idx ⟨2, ![256, 1024]⟩) := ⟨y 0, y 1, eq_ix2 y⟩
  refine (out10 m c t r d).trans ?_
  refine congrArg₂ (fun i d => mom (mr1 m c i d) (gr1 m c i d)) ?_ ?_
  all_goals (apply Fin.ext; blk_simp [idx10 t])
  all_goals first | omega | (dsimp only; omega)
/-- The block a point leaves in window 11. -/
theorem out11 (r : Fin 256) (d : Fin 1024) : ((outsAt0 m c t).2.2.2.1 : Vec Ideal S256x1024 .f32) (ix2 r d)
    = sec (vr1 m c ⟨256 * t.val + r, lt t r⟩ d) (gr1 m c ⟨256 * t.val + r, lt t r⟩ d) := by
  unfold outsAt0
  dsimp only
  frame_out
  refine (pay_v1 _ _ r d).trans ?_
  simp only [w_at1, g_at1, m_at1, v_at1]
/-- The array the call leaves in window 11. -/
theorem final11 : (dats m 0 c).arrAt 11 cfg0.N = (fun j => sec (vr1 m c (j 0) (j 1)) (gr1 m c (j 0) (j 1)) : Shape.Idx S256x1024 → EReal) := by
  refine (dats m 0 c).arrAt_eq_of_covers 11 _ (by decide +kernel) fun t hf y => ?_
  blk_simp
  rw [after0_11]
  obtain ⟨r, d, rfl⟩ : ∃ (r : Fin 256) (d : Fin 1024), y = (ix2 r d : Shape.Idx ⟨2, ![256, 1024]⟩) := ⟨y 0, y 1, eq_ix2 y⟩
  refine (out11 m c t r d).trans ?_
  refine congrArg₂ (fun i d => sec (vr1 m c i d) (gr1 m c i d)) ?_ ?_
  all_goals (apply Fin.ext; blk_simp [idx11 t])
  all_goals first | omega | (dsimp only; omega)
/-- The block a point leaves in window 12. -/
theorem out12 (r : Fin 256) (d : Fin 512) : ((outsAt0 m c t).2.2.2.2.1 : Vec Ideal S256x512 .f32) (ix2 r d)
    = gr2 m c ⟨256 * t.val + r, lt t r⟩ d := by
  unfold outsAt0
  dsimp only
  frame_out
  exact g_at2 m c t r d
/-- The array the call leaves in window 12. -/
theorem final12 : (dats m 0 c).arrAt 12 cfg0.N = (fun j => gr2 m c (j 0) (j 1) : Shape.Idx S256x512 → EReal) := by
  refine (dats m 0 c).arrAt_eq_of_covers 12 _ (by decide +kernel) fun t hf y => ?_
  blk_simp
  rw [after0_12]
  obtain ⟨r, d, rfl⟩ : ∃ (r : Fin 256) (d : Fin 512), y = (ix2 r d : Shape.Idx ⟨2, ![256, 512]⟩) := ⟨y 0, y 1, eq_ix2 y⟩
  refine (out12 m c t r d).trans ?_
  refine congrArg₂ (fun i d => gr2 m c i d) ?_ ?_
  all_goals (apply Fin.ext; blk_simp [idx12 t])
  all_goals first | omega | (dsimp only; omega)
/-- The block a point leaves in window 13. -/
theorem out13 (r : Fin 256) (d : Fin 512) : ((outsAt0 m c t).2.2.2.2.2.1 : Vec Ideal S256x512 .f32) (ix2 r d)
    = upd (wr2 m c ⟨256 * t.val + r, lt t r⟩ d) (mr2 m c ⟨256 * t.val + r, lt t r⟩ d) (vr2 m c ⟨256 * t.val + r, lt t r⟩ d) (gr2 m c ⟨256 * t.val + r, lt t r⟩ d) := by
  unfold outsAt0
  dsimp only
  frame_out
  refine (pay_u2 _ _ _ _ r d).trans ?_
  simp only [w_at2, g_at2, m_at2, v_at2]
/-- The array the call leaves in window 13. -/
theorem final13 : (dats m 0 c).arrAt 13 cfg0.N = (fun j => upd (wr2 m c (j 0) (j 1)) (mr2 m c (j 0) (j 1)) (vr2 m c (j 0) (j 1)) (gr2 m c (j 0) (j 1)) : Shape.Idx S256x512 → EReal) := by
  refine (dats m 0 c).arrAt_eq_of_covers 13 _ (by decide +kernel) fun t hf y => ?_
  blk_simp
  rw [after0_13]
  obtain ⟨r, d, rfl⟩ : ∃ (r : Fin 256) (d : Fin 512), y = (ix2 r d : Shape.Idx ⟨2, ![256, 512]⟩) := ⟨y 0, y 1, eq_ix2 y⟩
  refine (out13 m c t r d).trans ?_
  refine congrArg₂ (fun i d => upd (wr2 m c i d) (mr2 m c i d) (vr2 m c i d) (gr2 m c i d)) ?_ ?_
  all_goals (apply Fin.ext; blk_simp [idx13 t])
  all_goals first | omega | (dsimp only; omega)
/-- The block a point leaves in window 14. -/
theorem out14 (r : Fin 256) (d : Fin 512) : ((outsAt0 m c t).2.2.2.2.2.2.1 : Vec Ideal S256x512 .f32) (ix2 r d)
    = mom (mr2 m c ⟨256 * t.val + r, lt t r⟩ d) (gr2 m c ⟨256 * t.val + r, lt t r⟩ d) := by
  unfold outsAt0
  dsimp only
  frame_out
  refine (pay_m2 _ _ r d).trans ?_
  simp only [w_at2, g_at2, m_at2, v_at2]
/-- The array the call leaves in window 14. -/
theorem final14 : (dats m 0 c).arrAt 14 cfg0.N = (fun j => mom (mr2 m c (j 0) (j 1)) (gr2 m c (j 0) (j 1)) : Shape.Idx S256x512 → EReal) := by
  refine (dats m 0 c).arrAt_eq_of_covers 14 _ (by decide +kernel) fun t hf y => ?_
  blk_simp
  rw [after0_14]
  obtain ⟨r, d, rfl⟩ : ∃ (r : Fin 256) (d : Fin 512), y = (ix2 r d : Shape.Idx ⟨2, ![256, 512]⟩) := ⟨y 0, y 1, eq_ix2 y⟩
  refine (out14 m c t r d).trans ?_
  refine congrArg₂ (fun i d => mom (mr2 m c i d) (gr2 m c i d)) ?_ ?_
  all_goals (apply Fin.ext; blk_simp [idx14 t])
  all_goals first | omega | (dsimp only; omega)
/-- The block a point leaves in window 15. -/
theorem out15 (r : Fin 256) (d : Fin 512) : ((outsAt0 m c t).2.2.2.2.2.2.2 : Vec Ideal S256x512 .f32) (ix2 r d)
    = sec (vr2 m c ⟨256 * t.val + r, lt t r⟩ d) (gr2 m c ⟨256 * t.val + r, lt t r⟩ d) := by
  unfold outsAt0
  dsimp only
  frame_out
  refine (pay_v2 _ _ r d).trans ?_
  simp only [w_at2, g_at2, m_at2, v_at2]
/-- The array the call leaves in window 15. -/
theorem final15 : (dats m 0 c).arrAt 15 cfg0.N = (fun j => sec (vr2 m c (j 0) (j 1)) (gr2 m c (j 0) (j 1)) : Shape.Idx S256x512 → EReal) := by
  refine (dats m 0 c).arrAt_eq_of_covers 15 _ (by decide +kernel) fun t hf y => ?_
  blk_simp
  rw [after0_15]
  obtain ⟨r, d, rfl⟩ : ∃ (r : Fin 256) (d : Fin 512), y = (ix2 r d : Shape.Idx ⟨2, ![256, 512]⟩) := ⟨y 0, y 1, eq_ix2 y⟩
  refine (out15 m c t r d).trans ?_
  refine congrArg₂ (fun i d => sec (vr2 m c i d) (gr2 m c i d)) ?_ ?_
  all_goals (apply Fin.ext; blk_simp [idx15 t])
  all_goals first | omega | (dsimp only; omega)

end Cert.AdamOutKvIdeal.Step

namespace Cert.AdamOutKvRefIdeal.Step

open Idealize.ShloMosaic Idealize.ShloMosaic.TcCoe Idealize.SL.Sem
open Cert.AdamOutKvRefIdeal Cert.AdamOutKvRefIdeal.Gen Cert.AdamRow

section
variable (w g mm v : Vec Ideal S256x1024 .f32)

/-- The reference's first moment. -/
theorem ref_m1 : ((addf (mulf (broadcastInDim S256x1024 ![] bcast_S_S256x1024 (constant (F := Ideal) S_ .f32 0x3F666666#32)) mm) (mulf (broadcastInDim S256x1024 ![] bcast_S_S256x1024 (constant (F := Ideal) S_ .f32 0x3DCCCCCD#32)) g)) : Vec Ideal S256x1024 .f32) = (fun j => mom ((mm : S256x1024.Idx → EReal) j) ((g : S256x1024.Idx → EReal) j) : S256x1024.Idx → EReal) := by
  funext j; idx_vars j
  pointwise []
  rfl
/-- The reference's second moment. -/
theorem ref_v1 : ((addf (mulf (broadcastInDim S256x1024 ![] bcast_S_S256x1024 (constant (F := Ideal) S_ .f32 0x3F7FBE77#32)) v) (mulf (broadcastInDim S256x1024 ![] bcast_S_S256x1024 (constant (F := Ideal) S_ .f32 0x3A83126F#32)) (mulf g g))) : Vec Ideal S256x1024 .f32) = (fun j => sec ((v : S256x1024.Idx → EReal) j) ((g : S256x1024.Idx → EReal) j) : S256x1024.Idx → EReal) := by
  funext j; idx_vars j
  pointwise []
  rfl
/-- The reference's update. -/
theorem ref_u1 : ((mulf (broadcastInDim S256x1024 ![] bcast_S_S256x1024 (constant (F := Ideal) S_ .f32 0xBA83126F#32)) (addf (Host.divf (Host.divf (addf (mulf (broadcastInDim S256x1024 ![] bcast_S_S256x1024 (constant (F := Ideal) S_ .f32 0x3F666666#32)) mm) (mulf (broadcastInDim S256x1024 ![] bcast_S_S256x1024 (constant (F := Ideal) S_ .f32 0x3DCCCCCD#32)) g)) (broadcastInDim S256x1024 ![] bcast_S_S256x1024 (constant (F := Ideal) S_ .f32 0x3F26BD02#32))) (addf (Host.sqrt (Host.divf (addf (mulf (broadcastInDim S256x1024 ![] bcast_S_S256x1024 (constant (F := Ideal) S_ .f32 0x3F7FBE77#32)) v) (mulf (broadcastInDim S256x1024 ![] bcast_S_S256x1024 (constant (F := Ideal) S_ .f32 0x3A83126F#32)) (mulf g g))) (broadcastInDim S256x1024 ![] bcast_S_S256x1024 (constant (F := Ideal) S_ .f32 0x3C231ACC#32)))) (broadcastInDim S256x1024 ![] bcast_S_S256x1024 (constant (F := Ideal) S_ .f32 0x322BCC77#32)))) (mulf (broadcastInDim S256x1024 ![] bcast_S_S256x1024 (constant (F := Ideal) S_ .f32 0x3C23D70A#32)) w))) : Vec Ideal S256x1024 .f32)
    = (fun j => upd ((w : S256x1024.Idx → EReal) j) ((mm : S256x1024.Idx → EReal) j) ((v : S256x1024.Idx → EReal) j) ((g : S256x1024.Idx → EReal) j) : S256x1024.Idx → EReal) := by
  funext j; idx_vars j
  pointwise []
  rfl

end

section
variable (w g mm v : Vec Ideal S256x512 .f32)

/-- The reference's first moment. -/
theorem ref_m2 : ((addf (mulf (broadcastInDim S256x512 ![] bcast_S_S256x512 (constant (F := Ideal) S_ .f32 0x3F666666#32)) mm) (mulf (broadcastInDim S256x512 ![] bcast_S_S256x512 (constant (F := Ideal) S_ .f32 0x3DCCCCCD#32)) g)) : Vec Ideal S256x512 .f32) = (fun j => mom ((mm : S256x512.Idx → EReal) j) ((g : S256x512.Idx → EReal) j) : S256x512.Idx → EReal) := by
  funext j; idx_vars j
  pointwise []
  rfl
/-- The reference's second moment. -/
theorem ref_v2 : ((addf (mulf (broadcastInDim S256x512 ![] bcast_S_S256x512 (constant (F := Ideal) S_ .f32 0x3F7FBE77#32)) v) (mulf (broadcastInDim S256x512 ![] bcast_S_S256x512 (constant (F := Ideal) S_ .f32 0x3A83126F#32)) (mulf g g))) : Vec Ideal S256x512 .f32) = (fun j => sec ((v : S256x512.Idx → EReal) j) ((g : S256x512.Idx → EReal) j) : S256x512.Idx → EReal) := by
  funext j; idx_vars j
  pointwise []
  rfl
/-- The reference's update. -/
theorem ref_u2 : ((mulf (broadcastInDim S256x512 ![] bcast_S_S256x512 (constant (F := Ideal) S_ .f32 0xBA83126F#32)) (addf (Host.divf (Host.divf (addf (mulf (broadcastInDim S256x512 ![] bcast_S_S256x512 (constant (F := Ideal) S_ .f32 0x3F666666#32)) mm) (mulf (broadcastInDim S256x512 ![] bcast_S_S256x512 (constant (F := Ideal) S_ .f32 0x3DCCCCCD#32)) g)) (broadcastInDim S256x512 ![] bcast_S_S256x512 (constant (F := Ideal) S_ .f32 0x3F26BD02#32))) (addf (Host.sqrt (Host.divf (addf (mulf (broadcastInDim S256x512 ![] bcast_S_S256x512 (constant (F := Ideal) S_ .f32 0x3F7FBE77#32)) v) (mulf (broadcastInDim S256x512 ![] bcast_S_S256x512 (constant (F := Ideal) S_ .f32 0x3A83126F#32)) (mulf g g))) (broadcastInDim S256x512 ![] bcast_S_S256x512 (constant (F := Ideal) S_ .f32 0x3C231ACC#32)))) (broadcastInDim S256x512 ![] bcast_S_S256x512 (constant (F := Ideal) S_ .f32 0x322BCC77#32)))) (mulf (broadcastInDim S256x512 ![] bcast_S_S256x512 (constant (F := Ideal) S_ .f32 0x3C23D70A#32)) w))) : Vec Ideal S256x512 .f32)
    = (fun j => upd ((w : S256x512.Idx → EReal) j) ((mm : S256x512.Idx → EReal) j) ((v : S256x512.Idx → EReal) j) ((g : S256x512.Idx → EReal) j) : S256x512.Idx → EReal) := by
  funext j; idx_vars j
  pointwise []
  rfl

end

end Cert.AdamOutKvRefIdeal.Step

end
-- ==== Proof.AdamClaim.lean ====
/-
  The claims about the AdamW calls of the five matrices: the references' frames, and equal results.
-/
module

public import proofs.«01_k».proof.Defs
public import proofs.«01_k».proof.Proof.AdamIn
public import proofs.«01_k».proof.Proof.AdamUpDown
public import proofs.«01_k».proof.Proof.AdamOutKv
public import Idealize.ShloMosaic.Adequacy
public import Idealize.ShloMosaic.Init

@[expose] public section

set_option maxRecDepth 16384

noncomputable section

namespace Cert.AdamClaim

open Idealize.ShloMosaic Idealize.ShloMosaic.TcCoe Idealize.SL.Sem Idealize.ShloMosaic.StableHlo

/-- The reference runs, keeps its arguments, and has no semaphores. -/
theorem in_ref_frame : Cert.quiescent_AdamInRefIdeal (hAdamInRefIdeal := Cert.AdamInRefIdeal.Gen.facts) := fun m ρ _ =>
  (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

/-- The call and the reference end with equal results. -/
theorem in_algebraic : Cert.algebraic_AdamInIdeal_AdamInRefIdeal (hAdamInIdeal := Cert.AdamInIdeal.Gen.facts) (hAdamInRefIdeal := Cert.AdamInRefIdeal.Gen.facts) := by
  intro m ρ m' ρ' _ hA
  refine ⟨_, _, _, _, (θ_run Cert.AdamInIdeal.defs _ _).mono (fun r h c => h c) (Cert.AdamInIdeal.Value.run_blocks m ρ),
    (θ_run Cert.AdamInRefIdeal.defs _ _).mono (fun r h c => ?_) (Cert.AdamInRefIdeal.Value.run (F := Ideal) m' ρ')⟩
  obtain ⟨h0, h1, h2, h3, hk⟩ := h c
  obtain ⟨a0, a1, a2, a3⟩ := hA c
  refine ⟨h0.trans ?_, h1.trans ?_, h2.trans ?_, h3.trans ?_, hk⟩
  · rw [Cert.AdamInIdeal.Step.final4]; funext j; rw [a1]; exact congrArg _ (eq_ix2 j)
  · rw [Cert.AdamInIdeal.Step.final5]; refine (Cert.AdamInRefIdeal.Step.ref_u _ _ _ _).trans (funext fun j => ?_); rw [a0, a1, a2, a3, eq_ix2 j]; rfl
  · rw [Cert.AdamInIdeal.Step.final6]; refine (Cert.AdamInRefIdeal.Step.ref_m _ _).trans (funext fun j => ?_); rw [a1, a2, eq_ix2 j]; rfl
  · rw [Cert.AdamInIdeal.Step.final7]; refine (Cert.AdamInRefIdeal.Step.ref_v _ _).trans (funext fun j => ?_); rw [a1, a3, eq_ix2 j]; rfl

/-- The reference runs, keeps its arguments, and has no semaphores. -/
theorem ud_ref_frame : Cert.quiescent_AdamUpDownRefIdeal (hAdamUpDownRefIdeal := Cert.AdamUpDownRefIdeal.Gen.facts) := fun m ρ _ =>
  (θ_run Cert.AdamUpDownRefIdeal.defs _ _).mono
    (fun r h => ⟨fun c => (h c).2.2.2.2.2.2.2.2, Idealize.ShloMosaic.sem_eq_zero_of_no_sems (by decide) r.2⟩)
    (Cert.AdamUpDownRefIdeal.Value.run (F := Ideal) m ρ)

/-- The call and the reference end with equal results. -/
theorem ud_algebraic : Cert.algebraic_AdamUpDownIdeal_AdamUpDownRefIdeal (hAdamUpDownIdeal := Cert.AdamUpDownIdeal.Gen.facts) (hAdamUpDownRefIdeal := Cert.AdamUpDownRefIdeal.Gen.facts) := by
  intro m ρ m' ρ' _ hA
  refine ⟨_, _, _, _, _, _, _, _, (θ_run Cert.AdamUpDownIdeal.defs _ _).mono (fun r h c => h c) (Cert.AdamUpDownIdeal.Value.run_blocks m ρ),
    (θ_run Cert.AdamUpDownRefIdeal.defs _ _).mono (fun r h c => ?_) (Cert.AdamUpDownRefIdeal.Value.run (F := Ideal) m' ρ')⟩
  obtain ⟨h0, h1, h2, h3, h4, h5, h6, h7, hk⟩ := h c
  obtain ⟨a0, a1, a2, a3, a4, a5, a6, a7⟩ := hA c
  refine ⟨h0.trans ?_, h1.trans ?_, h2.trans ?_, h3.trans ?_, h4.trans ?_, h5.trans ?_, h6.trans ?_, h7.trans ?_, hk⟩
  · rw [Cert.AdamUpDownIdeal.Step.final8]; funext j; rw [a1]; exact congrArg _ (eq_ix2 j)
  · rw [Cert.AdamUpDownIdeal.Step.final9]; refine (Cert.AdamUpDownRefIdeal.Step.ref_u1 _ _ _ _).trans (funext fun j => ?_); rw [a0, a1, a2, a3, eq_ix2 j]; rfl
  · rw [Cert.AdamUpDownIdeal.Step.final10]; refine (Cert.AdamUpDownRefIdeal.Step.ref_m1 _ _).trans (funext fun j => ?_); rw [a1, a2, eq_ix2 j]; rfl
  · rw [Cert.AdamUpDownIdeal.Step.final11]; refine (Cert.AdamUpDownRefIdeal.Step.ref_v1 _ _).trans (funext fun j => ?_); rw [a1, a3, eq_ix2 j]; rfl
  · rw [Cert.AdamUpDownIdeal.Step.final12]; funext j; rw [a5]; exact congrArg _ (eq_ix2 j)
  · rw [Cert.AdamUpDownIdeal.Step.final13]; refine (Cert.AdamUpDownRefIdeal.Step.ref_u1 _ _ _ _).trans (funext fun j => ?_); rw [a4, a5, a6, a7, eq_ix2 j]; rfl
  · rw [Cert.AdamUpDownIdeal.Step.final14]; refine (Cert.AdamUpDownRefIdeal.Step.ref_m1 _ _).trans (funext fun j => ?_); rw [a5, a6, eq_ix2 j]; rfl
  · rw [Cert.AdamUpDownIdeal.Step.final15]; refine (Cert.AdamUpDownRefIdeal.Step.ref_v1 _ _).trans (funext fun j => ?_); rw [a5, a7, eq_ix2 j]; rfl

/-- The reference runs, keeps its arguments, and has no semaphores. -/
theorem kv_ref_frame : Cert.quiescent_AdamOutKvRefIdeal (hAdamOutKvRefIdeal := Cert.AdamOutKvRefIdeal.Gen.facts) := fun m ρ _ =>
  (θ_run Cert.AdamOutKvRefIdeal.defs _ _).mono
    (fun r h => ⟨fun c => (h c).2.2.2.2.2.2.2.2, Idealize.ShloMosaic.sem_eq_zero_of_no_sems (by decide) r.2⟩)
    (Cert.AdamOutKvRefIdeal.Value.run (F := Ideal) m ρ)

/-- The call and the reference end with equal results. -/
theorem kv_algebraic : Cert.algebraic_AdamOutKvIdeal_AdamOutKvRefIdeal (hAdamOutKvIdeal := Cert.AdamOutKvIdeal.Gen.facts) (hAdamOutKvRefIdeal := Cert.AdamOutKvRefIdeal.Gen.facts) := by
  intro m ρ m' ρ' _ hA
  refine ⟨_, _, _, _, _, _, _, _, (θ_run Cert.AdamOutKvIdeal.defs _ _).mono (fun r h c => h c) (Cert.AdamOutKvIdeal.Value.run_blocks m ρ),
    (θ_run Cert.AdamOutKvRefIdeal.defs _ _).mono (fun r h c => ?_) (Cert.AdamOutKvRefIdeal.Value.run (F := Ideal) m' ρ')⟩
  obtain ⟨h0, h1, h2, h3, h4, h5, h6, h7, hk⟩ := h c
  obtain ⟨a0, a1, a2, a3, a4, a5, a6, a7⟩ := hA c
  refine ⟨h0.trans ?_, h1.trans ?_, h2.trans ?_, h3.trans ?_, h4.trans ?_, h5.trans ?_, h6.trans ?_, h7.trans ?_, hk⟩
  · rw [Cert.AdamOutKvIdeal.Step.final8]; funext j; rw [a1]; exact congrArg _ (eq_ix2 j)
  · rw [Cert.AdamOutKvIdeal.Step.final9]; refine (Cert.AdamOutKvRefIdeal.Step.ref_u1 _ _ _ _).trans (funext fun j => ?_); rw [a0, a1, a2, a3, eq_ix2 j]; rfl
  · rw [Cert.AdamOutKvIdeal.Step.final10]; refine (Cert.AdamOutKvRefIdeal.Step.ref_m1 _ _).trans (funext fun j => ?_); rw [a1, a2, eq_ix2 j]; rfl
  · rw [Cert.AdamOutKvIdeal.Step.final11]; refine (Cert.AdamOutKvRefIdeal.Step.ref_v1 _ _).trans (funext fun j => ?_); rw [a1, a3, eq_ix2 j]; rfl
  · rw [Cert.AdamOutKvIdeal.Step.final12]; funext j; rw [a5]; exact congrArg _ (eq_ix2 j)
  · rw [Cert.AdamOutKvIdeal.Step.final13]; refine (Cert.AdamOutKvRefIdeal.Step.ref_u2 _ _ _ _).trans (funext fun j => ?_); rw [a4, a5, a6, a7, eq_ix2 j]; rfl
  · rw [Cert.AdamOutKvIdeal.Step.final14]; refine (Cert.AdamOutKvRefIdeal.Step.ref_m2 _ _).trans (funext fun j => ?_); rw [a5, a6, eq_ix2 j]; rfl
  · rw [Cert.AdamOutKvIdeal.Step.final15]; refine (Cert.AdamOutKvRefIdeal.Step.ref_v2 _ _).trans (funext fun j => ?_); rw [a5, a7, eq_ix2 j]; rfl

end Cert.AdamClaim

end
-- ==== Proof.InProjRow.lean ====
/-
  One row of the input projection's gradient, as plain functions over the extended reals: the rotary angles, the gradient
  at the projection's columns with the rotation undone on the query and key heads, and the gradients at the normalised row
  and at the row itself. Both programs are read against these functions.
-/
module

public import proofs.«01_k».proof.Proof.MlpRow

@[expose] public section

noncomputable section

namespace Cert.InProjRow

open Idealize.ShloMosaic Cert.RowMath Cert.MlpRow

/-- The rotation angle of a position at one of the 32 frequencies. -/
def ang (p : BitVec 32) (j : Fin 32) : EReal :=
  FloatOps.sitofp (F := Ideal) .f32 p * Ideal.pow (Ideal.ofBits .f32 0x461C4000#32)
    (-Ideal.div (FloatOps.sitofp (F := Ideal) .f32 (BitVec.ofNat 32 j.val) * Ideal.ofBits .f32 0x40000000#32)
      (Ideal.ofBits .f32 0x42800000#32))

/-- The cosine of the angle. -/
def co (p : BitVec 32) (j : Fin 32) : EReal := Ideal.cos (ang p j)
/-- The sine of the angle. -/
def si (p : BitVec 32) (j : Fin 32) : EReal := Ideal.sin (ang p j)
/-- The sine with its sign turned on the first half of a head's 64 columns. -/
def ssi (p : BitVec 32) (l : ℕ) : EReal :=
  if l % 64 < 32 then -si p ⟨l % 32, Nat.mod_lt _ (by decide)⟩ else si p ⟨l % 32, Nat.mod_lt _ (by decide)⟩

/-- The column half a head away. -/
def mate (e : ℕ) : ℕ := if e % 64 < 32 then e + 32 else e - 32

theorem mate_lt {n e : ℕ} (h : e < 64 * n) : mate e < 64 * n := by unfold mate; split <;> omega

/-- The gradient before the rotation of eight heads, from the gradient after it. -/
def unrope (p : BitVec 32) (d : Fin 512 → EReal) (e : Fin 512) : EReal :=
  d e * co p ⟨e.val % 32, Nat.mod_lt _ (by decide)⟩ - d ⟨mate e, mate_lt (n := 8) e.isLt⟩ * ssi p e

/-- On the first half of a head the rotation adds the second half's share. -/
theorem unrope_lo (p : BitVec 32) (d : Fin 512 → EReal) (e a b : Fin 512) (j : Fin 32) (h : e.val % 64 < 32) (ha : a.val = e)
    (hb : b.val = e + 32) (hj : j.val = e % 32) : d b * si p j + d a * co p j = unrope p d e := by
  obtain rfl : a = e := Fin.ext ha
  unfold unrope ssi
  rw [if_pos h, mul_neg, sub_eq_add_neg, neg_neg, add_comm]
  have h1 : b = ⟨mate a, mate_lt (n := 8) a.isLt⟩ := Fin.ext (by simp only [mate, if_pos h]; exact hb)
  have h2 : j = ⟨a.val % 32, Nat.mod_lt _ (by decide)⟩ := Fin.ext hj
  rw [h1, h2]

/-- On the second half of a head the rotation takes the first half's share away. -/
theorem unrope_hi (p : BitVec 32) (d : Fin 512 → EReal) (e a b : Fin 512) (j : Fin 32) (h : ¬e.val % 64 < 32) (ha : a.val = e)
    (hb : b.val = e - 32) (hj : j.val = e % 32) : d a * co p j + -d b * si p j = unrope p d e := by
  obtain rfl : a = e := Fin.ext ha
  unfold unrope ssi
  rw [if_neg h, neg_mul, ← sub_eq_add_neg]
  have h1 : b = ⟨mate a, mate_lt (n := 8) a.isLt⟩ := Fin.ext (by simp only [mate, if_neg h]; exact hb)
  have h2 : j = ⟨a.val % 32, Nat.mod_lt _ (by decide)⟩ := Fin.ext hj
  rw [h1, h2]

/-- The query gradient's scale. -/
abbrev scale : EReal := Ideal.ofBits .f32 0x3E000000#32

section
variable (p : BitVec 32) (dq dk dv : Fin 512 → EReal) (tl : Fin 1024 → EReal) (W : Fin 1024 → Fin 2560 → EReal)

/-- The gradient at the projection's columns: queries, keys, values and the rest side by side. -/
def dproj (e : Fin 2560) : EReal :=
  if h : e.val < 512 then unrope p (fun i => dq i * scale) ⟨e, h⟩
  else if h : e.val - 512 < 512 then unrope p dk ⟨e - 512, h⟩
  else if h : e.val - 1024 < 512 then dv ⟨e - 1024, h⟩
  else tl ⟨e - 1536, by omega⟩

/-- The gradient at the normalised row. -/
def dnorm (k : Fin 1024) : EReal := ∑ e, dproj p dq dk dv tl e * W k e

/-- The gradient at the row, through the residual and the norm. -/
def drow (x g dx1 : Fin 1024 → EReal) (k : Fin 1024) : EReal :=
  dx1 k + bwd x (fun j => dnorm p dq dk dv tl W j * g j) k

/-- What the row adds to the gain's gradient. -/
def dgain (x : Fin 1024 → EReal) (k : Fin 1024) : EReal := dnorm p dq dk dv tl W k * (x k * rms x)
end

/-- The block of small rows: the gain's gradient, the other small gradients one after another, and zeros. -/
def block (dg : Fin 1024 → EReal) (rows : Fin 11 → Fin 1024 → EReal) (r : Fin 16) (k : Fin 1024) : EReal :=
  if r.val < 1 then dg k else if h : r.val - 1 < 11 then rows ⟨r.val - 1, h⟩ k else 0

end Cert.InProjRow

end
-- ==== Proof.InBwdPayload.lean ====
/-
  What the values that the kernel's body stores or keeps are worth at a row and a column of its block: the rotation undone
  on 128 columns, the product with the stacked weights, the norm's gradient, and the products accumulated for the weights'
  gradient.
-/
module

public import proofs.«01_k».proof.Proof.InProjRow
public import proofs.«01_k».proof.Proof.Gen.InBwdIdeal.Skeleton
public import Idealize.ShloMosaic.Lib.Pointwise
public import Idealize.ShloMosaic.Lib.KernelVsHost

@[expose] public section

set_option maxRecDepth 16384

noncomputable section

namespace Cert.InBwdIdeal.Payload

open Idealize.ShloMosaic Cert.InBwdIdeal Cert.InBwdIdeal.Gen Cert.RowMath Cert.InProjRow

/-- A row of a block. -/
abbrev row {n k : ℕ} (x : Shape.Idx ⟨2, ![n, k]⟩ → EReal) (r : Fin n) (c : Fin k) : EReal := x (ix2 r c)

/-! ## The rotation undone -/

/-- Two heads' columns of a gradient with the rotation undone. -/
abbrev rope (v c s : Vec Ideal S256x128 .f32) : FVec Ideal S256x128 .bf16 := k0_pay10 (F := Ideal) c s v

/-- The lanes of the first halves of the two heads. -/
def lanes : IVec S256x128 1 := cmpi .slt (select k0_pay22 k0_pay23 k0_pay21) (broadcast S256x128 32#32)

theorem lanes_apply (r : Fin 256) (l : Fin 128) : lanes (ix2 r l) = if l.val % 64 < 32 then 1#1 else 0#1 := by
  have h : ∀ l : Fin 128, lanes (ix2 r l) = if l.val % 64 < 32 then 1#1 else 0#1 := by
    pointwise [lanes, k0_pay21, k0_pay22, k0_pay23]
    decide
  exact h l

/-- The rotated lanes of a vector: 32 lanes further or 32 lanes back. -/
def turned (v : Vec Ideal S256x128 .f32) : FVec Ideal S256x128 .f32 :=
  select lanes (dynamicRotate 1 96#32 none v rotates_S256x128_d1) (dynamicRotate 1 32#32 none v rotates_S256x128_d1)

theorem turned_apply (v : Vec Ideal S256x128 .f32) (r : Fin 256) (l : Fin 128) :
    turned v (ix2 r l) = v (ix2 r (⟨mate l, mate_lt (n := 2) l.isLt⟩ : Fin 128)) := by
  have e : turned v (ix2 r l) = Scalar.select (lanes (ix2 r l)) (dynamicRotate 1 96#32 none v rotates_S256x128_d1 (ix2 r l))
      (dynamicRotate 1 32#32 none v rotates_S256x128_d1 (ix2 r l)) := rfl
  rw [e, lanes_apply]
  unfold mate
  by_cases h : l.val % 64 < 32
  · rw [if_pos h]
    refine (if_pos rfl).trans (dynamicRotate_apply 1 96#32 v _ _ _ fun b => ?_)
    fin_cases b
    · rfl
    · show (if l.val % 64 < 32 then l.val + 32 else l.val - 32) = (l.val + 128 - 96 % 128) % 128
      rw [if_pos h]; omega
  · rw [if_neg h]
    refine (if_neg (by decide)).trans (dynamicRotate_apply 1 32#32 v _ _ _ fun b => ?_)
    fin_cases b
    · rfl
    · show (if l.val % 64 < 32 then l.val + 32 else l.val - 32) = (l.val + 128 - 32 % 128) % 128
      rw [if_neg h]; omega

theorem rope_apply (v c s : Vec Ideal S256x128 .f32) (r : Fin 256) (l : Fin 128) : rope v c s (ix2 r l)
    = v (ix2 r l) * c (ix2 r l) - v (ix2 r (⟨mate l, mate_lt (n := 2) l.isLt⟩ : Fin 128)) * s (ix2 r l) := by
  rw [← turned_apply v r l]
  have e : rope v c s = shapeCast S256x128 (truncf .bf16 (subf (mulf v c) (mulf (turned v) s)) bitsLt_bf16_f32)
    shapeCasts_S256x128_S256x128 := rfl
  rw [e]
  pointwise []

/-! ## The products and the norm -/

variable (D E : Vec Ideal S256x2560 .bf16) (W : Vec Ideal S1024x2560 .bf16) (x : Vec Ideal S256x1024 .f32)
  (g : Vec Ideal S1x1024 .f32) (r : Fin 256) (k : Fin 1024)

/-- The gradient at a normalised row, from the gradient at the projection's columns. -/
def dn (D : Vec Ideal S256x2560 .bf16) (W : Vec Ideal S1024x2560 .bf16) (r : Fin 256) (k : Fin 1024) : EReal :=
  ∑ e : Fin 2560, D (ix2 r e) * W (ix2 k e)

theorem pay48 : k0_pay48 (F := Ideal) D W (ix2 r k) = dn D W r k := by
  pointwise [k0_pay48, dn]
theorem pay49 : k0_pay49 (F := Ideal) D W (ix2 r k) = dn D W r k := by
  pointwise [k0_pay49, dn]
theorem pay50 : k0_pay50 (F := Ideal) x (ix2 r 0) = rms (row x r) := by
  pointwise [k0_pay50, rms, msq]
theorem pay54 : k0_pay54 (F := Ideal) x (ix2 r 0) = rms (row x r) := by
  pointwise [k0_pay54, rms, msq]
theorem pay51 : k0_pay51 (F := Ideal) x (ix2 r k) = x (ix2 r k) * rms (row x r) := by
  pointwise [k0_pay51, pay50]
theorem pay55 : k0_pay55 (F := Ideal) x (ix2 r k) = x (ix2 r k) * rms (row x r) := by
  pointwise [k0_pay55, pay54]
/-- What the first half of the block adds to the gain's gradient. -/
theorem pay52 : k0_pay52 (F := Ideal) D W x g (ix2 0 k)
    = g (ix2 0 k) + ∑ r : Fin 256, dn D W r k * (x (ix2 r k) * rms (row x r)) := by
  pointwise [k0_pay52, pay48, pay51]
/-- What the second half of the block adds to the gain's gradient. -/
theorem pay56 : k0_pay56 (F := Ideal) (k0_pay49 D W) x g (ix2 0 k)
    = g (ix2 0 k) + ∑ r : Fin 256, dn D W r k * (x (ix2 r k) * rms (row x r)) := by
  pointwise [k0_pay56, pay49, pay55]
/-- The gradient at a row, first half of the block. -/
theorem pay53 (d : Vec Ideal S256x1024 .f32) :
    k0_pay53 (F := Ideal) (k0_pay48 D W) (k0_pay50 x) (k0_pay51 x) d g (ix2 r k)
      = d (ix2 r k) + bwd (row x r) (fun j => dn D W r j * g (ix2 0 j)) k := by
  pointwise [k0_pay53, pay48, pay50, pay51, bwd, pull]
theorem pay57 : k0_pay57 (F := Ideal) (k0_pay49 D W) g (ix2 r k) = dn D W r k * g (ix2 0 k) := by
  pointwise [k0_pay57, pay49]
theorem pay58 : k0_pay58 (F := Ideal) (k0_pay49 D W) x g (ix2 r 0)
    = ∑ k, x (ix2 r k) * rms (row x r) * (dn D W r k * g (ix2 0 k)) := by
  pointwise [k0_pay58, pay57, pay55]
/-- The gradient at a row, second half of the block. -/
theorem pay59 (d : Vec Ideal S256x1024 .f32) :
    k0_pay59 (F := Ideal) (k0_pay54 x) (k0_pay55 x) d (k0_pay57 (k0_pay49 D W) g) (k0_pay58 (k0_pay49 D W) x g) (ix2 r k)
      = d (ix2 r k) + bwd (row x r) (fun j => dn D W r j * g (ix2 0 j)) k := by
  pointwise [k0_pay59, pay57, pay58, pay54, pay55, bwd, pull]

/-! ## The weights' gradient -/

/-- The product of a column of the normalised rows and a column of the gradient, over the block's rows. -/
def prod (H : Vec Ideal S512x1024 .bf16) (P : Vec Ideal S512x512 .bf16) (i : Fin 1024) (j : Fin 512) : EReal :=
  ∑ s : Fin 512, H (ix2 s i) * P (ix2 s j)

variable (H : Vec Ideal S512x1024 .bf16) (P : Vec Ideal S512x512 .bf16) (i : Fin 1024) (j : Fin 512) (a : Fin 512)

theorem pay61 : k0_pay61 (F := Ideal) H P (ix2 i j) = prod H P i j := by
  pointwise [k0_pay61, k0_pay60, prod]
theorem pay64 : k0_pay64 (F := Ideal) H P (ix2 i j) = prod H P i j := by
  pointwise [k0_pay64, k0_pay60, prod]
theorem pay70 : k0_pay70 (F := Ideal) (k0_pay60 H) P (ix2 i j) = prod H P i j := by
  pointwise [k0_pay70, k0_pay60, prod]
theorem pay75 : k0_pay75 (F := Ideal) (k0_pay60 H) P (ix2 i j) = prod H P i j := by
  pointwise [k0_pay75, k0_pay60, prod]
theorem pay81 : k0_pay81 (F := Ideal) (k0_pay60 H) P (ix2 i j) = prod H P i j := by
  pointwise [k0_pay81, k0_pay60, prod]
theorem t0a (o : Vec Ideal S1x1x512x512 .f32) (d : Fin 512) : k0_pay62 (F := Ideal) H P o (ix4 0 0 a d)
    = o (ix4 0 0 a d) + prod H P ⟨a.val, by omega⟩ ⟨d.val, by omega⟩ := by
  pointwise [k0_pay62, pay61]
theorem t0b (o : Vec Ideal S1x1x512x512 .f32) (d : Fin 512) : k0_pay63 (F := Ideal) H P o (ix4 0 0 a d)
    = o (ix4 0 0 a d) + prod H P ⟨512 + a.val, by omega⟩ ⟨d.val, by omega⟩ := by
  pointwise [k0_pay63, pay61]
theorem t1a (o : Vec Ideal S1x1x512x128 .f32) (d : Fin 128) : k0_pay65 (F := Ideal) (k0_pay64 H P) o (ix4 0 0 a d)
    = o (ix4 0 0 a d) + prod H P ⟨a.val, by omega⟩ ⟨d.val, by omega⟩ := by
  pointwise [k0_pay65, pay64]
theorem t1b (o : Vec Ideal S1x1x512x128 .f32) (d : Fin 128) : k0_pay66 (F := Ideal) (k0_pay64 H P) o (ix4 0 0 a d)
    = o (ix4 0 0 a d) + prod H P ⟨512 + a.val, by omega⟩ ⟨d.val, by omega⟩ := by
  pointwise [k0_pay66, pay64]
theorem t2a (o : Vec Ideal S1x1x512x384 .f32) (d : Fin 384) : k0_pay67 (F := Ideal) (k0_pay64 H P) o (ix4 0 0 a d)
    = o (ix4 0 0 a d) + prod H P ⟨a.val, by omega⟩ ⟨128 + d.val, by omega⟩ := by
  pointwise [k0_pay67, pay64]
theorem t2b (o : Vec Ideal S1x1x512x384 .f32) (d : Fin 384) : k0_pay69 (F := Ideal) (k0_pay68 (k0_pay64 H P) o) (ix4 0 0 a d)
    = o (ix4 0 0 a d) + prod H P ⟨512 + a.val, by omega⟩ ⟨128 + d.val, by omega⟩ := by
  pointwise [k0_pay69, k0_pay68, pay64]
theorem t3a (o : Vec Ideal S1x1x512x256 .f32) (d : Fin 256) : k0_pay71 (F := Ideal) (k0_pay60 H) P o (ix4 0 0 a d)
    = o (ix4 0 0 a d) + prod H P ⟨a.val, by omega⟩ ⟨d.val, by omega⟩ := by
  pointwise [k0_pay71, pay70]
theorem t3b (o : Vec Ideal S1x1x512x256 .f32) (d : Fin 256) : k0_pay72 (F := Ideal) (k0_pay60 H) P o (ix4 0 0 a d)
    = o (ix4 0 0 a d) + prod H P ⟨512 + a.val, by omega⟩ ⟨d.val, by omega⟩ := by
  pointwise [k0_pay72, pay70]
theorem t4a (o : Vec Ideal S1x1x512x256 .f32) (d : Fin 256) : k0_pay73 (F := Ideal) (k0_pay60 H) P o (ix4 0 0 a d)
    = o (ix4 0 0 a d) + prod H P ⟨a.val, by omega⟩ ⟨256 + d.val, by omega⟩ := by
  pointwise [k0_pay73, pay70]
theorem t4b (o : Vec Ideal S1x1x512x256 .f32) (d : Fin 256) : k0_pay74 (F := Ideal) (k0_pay70 (k0_pay60 H) P) o (ix4 0 0 a d)
    = o (ix4 0 0 a d) + prod H P ⟨512 + a.val, by omega⟩ ⟨256 + d.val, by omega⟩ := by
  pointwise [k0_pay74, pay70]
theorem t5a (o : Vec Ideal S1x1x512x384 .f32) (d : Fin 384) : k0_pay76 (F := Ideal) (k0_pay60 H) P o (ix4 0 0 a d)
    = o (ix4 0 0 a d) + prod H P ⟨a.val, by omega⟩ ⟨d.val, by omega⟩ := by
  pointwise [k0_pay76, pay75]
theorem t5b (o : Vec Ideal S1x1x512x384 .f32) (d : Fin 384) : k0_pay77 (F := Ideal) (k0_pay60 H) P o (ix4 0 0 a d)
    = o (ix4 0 0 a d) + prod H P ⟨512 + a.val, by omega⟩ ⟨d.val, by omega⟩ := by
  pointwise [k0_pay77, pay75]
theorem t6a (o : Vec Ideal S1x1x512x128 .f32) (d : Fin 128) : k0_pay79 (F := Ideal) (k0_pay78 (k0_pay60 H) P o) (ix4 0 0 a d)
    = o (ix4 0 0 a d) + prod H P ⟨a.val, by omega⟩ ⟨384 + d.val, by omega⟩ := by
  pointwise [k0_pay79, k0_pay78, pay75]
theorem t6b (o : Vec Ideal S1x1x512x128 .f32) (d : Fin 128) : k0_pay80 (F := Ideal) (k0_pay75 (k0_pay60 H) P) o (ix4 0 0 a d)
    = o (ix4 0 0 a d) + prod H P ⟨512 + a.val, by omega⟩ ⟨384 + d.val, by omega⟩ := by
  pointwise [k0_pay80, pay75]
theorem t7a (o : Vec Ideal S1x1x512x512 .f32) (d : Fin 512) : k0_pay82 (F := Ideal) (k0_pay60 H) P o (ix4 0 0 a d)
    = o (ix4 0 0 a d) + prod H P ⟨a.val, by omega⟩ ⟨d.val, by omega⟩ := by
  pointwise [k0_pay82, pay81]
theorem t7b (o : Vec Ideal S1x1x512x512 .f32) (d : Fin 512) : k0_pay83 (F := Ideal) (k0_pay60 H) P o (ix4 0 0 a d)
    = o (ix4 0 0 a d) + prod H P ⟨512 + a.val, by omega⟩ ⟨d.val, by omega⟩ := by
  pointwise [k0_pay83, pay81]

/-! ## The zeros and the small rows -/

theorem pay4 : k0_pay4 (F := Ideal) (ix2 0 k) = 0 := by
  pointwise [k0_pay4]
theorem pay5 (h : Fin 2) (n : Fin 4) (d : Fin 640) : k0_pay5 (F := Ideal) (ix4 h n a d) = 0 := by
  pointwise [k0_pay5]
theorem pay1 (q : Fin 16) : k0_pay1 (F := Ideal) (ix2 q k) = 0 := by
  pointwise [k0_pay1]
theorem pay2 : k0_pay2 (F := Ideal) g (ix2 0 k) = g (ix2 0 k) := by
  pointwise [k0_pay2]
theorem pay3 (R : Vec Ideal S11x1024 .f32) (q : Fin 11) : k0_pay3 (F := Ideal) R (ix2 q k) = R (ix2 q k) := by
  pointwise [k0_pay3]

end Cert.InBwdIdeal.Payload

end
-- ==== Proof.InBwdBlocks.lean ====
/-
  The values of one grid point of the kernel, from the blocks it is given: the gradient at the projection's columns, as it
  stands in the scratch after the twenty stores, and what the loads of its rows and of its columns give to the products.
-/
module

public import proofs.«01_k».proof.Proof.InBwdPayload
public import Idealize.ShloMosaic.Lib.Ring
public import Idealize.ShloMosaic.Lib.Pipeline.ValueKit

@[expose] public section

set_option maxRecDepth 16384

noncomputable section

namespace Cert.InBwdIdeal.Blocks

open Idealize.ShloMosaic Cert.InBwdIdeal Cert.InBwdIdeal.Gen Cert.RowMath Cert.InProjRow Cert.InBwdIdeal.Payload

/-! ## The gradient at the projection's columns -/

section
variable (p : Fin 512 → BitVec 32) (Q K V : Vec Ideal S512x512 .f32) (T : Vec Ideal S512x1024 .bf16)

/-- The gradient at the projection's columns, at a row of the block. -/
def dp (r : Fin 512) (e : Fin 2560) : EReal :=
  dproj (p r) (row (n := 512) (k := 512) Q r) (row (n := 512) (k := 512) K r) (row (n := 512) (k := 512) V r)
    (row (n := 512) (k := 1024) T r) e

theorem unrope_at (pos : BitVec 32) (d : Fin 512 → EReal) (j : ℕ) (hj : j + 128 ≤ 512) (h64 : j % 64 = 0) (l : Fin 128) :
    d ⟨j + l, by omega⟩ * co pos ⟨l.val % 32, Nat.mod_lt _ (by decide)⟩
      - d ⟨j + mate l, by have := mate_lt (n := 2) l.isLt; omega⟩ * ssi pos l = unrope pos d ⟨j + l, by omega⟩ := by
  unfold unrope
  have e1 : (j + l.val) % 32 = l.val % 32 := by omega
  have e2 : (j + l.val) % 64 = l.val % 64 := by omega
  have e3 : mate (j + l.val) = j + mate l.val := by unfold mate; rw [e2]; split <;> omega
  have e4 : ssi pos (j + l.val) = ssi pos l.val := by unfold ssi; simp only [e1, e2]
  simp only [e1, e3, e4]

/-- A stored stretch of the query gradient. -/
theorem q_at (o j : ℕ) (ho : o + 256 ≤ 512) (hj : j + 128 ≤ 512) (h64 : j % 64 = 0) (q c s : Vec Ideal S256x128 .f32)
    (hq : ∀ r l, q (ix2 r l) = Q (ix2 (⟨o + r.val, by omega⟩ : Fin 512) (⟨j + l.val, by omega⟩ : Fin 512)) * scale)
    (hc : ∀ r l, c (ix2 r l) = co (p ⟨o + r.val, by omega⟩) ⟨l.val % 32, Nat.mod_lt _ (by decide)⟩)
    (hs : ∀ r l, s (ix2 r l) = ssi (p ⟨o + r.val, by omega⟩) l.val) (r : Fin 256) (l : Fin 128) :
    rope q c s (ix2 r l) = dp p Q K V T ⟨o + r.val, by omega⟩ ⟨j + l.val, by omega⟩ := by
  rw [rope_apply, hq, hq, hc, hs]
  unfold dp dproj
  rw [dif_pos (show j + l.val < 512 by omega)]
  exact unrope_at (p ⟨o + r.val, by omega⟩) (fun i => row (n := 512) (k := 512) Q ⟨o + r.val, by omega⟩ i * scale) j hj h64 l

/-- A stored stretch of the key gradient. -/
theorem k_at (o j : ℕ) (ho : o + 256 ≤ 512) (hj : j + 128 ≤ 512) (h64 : j % 64 = 0) (q c s : Vec Ideal S256x128 .f32)
    (hq : ∀ r l, q (ix2 r l) = K (ix2 (⟨o + r.val, by omega⟩ : Fin 512) (⟨j + l.val, by omega⟩ : Fin 512)))
    (hc : ∀ r l, c (ix2 r l) = co (p ⟨o + r.val, by omega⟩) ⟨l.val % 32, Nat.mod_lt _ (by decide)⟩)
    (hs : ∀ r l, s (ix2 r l) = ssi (p ⟨o + r.val, by omega⟩) l.val) (r : Fin 256) (l : Fin 128) :
    rope q c s (ix2 r l) = dp p Q K V T ⟨o + r.val, by omega⟩ ⟨512 + j + l.val, by omega⟩ := by
  rw [rope_apply, hq, hq, hc, hs]
  unfold dp dproj
  rw [dif_neg (show ¬512 + j + l.val < 512 by omega), dif_pos (show 512 + j + l.val - 512 < 512 by omega)]
  have e : (⟨512 + j + l.val - 512, by omega⟩ : Fin 512) = ⟨j + l.val, by omega⟩ := Fin.ext (by simp only; omega)
  rw [e]
  exact unrope_at (p ⟨o + r.val, by omega⟩) (row (n := 512) (k := 512) K ⟨o + r.val, by omega⟩) j hj h64 l

/-- The stored stretch of the value gradient. -/
theorem v_at (o : ℕ) (ho : o + 256 ≤ 512) (r : Fin 256) (l : Fin 512) :
    V (ix2 (⟨o + r.val, by omega⟩ : Fin 512) l) = dp p Q K V T ⟨o + r.val, by omega⟩ ⟨1024 + l.val, by omega⟩ := by
  unfold dp dproj
  rw [dif_neg (show ¬1024 + l.val < 512 by omega), dif_neg (show ¬1024 + l.val - 512 < 512 by omega),
    dif_pos (show 1024 + l.val - 1024 < 512 by omega)]
  exact congrArg (fun i => V (ix2 (⟨o + r.val, by omega⟩ : Fin 512) i)) (Fin.ext (by simp only; omega))

/-- The stored stretch of the remaining columns. -/
theorem t_at (o : ℕ) (ho : o + 256 ≤ 512) (r : Fin 256) (l : Fin 1024) :
    T (ix2 (⟨o + r.val, by omega⟩ : Fin 512) l) = dp p Q K V T ⟨o + r.val, by omega⟩ ⟨1536 + l.val, by omega⟩ := by
  unfold dp dproj
  rw [dif_neg (show ¬1536 + l.val < 512 by omega), dif_neg (show ¬1536 + l.val - 512 < 512 by omega),
    dif_neg (show ¬1536 + l.val - 1024 < 512 by omega)]
  exact congrArg (fun i => T (ix2 (⟨o + r.val, by omega⟩ : Fin 512) i)) (Fin.ext (by simp only; omega))
end

/-- Twenty stretches stored side by side hold, at a row and a column, what their stretch holds there. -/
theorem stretches (f : ℕ → ℕ → EReal)
    (P0 : Vec Ideal S256x128 .bf16)
    (P1 : Vec Ideal S256x128 .bf16)
    (P2 : Vec Ideal S256x128 .bf16)
    (P3 : Vec Ideal S256x128 .bf16)
    (P4 : Vec Ideal S256x128 .bf16)
    (P5 : Vec Ideal S256x128 .bf16)
    (P6 : Vec Ideal S256x128 .bf16)
    (P7 : Vec Ideal S256x128 .bf16)
    (P8 : Vec Ideal S256x512 .bf16)
    (P9 : Vec Ideal S256x1024 .bf16)
    (P10 : Vec Ideal S256x128 .bf16)
    (P11 : Vec Ideal S256x128 .bf16)
    (P12 : Vec Ideal S256x128 .bf16)
    (P13 : Vec Ideal S256x128 .bf16)
    (P14 : Vec Ideal S256x128 .bf16)
    (P15 : Vec Ideal S256x128 .bf16)
    (P16 : Vec Ideal S256x128 .bf16)
    (P17 : Vec Ideal S256x128 .bf16)
    (P18 : Vec Ideal S256x512 .bf16)
    (P19 : Vec Ideal S256x1024 .bf16)
    (h0 : ∀ (r : Fin 256) (l : Fin 128), P0 (ix2 r l) = f (0 + r.val) (0 + l.val))
    (h1 : ∀ (r : Fin 256) (l : Fin 128), P1 (ix2 r l) = f (0 + r.val) (512 + l.val))
    (h2 : ∀ (r : Fin 256) (l : Fin 128), P2 (ix2 r l) = f (0 + r.val) (128 + l.val))
    (h3 : ∀ (r : Fin 256) (l : Fin 128), P3 (ix2 r l) = f (0 + r.val) (640 + l.val))
    (h4 : ∀ (r : Fin 256) (l : Fin 128), P4 (ix2 r l) = f (0 + r.val) (256 + l.val))
    (h5 : ∀ (r : Fin 256) (l : Fin 128), P5 (ix2 r l) = f (0 + r.val) (768 + l.val))
    (h6 : ∀ (r : Fin 256) (l : Fin 128), P6 (ix2 r l) = f (0 + r.val) (384 + l.val))
    (h7 : ∀ (r : Fin 256) (l : Fin 128), P7 (ix2 r l) = f (0 + r.val) (896 + l.val))
    (h8 : ∀ (r : Fin 256) (l : Fin 512), P8 (ix2 r l) = f (0 + r.val) (1024 + l.val))
    (h9 : ∀ (r : Fin 256) (l : Fin 1024), P9 (ix2 r l) = f (0 + r.val) (1536 + l.val))
    (h10 : ∀ (r : Fin 256) (l : Fin 128), P10 (ix2 r l) = f (256 + r.val) (0 + l.val))
    (h11 : ∀ (r : Fin 256) (l : Fin 128), P11 (ix2 r l) = f (256 + r.val) (512 + l.val))
    (h12 : ∀ (r : Fin 256) (l : Fin 128), P12 (ix2 r l) = f (256 + r.val) (128 + l.val))
    (h13 : ∀ (r : Fin 256) (l : Fin 128), P13 (ix2 r l) = f (256 + r.val) (640 + l.val))
    (h14 : ∀ (r : Fin 256) (l : Fin 128), P14 (ix2 r l) = f (256 + r.val) (256 + l.val))
    (h15 : ∀ (r : Fin 256) (l : Fin 128), P15 (ix2 r l) = f (256 + r.val) (768 + l.val))
    (h16 : ∀ (r : Fin 256) (l : Fin 128), P16 (ix2 r l) = f (256 + r.val) (384 + l.val))
    (h17 : ∀ (r : Fin 256) (l : Fin 128), P17 (ix2 r l) = f (256 + r.val) (896 + l.val))
    (h18 : ∀ (r : Fin 256) (l : Fin 512), P18 (ix2 r l) = f (256 + r.val) (1024 + l.val))
    (h19 : ∀ (r : Fin 256) (l : Fin 1024), P19 (ix2 r l) = f (256 + r.val) (1536 + l.val))
    (R : Fin 512) (E : Fin 2560) :
    View.canon (Val := Elt Ideal) (s := S512x2560) (e := .bf16) [⟨Rect.unit ![256, 1536] ![256, 1024] inb_S512x2560_S256x1024_256_1536, P19⟩,
      ⟨Rect.unit ![256, 1024] ![256, 512] inb_S512x2560_S256x512_256_1024, P18⟩,
      ⟨Rect.unit ![256, 896] ![256, 128] inb_S512x2560_S256x128_256_896, P17⟩,
      ⟨Rect.unit ![256, 384] ![256, 128] inb_S512x2560_S256x128_256_384, P16⟩,
      ⟨Rect.unit ![256, 768] ![256, 128] inb_S512x2560_S256x128_256_768, P15⟩,
      ⟨Rect.unit ![256, 256] ![256, 128] inb_S512x2560_S256x128_256_256, P14⟩,
      ⟨Rect.unit ![256, 640] ![256, 128] inb_S512x2560_S256x128_256_640, P13⟩,
      ⟨Rect.unit ![256, 128] ![256, 128] inb_S512x2560_S256x128_256_128, P12⟩,
      ⟨Rect.unit ![256, 512] ![256, 128] inb_S512x2560_S256x128_256_512, P11⟩,
      ⟨Rect.unit ![256, 0] ![256, 128] inb_S512x2560_S256x128_256_0, P10⟩,
      ⟨Rect.unit ![0, 1536] ![256, 1024] inb_S512x2560_S256x1024_0_1536, P9⟩,
      ⟨Rect.unit ![0, 1024] ![256, 512] inb_S512x2560_S256x512_0_1024, P8⟩,
      ⟨Rect.unit ![0, 896] ![256, 128] inb_S512x2560_S256x128_0_896, P7⟩,
      ⟨Rect.unit ![0, 384] ![256, 128] inb_S512x2560_S256x128_0_384, P6⟩,
      ⟨Rect.unit ![0, 768] ![256, 128] inb_S512x2560_S256x128_0_768, P5⟩,
      ⟨Rect.unit ![0, 256] ![256, 128] inb_S512x2560_S256x128_0_256, P4⟩,
      ⟨Rect.unit ![0, 640] ![256, 128] inb_S512x2560_S256x128_0_640, P3⟩,
      ⟨Rect.unit ![0, 128] ![256, 128] inb_S512x2560_S256x128_0_128, P2⟩,
      ⟨Rect.unit ![0, 512] ![256, 128] inb_S512x2560_S256x128_0_512, P1⟩,
      ⟨Rect.unit ![0, 0] ![256, 128] inb_S512x2560_S256x128_0_0, P0⟩]
      (ix2 R E : Shape.Idx S512x2560) = f R.val E.val := by
  have piece {w : ℕ} (P : Shape.Idx ⟨2, ![256, w]⟩ → EReal) (o c : ℕ)
      (hP : ∀ (r : Fin 256) (l : Fin w), P (ix2 r l) = f (o + r.val) (c + l.val))
      (x : Shape.Idx ⟨2, ![256, w]⟩) (hr : R.val = o + (x 0).val) (hl : E.val = c + (x 1).val) : P x = f R.val E.val := by
    rw [eq_ix2 x]
    exact (hP (x 0) (x 1)).trans (congrArg₂ f hr.symm hl.symm)
  canon_tiles x q using Idealize.ShloMosaic.View.cover_of_tiledBy _ ![256, 128] (by sl_kernel_rfl) _
  case piece0 => exact piece P19 256 1536 h19 x q0 q1
  case piece1 => exact piece P18 256 1024 h18 x q0 q1
  case piece2 => exact piece P17 256 896 h17 x q0 q1
  case piece3 => exact piece P16 256 384 h16 x q0 q1
  case piece4 => exact piece P15 256 768 h15 x q0 q1
  case piece5 => exact piece P14 256 256 h14 x q0 q1
  case piece6 => exact piece P13 256 640 h13 x q0 q1
  case piece7 => exact piece P12 256 128 h12 x q0 q1
  case piece8 => exact piece P11 256 512 h11 x q0 q1
  case piece9 => exact piece P10 256 0 h10 x q0 (q1.trans (Nat.zero_add _).symm)
  case piece10 => exact piece P9 0 1536 h9 x (q0.trans (Nat.zero_add _).symm) q1
  case piece11 => exact piece P8 0 1024 h8 x (q0.trans (Nat.zero_add _).symm) q1
  case piece12 => exact piece P7 0 896 h7 x (q0.trans (Nat.zero_add _).symm) q1
  case piece13 => exact piece P6 0 384 h6 x (q0.trans (Nat.zero_add _).symm) q1
  case piece14 => exact piece P5 0 768 h5 x (q0.trans (Nat.zero_add _).symm) q1
  case piece15 => exact piece P4 0 256 h4 x (q0.trans (Nat.zero_add _).symm) q1
  case piece16 => exact piece P3 0 640 h3 x (q0.trans (Nat.zero_add _).symm) q1
  case piece17 => exact piece P2 0 128 h2 x (q0.trans (Nat.zero_add _).symm) q1
  case piece18 => exact piece P1 0 512 h1 x (q0.trans (Nat.zero_add _).symm) q1
  case piece19 => exact piece P0 0 0 h0 x (q0.trans (Nat.zero_add _).symm) (q1.trans (Nat.zero_add _).symm)

end Cert.InBwdIdeal.Blocks

end
-- ==== Proof.InBwdLoads.lean ====
/-
  What the kernel's loads of the gradient at the projection's columns give: the rows of one half of the block, and 512
  columns of all of its rows; and what the stores of an output block's halves and of the weights' gradient's tiles leave.
-/
module

public import proofs.«01_k».proof.Proof.InBwdBlocks
public import Idealize.ShloMosaic.Lib.Pipeline.ReadBack

@[expose] public section

set_option maxRecDepth 16384

noncomputable section

namespace Cert.InBwdIdeal.Loads

open Idealize.ShloMosaic Idealize.ShloMosaic.TcCoe Cert.InBwdIdeal Cert.InBwdIdeal.Gen Cert.RowMath Cert.InProjRow Cert.InBwdIdeal.Payload
open Cert.InBwdIdeal.Blocks

/-! ## The stored stretches -/

section
variable (p : Fin 512 → BitVec 32) (Q K V : Vec Ideal S512x512 .f32) (T : Vec Ideal S512x1024 .bf16)
  (C N : Vec Ideal S512x128 .f32)

/-- The gradient at the projection's columns, at any numbers: zero outside the block. -/
def fd (r e : ℕ) : EReal := if h : r < 512 ∧ e < 2560 then dp p Q K V T ⟨r, h.1⟩ ⟨e, h.2⟩ else 0

theorem fd_eq (r : Fin 512) (e : Fin 2560) : fd p Q K V T r.val e.val = dp p Q K V T r e := dif_pos ⟨r.isLt, e.isLt⟩

theorem pay11 (v : Vec Ideal S256x128 .f32) (r : Fin 256) (l : Fin 128) : k0_pay11 (F := Ideal) v (ix2 r l) = v (ix2 r l) * scale := by
  pointwise [k0_pay11]
theorem pay6 (v : Vec Ideal S256x128 .f32) (r : Fin 256) (l : Fin 128) : k0_pay6 (F := Ideal) v (ix2 r l) = v (ix2 r l) := by
  pointwise [k0_pay6]
theorem pay7 (v : Vec Ideal S256x128 .f32) (r : Fin 256) (l : Fin 128) : k0_pay7 (F := Ideal) v (ix2 r l) = v (ix2 r l) := by
  pointwise [k0_pay7]

/-- A load of rows and columns of a block. -/
theorem ld_at {n k a b : ℕ} {e : EltTy} (X : Vec Ideal ⟨2, ![n, k]⟩ e) (o j : ℕ) (ho : o + a ≤ n) (hj : j + b ≤ k)
    (i : ∀ x, (![o, j] : Fin 2 → ℕ) x + (![a, b] : Fin 2 → ℕ) x ≤ (⟨2, ![n, k]⟩ : Shape).size x) (r : Fin a) (l : Fin b) :
    View.ld (Val := Elt Ideal) X (Rect.unit (s := ⟨2, ![n, k]⟩) ![o, j] ![a, b] i) (ix2 r l) = X (ix2 (⟨o + r.val, by omega⟩ : Fin n) (⟨j + l.val, by omega⟩ : Fin k)) :=
  View.ld_unit_apply_of X _ _ _ _ _ fun x => by fin_cases x <;> rfl

variable (hC : ∀ (r : Fin 512) (l : Fin 128), C (ix2 r l) = co (p r) ⟨l.val % 32, Nat.mod_lt _ (by decide)⟩)
  (hN : ∀ (r : Fin 512) (l : Fin 128), N (ix2 r l) = ssi (p r) l.val)
include hC hN

/-- A stored stretch of the query gradient. -/
theorem q_piece (o j : ℕ) (ho : o + 256 ≤ 512) (hj : j + 128 ≤ 512) (h64 : j % 64 = 0)
    (iQ : ∀ x, (![o, j] : Fin 2 → ℕ) x + (![256, 128] : Fin 2 → ℕ) x ≤ S512x512.size x)
    (iC : ∀ x, (![o, 0] : Fin 2 → ℕ) x + (![256, 128] : Fin 2 → ℕ) x ≤ S512x128.size x) (r : Fin 256) (l : Fin 128) :
    rope (k0_pay11 (View.ld Q (Rect.unit ![o, j] ![256, 128] iQ))) (k0_pay6 (View.ld C (Rect.unit ![o, 0] ![256, 128] iC)))
      (k0_pay7 (View.ld N (Rect.unit ![o, 0] ![256, 128] iC))) (ix2 r l) = fd p Q K V T (o + r.val) (j + l.val) := by
  refine (q_at p Q K V T o j ho hj h64 _ _ _ (fun r l => ?_) (fun r l => ?_) (fun r l => ?_) r l).trans (fd_eq p Q K V T _ _).symm
  · rw [pay11]; exact congrArg (· * scale) (ld_at Q o j ho hj iQ r l)
  · rw [pay6]; refine (ld_at C o 0 ho (by omega) iC r l).trans ((hC _ _).trans ?_); simp only [Nat.zero_add]
  · rw [pay7]; refine (ld_at N o 0 ho (by omega) iC r l).trans ((hN _ _).trans ?_); simp only [Nat.zero_add]

/-- A stored stretch of the key gradient. -/
theorem k_piece (o j : ℕ) (ho : o + 256 ≤ 512) (hj : j + 128 ≤ 512) (h64 : j % 64 = 0)
    (iQ : ∀ x, (![o, j] : Fin 2 → ℕ) x + (![256, 128] : Fin 2 → ℕ) x ≤ S512x512.size x)
    (iC : ∀ x, (![o, 0] : Fin 2 → ℕ) x + (![256, 128] : Fin 2 → ℕ) x ≤ S512x128.size x) (r : Fin 256) (l : Fin 128) :
    rope (View.ld K (Rect.unit ![o, j] ![256, 128] iQ)) (k0_pay6 (View.ld C (Rect.unit ![o, 0] ![256, 128] iC)))
      (k0_pay7 (View.ld N (Rect.unit ![o, 0] ![256, 128] iC))) (ix2 r l) = fd p Q K V T (o + r.val) (512 + j + l.val) := by
  refine (k_at p Q K V T o j ho hj h64 _ _ _ (fun r l => ?_) (fun r l => ?_) (fun r l => ?_) r l).trans (fd_eq p Q K V T _ _).symm
  · exact ld_at K o j ho hj iQ r l
  · rw [pay6]; refine (ld_at C o 0 ho (by omega) iC r l).trans ((hC _ _).trans ?_); simp only [Nat.zero_add]
  · rw [pay7]; refine (ld_at N o 0 ho (by omega) iC r l).trans ((hN _ _).trans ?_); simp only [Nat.zero_add]
omit hC hN

/-- The stored stretch of the value gradient. -/
theorem v_piece (o : ℕ) (ho : o + 256 ≤ 512) (iV : ∀ x, (![o, 0] : Fin 2 → ℕ) x + (![256, 512] : Fin 2 → ℕ) x ≤ S512x512.size x)
    (r : Fin 256) (l : Fin 512) :
    k0_pay25 (F := Ideal) (View.ld V (Rect.unit ![o, 0] ![256, 512] iV)) (ix2 r l) = fd p Q K V T (o + r.val) (1024 + l.val) := by
  refine Eq.trans ?_ ((v_at p Q K V T o ho r l).trans (fd_eq p Q K V T _ _).symm)
  have e : k0_pay25 (F := Ideal) (View.ld V (Rect.unit ![o, 0] ![256, 512] iV)) (ix2 r l) = View.ld V (Rect.unit ![o, 0] ![256, 512] iV) (ix2 r l) := by
    pointwise [k0_pay25]
  rw [e]; refine (ld_at V o 0 ho (by omega) iV r l).trans ?_; simp only [Nat.zero_add]

/-- The stored stretch of the remaining columns' gradient. -/
theorem t_piece (o : ℕ) (ho : o + 256 ≤ 512) (iT : ∀ x, (![o, 0] : Fin 2 → ℕ) x + (![256, 1024] : Fin 2 → ℕ) x ≤ S512x1024.size x)
    (r : Fin 256) (l : Fin 1024) :
    k0_pay26 (F := Ideal) (View.ld T (Rect.unit ![o, 0] ![256, 1024] iT)) (ix2 r l) = fd p Q K V T (o + r.val) (1536 + l.val) := by
  refine Eq.trans ?_ ((t_at p Q K V T o ho r l).trans (fd_eq p Q K V T _ _).symm)
  have e : k0_pay26 (F := Ideal) (View.ld T (Rect.unit ![o, 0] ![256, 1024] iT)) (ix2 r l) = View.ld T (Rect.unit ![o, 0] ![256, 1024] iT) (ix2 r l) := by
    pointwise [k0_pay26]
  rw [e]; refine (ld_at T o 0 ho (by omega) iT r l).trans ?_; simp only [Nat.zero_add]
end

/-! ## The loads -/

/-- A row and a column inside a stretch of the first half. -/
theorem mem (R : Fin 512) (E : Fin 2560) (o c w : ℕ) (i : ∀ x, (![o, c] : Fin 2 → ℕ) x + (![256, w] : Fin 2 → ℕ) x ≤ S512x2560.size x)
    (h0 : o ≤ R.val) (h1 : R.val < o + 256) (h2 : c ≤ E.val) (h3 : E.val < c + w) :
    (ix2 R E : Shape.Idx S512x2560) ∈ (Rect.unit (s := S512x2560) ![o, c] ![256, w] i).set := by
  refine Rect.mem_set_unit.mpr fun a => ?_
  fin_cases a
  · exact ⟨h0, h1⟩
  · exact ⟨h2, h3⟩

/-- A stretch's values are the function's values at its places. -/
theorem at_emb (f : ℕ → ℕ → EReal) {w : ℕ} (P : Shape.Idx ⟨2, ![256, w]⟩ → EReal) (o c : ℕ)
    (i : ∀ x, (![o, c] : Fin 2 → ℕ) x + (![256, w] : Fin 2 → ℕ) x ≤ S512x2560.size x)
    (hP : ∀ (r : Fin 256) (l : Fin w), P (ix2 r l) = f (o + r.val) (c + l.val)) (x : Shape.Idx ⟨2, ![256, w]⟩) :
    P x = (fun y : Shape.Idx S512x2560 => f (y 0).val (y 1).val) ((Rect.unit (s := S512x2560) ![o, c] ![256, w] i).emb x) := by
  rw [eq_ix2 x]
  refine (hP (x 0) (x 1)).trans (congrArg₂ f ?_ ?_)
  · first | rfl | (show _ = o + 1 * (x 0).val; omega) | (show _ = o + (x 0).val * 1; omega)
  · first | rfl | (show _ = c + 1 * (x 1).val; omega) | (show _ = c + (x 1).val * 1; omega)

/-- A load of rows and columns after stores. -/
theorem readCov_at (L : List (View.Piece (Elt Ideal) S512x2560 .bf16)) (o j a b : ℕ) (ho : o + a ≤ 512) (hj : j + b ≤ 2560)
    (i : ∀ x, (![o, j] : Fin 2 → ℕ) x + (![a, b] : Fin 2 → ℕ) x ≤ S512x2560.size x) (r : Fin a) (l : Fin b) :
    (View.whole cc0_scratch0).readCov (Val := Elt Ideal) L (Rect.unit (s := S512x2560) ![o, j] ![a, b] i).toLoadRect (ix2 r l)
      = View.canon (Val := Elt Ideal) (s := S512x2560) (e := .bf16) L (ix2 (⟨o + r.val, by omega⟩ : Fin 512) (⟨j + l.val, by omega⟩ : Fin 2560)) :=
  (congrFun (View.readCov_eq_canon' _ L _) _).trans (ld_at (e := .bf16) (View.canon (Val := Elt Ideal) (s := S512x2560) (e := .bf16) L) o j ho hj i r l)

/-- The first half's ten stores, at one of its rows. -/
theorem lo_canon (f : ℕ → ℕ → EReal)
    {P0 : Vec Ideal S256x128 .bf16}
    {P1 : Vec Ideal S256x128 .bf16}
    {P2 : Vec Ideal S256x128 .bf16}
    {P3 : Vec Ideal S256x128 .bf16}
    {P4 : Vec Ideal S256x128 .bf16}
    {P5 : Vec Ideal S256x128 .bf16}
    {P6 : Vec Ideal S256x128 .bf16}
    {P7 : Vec Ideal S256x128 .bf16}
    {P8 : Vec Ideal S256x512 .bf16}
    {P9 : Vec Ideal S256x1024 .bf16}
    (h0 : ∀ (r : Fin 256) (l : Fin 128), P0 (ix2 r l) = f (0 + r.val) (0 + l.val))
    (h1 : ∀ (r : Fin 256) (l : Fin 128), P1 (ix2 r l) = f (0 + r.val) (512 + l.val))
    (h2 : ∀ (r : Fin 256) (l : Fin 128), P2 (ix2 r l) = f (0 + r.val) (128 + l.val))
    (h3 : ∀ (r : Fin 256) (l : Fin 128), P3 (ix2 r l) = f (0 + r.val) (640 + l.val))
    (h4 : ∀ (r : Fin 256) (l : Fin 128), P4 (ix2 r l) = f (0 + r.val) (256 + l.val))
    (h5 : ∀ (r : Fin 256) (l : Fin 128), P5 (ix2 r l) = f (0 + r.val) (768 + l.val))
    (h6 : ∀ (r : Fin 256) (l : Fin 128), P6 (ix2 r l) = f (0 + r.val) (384 + l.val))
    (h7 : ∀ (r : Fin 256) (l : Fin 128), P7 (ix2 r l) = f (0 + r.val) (896 + l.val))
    (h8 : ∀ (r : Fin 256) (l : Fin 512), P8 (ix2 r l) = f (0 + r.val) (1024 + l.val))
    (h9 : ∀ (r : Fin 256) (l : Fin 1024), P9 (ix2 r l) = f (0 + r.val) (1536 + l.val))
    (R : Fin 512) (hR : R.val < 256) (E : Fin 2560) :
    View.canon (Val := Elt Ideal) (s := S512x2560) (e := .bf16) [⟨Rect.unit ![0, 1536] ![256, 1024] inb_S512x2560_S256x1024_0_1536, P9⟩, ⟨Rect.unit ![0, 1024] ![256, 512] inb_S512x2560_S256x512_0_1024, P8⟩, ⟨Rect.unit ![0, 896] ![256, 128] inb_S512x2560_S256x128_0_896, P7⟩, ⟨Rect.unit ![0, 384] ![256, 128] inb_S512x2560_S256x128_0_384, P6⟩, ⟨Rect.unit ![0, 768] ![256, 128] inb_S512x2560_S256x128_0_768, P5⟩, ⟨Rect.unit ![0, 256] ![256, 128] inb_S512x2560_S256x128_0_256, P4⟩, ⟨Rect.unit ![0, 640] ![256, 128] inb_S512x2560_S256x128_0_640, P3⟩, ⟨Rect.unit ![0, 128] ![256, 128] inb_S512x2560_S256x128_0_128, P2⟩, ⟨Rect.unit ![0, 512] ![256, 128] inb_S512x2560_S256x128_0_512, P1⟩, ⟨Rect.unit ![0, 0] ![256, 128] inb_S512x2560_S256x128_0_0, P0⟩] (ix2 R E : Shape.Idx S512x2560) = f R.val E.val := by
  have hp : View.PiecesOf (Val := Elt Ideal) (s := S512x2560) (e := .bf16) (fun y => f (y 0).val (y 1).val) [⟨Rect.unit ![0, 1536] ![256, 1024] inb_S512x2560_S256x1024_0_1536, P9⟩, ⟨Rect.unit ![0, 1024] ![256, 512] inb_S512x2560_S256x512_0_1024, P8⟩, ⟨Rect.unit ![0, 896] ![256, 128] inb_S512x2560_S256x128_0_896, P7⟩, ⟨Rect.unit ![0, 384] ![256, 128] inb_S512x2560_S256x128_0_384, P6⟩, ⟨Rect.unit ![0, 768] ![256, 128] inb_S512x2560_S256x128_0_768, P5⟩, ⟨Rect.unit ![0, 256] ![256, 128] inb_S512x2560_S256x128_0_256, P4⟩, ⟨Rect.unit ![0, 640] ![256, 128] inb_S512x2560_S256x128_0_640, P3⟩, ⟨Rect.unit ![0, 128] ![256, 128] inb_S512x2560_S256x128_0_128, P2⟩, ⟨Rect.unit ![0, 512] ![256, 128] inb_S512x2560_S256x128_0_512, P1⟩, ⟨Rect.unit ![0, 0] ![256, 128] inb_S512x2560_S256x128_0_0, P0⟩] :=
    ⟨at_emb f P9 0 1536 inb_S512x2560_S256x1024_0_1536 h9, at_emb f P8 0 1024 inb_S512x2560_S256x512_0_1024 h8, at_emb f P7 0 896 inb_S512x2560_S256x128_0_896 h7, at_emb f P6 0 384 inb_S512x2560_S256x128_0_384 h6, at_emb f P5 0 768 inb_S512x2560_S256x128_0_768 h5, at_emb f P4 0 256 inb_S512x2560_S256x128_0_256 h4, at_emb f P3 0 640 inb_S512x2560_S256x128_0_640 h3, at_emb f P2 0 128 inb_S512x2560_S256x128_0_128 h2, at_emb f P1 0 512 inb_S512x2560_S256x128_0_512 h1, at_emb f P0 0 0 inb_S512x2560_S256x128_0_0 h0, trivial⟩
  refine (congrArg (fun l => View.canon (Val := Elt Ideal) (s := S512x2560) (e := .bf16) l (ix2 R E : Shape.Idx S512x2560)) (List.append_nil _).symm).trans ?_
  refine View.canon_append_of_piecesOf _ [] _ hp _ ?_
  have hE := E.isLt
  by_cases c0 : E.val < 128
  · exact ⟨_, .tail _ (.tail _ (.tail _ (.tail _ (.tail _ (.tail _ (.tail _ (.tail _ (.tail _ (.head _))))))))), mem R E 0 0 128 inb_S512x2560_S256x128_0_0 (by omega) (by omega) (by omega) (by omega)⟩
  by_cases c1 : E.val < 256
  · exact ⟨_, .tail _ (.tail _ (.tail _ (.tail _ (.tail _ (.tail _ (.tail _ (.head _))))))), mem R E 0 128 128 inb_S512x2560_S256x128_0_128 (by omega) (by omega) (by omega) (by omega)⟩
  by_cases c2 : E.val < 384
  · exact ⟨_, .tail _ (.tail _ (.tail _ (.tail _ (.tail _ (.head _))))), mem R E 0 256 128 inb_S512x2560_S256x128_0_256 (by omega) (by omega) (by omega) (by omega)⟩
  by_cases c3 : E.val < 512
  · exact ⟨_, .tail _ (.tail _ (.tail _ (.head _))), mem R E 0 384 128 inb_S512x2560_S256x128_0_384 (by omega) (by omega) (by omega) (by omega)⟩
  by_cases c4 : E.val < 640
  · exact ⟨_, .tail _ (.tail _ (.tail _ (.tail _ (.tail _ (.tail _ (.tail _ (.tail _ (.head _)))))))), mem R E 0 512 128 inb_S512x2560_S256x128_0_512 (by omega) (by omega) (by omega) (by omega)⟩
  by_cases c5 : E.val < 768
  · exact ⟨_, .tail _ (.tail _ (.tail _ (.tail _ (.tail _ (.tail _ (.head _)))))), mem R E 0 640 128 inb_S512x2560_S256x128_0_640 (by omega) (by omega) (by omega) (by omega)⟩
  by_cases c6 : E.val < 896
  · exact ⟨_, .tail _ (.tail _ (.tail _ (.tail _ (.head _)))), mem R E 0 768 128 inb_S512x2560_S256x128_0_768 (by omega) (by omega) (by omega) (by omega)⟩
  by_cases c7 : E.val < 1024
  · exact ⟨_, .tail _ (.tail _ (.head _)), mem R E 0 896 128 inb_S512x2560_S256x128_0_896 (by omega) (by omega) (by omega) (by omega)⟩
  by_cases c8 : E.val < 1536
  · exact ⟨_, .tail _ (.head _), mem R E 0 1024 512 inb_S512x2560_S256x512_0_1024 (by omega) (by omega) (by omega) (by omega)⟩
  exact ⟨_, .head _, mem R E 0 1536 1024 inb_S512x2560_S256x1024_0_1536 (by omega) (by omega) (by omega) (by omega)⟩

/-- A load of the first half's rows after the first half's ten stores. -/
theorem lo_at (f : ℕ → ℕ → EReal)
    {P0 : Vec Ideal S256x128 .bf16}
    {P1 : Vec Ideal S256x128 .bf16}
    {P2 : Vec Ideal S256x128 .bf16}
    {P3 : Vec Ideal S256x128 .bf16}
    {P4 : Vec Ideal S256x128 .bf16}
    {P5 : Vec Ideal S256x128 .bf16}
    {P6 : Vec Ideal S256x128 .bf16}
    {P7 : Vec Ideal S256x128 .bf16}
    {P8 : Vec Ideal S256x512 .bf16}
    {P9 : Vec Ideal S256x1024 .bf16}
    (h0 : ∀ (r : Fin 256) (l : Fin 128), P0 (ix2 r l) = f (0 + r.val) (0 + l.val))
    (h1 : ∀ (r : Fin 256) (l : Fin 128), P1 (ix2 r l) = f (0 + r.val) (512 + l.val))
    (h2 : ∀ (r : Fin 256) (l : Fin 128), P2 (ix2 r l) = f (0 + r.val) (128 + l.val))
    (h3 : ∀ (r : Fin 256) (l : Fin 128), P3 (ix2 r l) = f (0 + r.val) (640 + l.val))
    (h4 : ∀ (r : Fin 256) (l : Fin 128), P4 (ix2 r l) = f (0 + r.val) (256 + l.val))
    (h5 : ∀ (r : Fin 256) (l : Fin 128), P5 (ix2 r l) = f (0 + r.val) (768 + l.val))
    (h6 : ∀ (r : Fin 256) (l : Fin 128), P6 (ix2 r l) = f (0 + r.val) (384 + l.val))
    (h7 : ∀ (r : Fin 256) (l : Fin 128), P7 (ix2 r l) = f (0 + r.val) (896 + l.val))
    (h8 : ∀ (r : Fin 256) (l : Fin 512), P8 (ix2 r l) = f (0 + r.val) (1024 + l.val))
    (h9 : ∀ (r : Fin 256) (l : Fin 1024), P9 (ix2 r l) = f (0 + r.val) (1536 + l.val))
    (r : Fin 256) (e : Fin 2560) :
    (View.whole cc0_scratch0).readCov (Val := Elt Ideal) [⟨Rect.unit ![0, 1536] ![256, 1024] inb_S512x2560_S256x1024_0_1536, P9⟩, ⟨Rect.unit ![0, 1024] ![256, 512] inb_S512x2560_S256x512_0_1024, P8⟩, ⟨Rect.unit ![0, 896] ![256, 128] inb_S512x2560_S256x128_0_896, P7⟩, ⟨Rect.unit ![0, 384] ![256, 128] inb_S512x2560_S256x128_0_384, P6⟩, ⟨Rect.unit ![0, 768] ![256, 128] inb_S512x2560_S256x128_0_768, P5⟩, ⟨Rect.unit ![0, 256] ![256, 128] inb_S512x2560_S256x128_0_256, P4⟩, ⟨Rect.unit ![0, 640] ![256, 128] inb_S512x2560_S256x128_0_640, P3⟩, ⟨Rect.unit ![0, 128] ![256, 128] inb_S512x2560_S256x128_0_128, P2⟩, ⟨Rect.unit ![0, 512] ![256, 128] inb_S512x2560_S256x128_0_512, P1⟩, ⟨Rect.unit ![0, 0] ![256, 128] inb_S512x2560_S256x128_0_0, P0⟩]
      (Rect.unit (s := S512x2560) ![0, 0] ![256, 2560] inb_S512x2560_S256x2560_0_0).toLoadRect (ix2 r e) = f r.val e.val := by
  refine (readCov_at _ 0 0 256 2560 (by omega) (by omega) _ r e).trans ?_
  refine (lo_canon f h0 h1 h2 h3 h4 h5 h6 h7 h8 h9 _ (by simp only; omega) _).trans ?_
  simp only [Nat.zero_add]

/-- A load of rows and columns after the twenty stores. -/
theorem all_at (f : ℕ → ℕ → EReal)
    {P0 : Vec Ideal S256x128 .bf16}
    {P1 : Vec Ideal S256x128 .bf16}
    {P2 : Vec Ideal S256x128 .bf16}
    {P3 : Vec Ideal S256x128 .bf16}
    {P4 : Vec Ideal S256x128 .bf16}
    {P5 : Vec Ideal S256x128 .bf16}
    {P6 : Vec Ideal S256x128 .bf16}
    {P7 : Vec Ideal S256x128 .bf16}
    {P8 : Vec Ideal S256x512 .bf16}
    {P9 : Vec Ideal S256x1024 .bf16}
    {P10 : Vec Ideal S256x128 .bf16}
    {P11 : Vec Ideal S256x128 .bf16}
    {P12 : Vec Ideal S256x128 .bf16}
    {P13 : Vec Ideal S256x128 .bf16}
    {P14 : Vec Ideal S256x128 .bf16}
    {P15 : Vec Ideal S256x128 .bf16}
    {P16 : Vec Ideal S256x128 .bf16}
    {P17 : Vec Ideal S256x128 .bf16}
    {P18 : Vec Ideal S256x512 .bf16}
    {P19 : Vec Ideal S256x1024 .bf16}
    (h0 : ∀ (r : Fin 256) (l : Fin 128), P0 (ix2 r l) = f (0 + r.val) (0 + l.val))
    (h1 : ∀ (r : Fin 256) (l : Fin 128), P1 (ix2 r l) = f (0 + r.val) (512 + l.val))
    (h2 : ∀ (r : Fin 256) (l : Fin 128), P2 (ix2 r l) = f (0 + r.val) (128 + l.val))
    (h3 : ∀ (r : Fin 256) (l : Fin 128), P3 (ix2 r l) = f (0 + r.val) (640 + l.val))
    (h4 : ∀ (r : Fin 256) (l : Fin 128), P4 (ix2 r l) = f (0 + r.val) (256 + l.val))
    (h5 : ∀ (r : Fin 256) (l : Fin 128), P5 (ix2 r l) = f (0 + r.val) (768 + l.val))
    (h6 : ∀ (r : Fin 256) (l : Fin 128), P6 (ix2 r l) = f (0 + r.val) (384 + l.val))
    (h7 : ∀ (r : Fin 256) (l : Fin 128), P7 (ix2 r l) = f (0 + r.val) (896 + l.val))
    (h8 : ∀ (r : Fin 256) (l : Fin 512), P8 (ix2 r l) = f (0 + r.val) (1024 + l.val))
    (h9 : ∀ (r : Fin 256) (l : Fin 1024), P9 (ix2 r l) = f (0 + r.val) (1536 + l.val))
    (h10 : ∀ (r : Fin 256) (l : Fin 128), P10 (ix2 r l) = f (256 + r.val) (0 + l.val))
    (h11 : ∀ (r : Fin 256) (l : Fin 128), P11 (ix2 r l) = f (256 + r.val) (512 + l.val))
    (h12 : ∀ (r : Fin 256) (l : Fin 128), P12 (ix2 r l) = f (256 + r.val) (128 + l.val))
    (h13 : ∀ (r : Fin 256) (l : Fin 128), P13 (ix2 r l) = f (256 + r.val) (640 + l.val))
    (h14 : ∀ (r : Fin 256) (l : Fin 128), P14 (ix2 r l) = f (256 + r.val) (256 + l.val))
    (h15 : ∀ (r : Fin 256) (l : Fin 128), P15 (ix2 r l) = f (256 + r.val) (768 + l.val))
    (h16 : ∀ (r : Fin 256) (l : Fin 128), P16 (ix2 r l) = f (256 + r.val) (384 + l.val))
    (h17 : ∀ (r : Fin 256) (l : Fin 128), P17 (ix2 r l) = f (256 + r.val) (896 + l.val))
    (h18 : ∀ (r : Fin 256) (l : Fin 512), P18 (ix2 r l) = f (256 + r.val) (1024 + l.val))
    (h19 : ∀ (r : Fin 256) (l : Fin 1024), P19 (ix2 r l) = f (256 + r.val) (1536 + l.val))
    (o j a b : ℕ) (ho : o + a ≤ 512) (hj : j + b ≤ 2560)
    (i : ∀ x, (![o, j] : Fin 2 → ℕ) x + (![a, b] : Fin 2 → ℕ) x ≤ S512x2560.size x) (r : Fin a) (l : Fin b) :
    (View.whole cc0_scratch0).readCov (Val := Elt Ideal) [⟨Rect.unit ![256, 1536] ![256, 1024] inb_S512x2560_S256x1024_256_1536, P19⟩, ⟨Rect.unit ![256, 1024] ![256, 512] inb_S512x2560_S256x512_256_1024, P18⟩, ⟨Rect.unit ![256, 896] ![256, 128] inb_S512x2560_S256x128_256_896, P17⟩, ⟨Rect.unit ![256, 384] ![256, 128] inb_S512x2560_S256x128_256_384, P16⟩, ⟨Rect.unit ![256, 768] ![256, 128] inb_S512x2560_S256x128_256_768, P15⟩, ⟨Rect.unit ![256, 256] ![256, 128] inb_S512x2560_S256x128_256_256, P14⟩, ⟨Rect.unit ![256, 640] ![256, 128] inb_S512x2560_S256x128_256_640, P13⟩, ⟨Rect.unit ![256, 128] ![256, 128] inb_S512x2560_S256x128_256_128, P12⟩, ⟨Rect.unit ![256, 512] ![256, 128] inb_S512x2560_S256x128_256_512, P11⟩, ⟨Rect.unit ![256, 0] ![256, 128] inb_S512x2560_S256x128_256_0, P10⟩, ⟨Rect.unit ![0, 1536] ![256, 1024] inb_S512x2560_S256x1024_0_1536, P9⟩, ⟨Rect.unit ![0, 1024] ![256, 512] inb_S512x2560_S256x512_0_1024, P8⟩, ⟨Rect.unit ![0, 896] ![256, 128] inb_S512x2560_S256x128_0_896, P7⟩, ⟨Rect.unit ![0, 384] ![256, 128] inb_S512x2560_S256x128_0_384, P6⟩, ⟨Rect.unit ![0, 768] ![256, 128] inb_S512x2560_S256x128_0_768, P5⟩, ⟨Rect.unit ![0, 256] ![256, 128] inb_S512x2560_S256x128_0_256, P4⟩, ⟨Rect.unit ![0, 640] ![256, 128] inb_S512x2560_S256x128_0_640, P3⟩, ⟨Rect.unit ![0, 128] ![256, 128] inb_S512x2560_S256x128_0_128, P2⟩, ⟨Rect.unit ![0, 512] ![256, 128] inb_S512x2560_S256x128_0_512, P1⟩, ⟨Rect.unit ![0, 0] ![256, 128] inb_S512x2560_S256x128_0_0, P0⟩]
      (Rect.unit (s := S512x2560) ![o, j] ![a, b] i).toLoadRect (ix2 r l) = f (o + r.val) (j + l.val) :=
  (readCov_at _ o j a b ho hj i r l).trans (stretches f P0 P1 P2 P3 P4 P5 P6 P7 P8 P9 P10 P11 P12 P13 P14 P15 P16 P17 P18 P19 h0 h1 h2 h3 h4 h5 h6 h7 h8 h9 h10 h11 h12 h13 h14 h15 h16 h17 h18 h19 _ _)
/-! ## The stores -/

/-- The two halves of an output block. -/
theorem dx_tiles (f : ℕ → ℕ → EReal) {A B : Vec Ideal S256x1024 .f32}
    (hA : ∀ (r : Fin 256) (k : Fin 1024), A (ix2 r k) = f (0 + r.val) k.val) (hB : ∀ (r : Fin 256) (k : Fin 1024), B (ix2 r k) = f (256 + r.val) k.val)
    (R : Fin 512) (k : Fin 1024) :
    View.canon (Val := Elt Ideal) (s := S512x1024) (e := .f32) [⟨Rect.unit ![256, 0] ![256, 1024] inb_S512x1024_S256x1024_256_0, B⟩, ⟨Rect.unit ![0, 0] ![256, 1024] inb_S512x1024_S256x1024_0_0, A⟩]
      (ix2 R k : Shape.Idx S512x1024) = f R.val k.val := by
  canon_tiles x q
  case piece0 => rw [eq_ix2 x]; exact (hB (x 0) (x 1)).trans (congrArg₂ f q0.symm q1.symm)
  case piece1 => rw [eq_ix2 x]; exact (hA (x 0) (x 1)).trans (congrArg₂ f ((Nat.zero_add _).trans q0.symm) q1.symm)

/-- A tile's values are the function's values at its places. -/
theorem tile_emb (g : ℕ → ℕ → ℕ → ℕ → EReal) {w : ℕ} (P : Shape.Idx ⟨4, ![1, 1, 512, w]⟩ → EReal) (h n o : ℕ)
    (i : ∀ x, (![h, n, 0, o] : Fin 4 → ℕ) x + (![1, 1, 512, w] : Fin 4 → ℕ) x ≤ S2x4x512x640.size x)
    (hP : ∀ (a : Fin 512) (d : Fin w), P (ix4 0 0 a d) = g h n a.val (o + d.val)) (x : Shape.Idx ⟨4, ![1, 1, 512, w]⟩) :
    P x = (fun y : Shape.Idx S2x4x512x640 => g (y 0).val (y 1).val (y 2).val (y 3).val)
      ((Rect.unit (s := S2x4x512x640) ![h, n, 0, o] ![1, 1, 512, w] i).emb x) := by
  have e0 : (x 0) = (0 : Fin 1) := Subsingleton.elim (α := Fin 1) _ _
  have e1 : (x 1) = (0 : Fin 1) := Subsingleton.elim (α := Fin 1) _ _
  have ex : x = ix4 (0 : Fin 1) (0 : Fin 1) (x 2) (x 3) := by
    funext a; fin_cases a
    · exact e0
    · exact e1
    · rfl
    · rfl
  have v0 : (x 0).val = 0 := congrArg Fin.val e0
  have v1 : (x 1).val = 0 := congrArg Fin.val e1
  refine (congrArg P ex).trans ((hP (x 2) (x 3)).trans ?_)
  have c0 : h = ((Rect.unit (s := S2x4x512x640) ![h, n, 0, o] ![1, 1, 512, w] i).emb x 0).val := by
    show h = h + 1 * (x 0).val; omega
  have c1 : n = ((Rect.unit (s := S2x4x512x640) ![h, n, 0, o] ![1, 1, 512, w] i).emb x 1).val := by
    show n = n + 1 * (x 1).val; omega
  have c2 : (x 2).val = ((Rect.unit (s := S2x4x512x640) ![h, n, 0, o] ![1, 1, 512, w] i).emb x 2).val := by
    show (x 2).val = 0 + 1 * (x 2).val; omega
  have c3 : o + (x 3).val = ((Rect.unit (s := S2x4x512x640) ![h, n, 0, o] ![1, 1, 512, w] i).emb x 3).val := by
    show o + (x 3).val = o + 1 * (x 3).val; omega
  show g h n (x 2).val (o + (x 3).val) = g _ _ _ _
  rw [← c0, ← c1, ← c2, ← c3]

/-- The sixteen tiles of the weights' gradient, over any earlier stores. -/
theorem gw_tiles (g : ℕ → ℕ → ℕ → ℕ → EReal)
    {P0 : Vec Ideal S1x1x512x512 .f32}
    {P1 : Vec Ideal S1x1x512x512 .f32}
    {P2 : Vec Ideal S1x1x512x128 .f32}
    {P3 : Vec Ideal S1x1x512x128 .f32}
    {P4 : Vec Ideal S1x1x512x384 .f32}
    {P5 : Vec Ideal S1x1x512x384 .f32}
    {P6 : Vec Ideal S1x1x512x256 .f32}
    {P7 : Vec Ideal S1x1x512x256 .f32}
    {P8 : Vec Ideal S1x1x512x256 .f32}
    {P9 : Vec Ideal S1x1x512x256 .f32}
    {P10 : Vec Ideal S1x1x512x384 .f32}
    {P11 : Vec Ideal S1x1x512x384 .f32}
    {P12 : Vec Ideal S1x1x512x128 .f32}
    {P13 : Vec Ideal S1x1x512x128 .f32}
    {P14 : Vec Ideal S1x1x512x512 .f32}
    {P15 : Vec Ideal S1x1x512x512 .f32}
    (h0 : ∀ (a : Fin 512) (d : Fin 512), P0 (ix4 0 0 a d) = g 0 0 a.val (0 + d.val))
    (h1 : ∀ (a : Fin 512) (d : Fin 512), P1 (ix4 0 0 a d) = g 1 0 a.val (0 + d.val))
    (h2 : ∀ (a : Fin 512) (d : Fin 128), P2 (ix4 0 0 a d) = g 0 0 a.val (512 + d.val))
    (h3 : ∀ (a : Fin 512) (d : Fin 128), P3 (ix4 0 0 a d) = g 1 0 a.val (512 + d.val))
    (h4 : ∀ (a : Fin 512) (d : Fin 384), P4 (ix4 0 0 a d) = g 0 1 a.val (0 + d.val))
    (h5 : ∀ (a : Fin 512) (d : Fin 384), P5 (ix4 0 0 a d) = g 1 1 a.val (0 + d.val))
    (h6 : ∀ (a : Fin 512) (d : Fin 256), P6 (ix4 0 0 a d) = g 0 1 a.val (384 + d.val))
    (h7 : ∀ (a : Fin 512) (d : Fin 256), P7 (ix4 0 0 a d) = g 1 1 a.val (384 + d.val))
    (h8 : ∀ (a : Fin 512) (d : Fin 256), P8 (ix4 0 0 a d) = g 0 2 a.val (0 + d.val))
    (h9 : ∀ (a : Fin 512) (d : Fin 256), P9 (ix4 0 0 a d) = g 1 2 a.val (0 + d.val))
    (h10 : ∀ (a : Fin 512) (d : Fin 384), P10 (ix4 0 0 a d) = g 0 2 a.val (256 + d.val))
    (h11 : ∀ (a : Fin 512) (d : Fin 384), P11 (ix4 0 0 a d) = g 1 2 a.val (256 + d.val))
    (h12 : ∀ (a : Fin 512) (d : Fin 128), P12 (ix4 0 0 a d) = g 0 3 a.val (0 + d.val))
    (h13 : ∀ (a : Fin 512) (d : Fin 128), P13 (ix4 0 0 a d) = g 1 3 a.val (0 + d.val))
    (h14 : ∀ (a : Fin 512) (d : Fin 512), P14 (ix4 0 0 a d) = g 0 3 a.val (128 + d.val))
    (h15 : ∀ (a : Fin 512) (d : Fin 512), P15 (ix4 0 0 a d) = g 1 3 a.val (128 + d.val))
    (L' : List (View.Piece (Elt Ideal) S2x4x512x640 .f32)) (h : Fin 2) (n : Fin 4) (a : Fin 512) (b : Fin 640) :
    View.canon (Val := Elt Ideal) (s := S2x4x512x640) (e := .f32) ([⟨Rect.unit ![1, 3, 0, 128] ![1, 1, 512, 512] inb_S2x4x512x640_S1x1x512x512_1_3_0_128, P15⟩, ⟨Rect.unit ![0, 3, 0, 128] ![1, 1, 512, 512] inb_S2x4x512x640_S1x1x512x512_0_3_0_128, P14⟩, ⟨Rect.unit ![1, 3, 0, 0] ![1, 1, 512, 128] inb_S2x4x512x640_S1x1x512x128_1_3_0_0, P13⟩, ⟨Rect.unit ![0, 3, 0, 0] ![1, 1, 512, 128] inb_S2x4x512x640_S1x1x512x128_0_3_0_0, P12⟩, ⟨Rect.unit ![1, 2, 0, 256] ![1, 1, 512, 384] inb_S2x4x512x640_S1x1x512x384_1_2_0_256, P11⟩, ⟨Rect.unit ![0, 2, 0, 256] ![1, 1, 512, 384] inb_S2x4x512x640_S1x1x512x384_0_2_0_256, P10⟩, ⟨Rect.unit ![1, 2, 0, 0] ![1, 1, 512, 256] inb_S2x4x512x640_S1x1x512x256_1_2_0_0, P9⟩, ⟨Rect.unit ![0, 2, 0, 0] ![1, 1, 512, 256] inb_S2x4x512x640_S1x1x512x256_0_2_0_0, P8⟩, ⟨Rect.unit ![1, 1, 0, 384] ![1, 1, 512, 256] inb_S2x4x512x640_S1x1x512x256_1_1_0_384, P7⟩, ⟨Rect.unit ![0, 1, 0, 384] ![1, 1, 512, 256] inb_S2x4x512x640_S1x1x512x256_0_1_0_384, P6⟩, ⟨Rect.unit ![1, 1, 0, 0] ![1, 1, 512, 384] inb_S2x4x512x640_S1x1x512x384_1_1_0_0, P5⟩, ⟨Rect.unit ![0, 1, 0, 0] ![1, 1, 512, 384] inb_S2x4x512x640_S1x1x512x384_0_1_0_0, P4⟩, ⟨Rect.unit ![1, 0, 0, 512] ![1, 1, 512, 128] inb_S2x4x512x640_S1x1x512x128_1_0_0_512, P3⟩, ⟨Rect.unit ![0, 0, 0, 512] ![1, 1, 512, 128] inb_S2x4x512x640_S1x1x512x128_0_0_0_512, P2⟩, ⟨Rect.unit ![1, 0, 0, 0] ![1, 1, 512, 512] inb_S2x4x512x640_S1x1x512x512_1_0_0_0, P1⟩, ⟨Rect.unit ![0, 0, 0, 0] ![1, 1, 512, 512] inb_S2x4x512x640_S1x1x512x512_0_0_0_0, P0⟩] ++ L')
      (ix4 h n a b : Shape.Idx S2x4x512x640) = g h.val n.val a.val b.val := by
  have hp : View.PiecesOf (Val := Elt Ideal) (s := S2x4x512x640) (e := .f32) (fun y => g (y 0).val (y 1).val (y 2).val (y 3).val) [⟨Rect.unit ![1, 3, 0, 128] ![1, 1, 512, 512] inb_S2x4x512x640_S1x1x512x512_1_3_0_128, P15⟩, ⟨Rect.unit ![0, 3, 0, 128] ![1, 1, 512, 512] inb_S2x4x512x640_S1x1x512x512_0_3_0_128, P14⟩, ⟨Rect.unit ![1, 3, 0, 0] ![1, 1, 512, 128] inb_S2x4x512x640_S1x1x512x128_1_3_0_0, P13⟩, ⟨Rect.unit ![0, 3, 0, 0] ![1, 1, 512, 128] inb_S2x4x512x640_S1x1x512x128_0_3_0_0, P12⟩, ⟨Rect.unit ![1, 2, 0, 256] ![1, 1, 512, 384] inb_S2x4x512x640_S1x1x512x384_1_2_0_256, P11⟩, ⟨Rect.unit ![0, 2, 0, 256] ![1, 1, 512, 384] inb_S2x4x512x640_S1x1x512x384_0_2_0_256, P10⟩, ⟨Rect.unit ![1, 2, 0, 0] ![1, 1, 512, 256] inb_S2x4x512x640_S1x1x512x256_1_2_0_0, P9⟩, ⟨Rect.unit ![0, 2, 0, 0] ![1, 1, 512, 256] inb_S2x4x512x640_S1x1x512x256_0_2_0_0, P8⟩, ⟨Rect.unit ![1, 1, 0, 384] ![1, 1, 512, 256] inb_S2x4x512x640_S1x1x512x256_1_1_0_384, P7⟩, ⟨Rect.unit ![0, 1, 0, 384] ![1, 1, 512, 256] inb_S2x4x512x640_S1x1x512x256_0_1_0_384, P6⟩, ⟨Rect.unit ![1, 1, 0, 0] ![1, 1, 512, 384] inb_S2x4x512x640_S1x1x512x384_1_1_0_0, P5⟩, ⟨Rect.unit ![0, 1, 0, 0] ![1, 1, 512, 384] inb_S2x4x512x640_S1x1x512x384_0_1_0_0, P4⟩, ⟨Rect.unit ![1, 0, 0, 512] ![1, 1, 512, 128] inb_S2x4x512x640_S1x1x512x128_1_0_0_512, P3⟩, ⟨Rect.unit ![0, 0, 0, 512] ![1, 1, 512, 128] inb_S2x4x512x640_S1x1x512x128_0_0_0_512, P2⟩, ⟨Rect.unit ![1, 0, 0, 0] ![1, 1, 512, 512] inb_S2x4x512x640_S1x1x512x512_1_0_0_0, P1⟩, ⟨Rect.unit ![0, 0, 0, 0] ![1, 1, 512, 512] inb_S2x4x512x640_S1x1x512x512_0_0_0_0, P0⟩] :=
    ⟨tile_emb g P15 1 3 128 inb_S2x4x512x640_S1x1x512x512_1_3_0_128 h15, tile_emb g P14 0 3 128 inb_S2x4x512x640_S1x1x512x512_0_3_0_128 h14, tile_emb g P13 1 3 0 inb_S2x4x512x640_S1x1x512x128_1_3_0_0 h13, tile_emb g P12 0 3 0 inb_S2x4x512x640_S1x1x512x128_0_3_0_0 h12, tile_emb g P11 1 2 256 inb_S2x4x512x640_S1x1x512x384_1_2_0_256 h11, tile_emb g P10 0 2 256 inb_S2x4x512x640_S1x1x512x384_0_2_0_256 h10, tile_emb g P9 1 2 0 inb_S2x4x512x640_S1x1x512x256_1_2_0_0 h9, tile_emb g P8 0 2 0 inb_S2x4x512x640_S1x1x512x256_0_2_0_0 h8, tile_emb g P7 1 1 384 inb_S2x4x512x640_S1x1x512x256_1_1_0_384 h7, tile_emb g P6 0 1 384 inb_S2x4x512x640_S1x1x512x256_0_1_0_384 h6, tile_emb g P5 1 1 0 inb_S2x4x512x640_S1x1x512x384_1_1_0_0 h5, tile_emb g P4 0 1 0 inb_S2x4x512x640_S1x1x512x384_0_1_0_0 h4, tile_emb g P3 1 0 512 inb_S2x4x512x640_S1x1x512x128_1_0_0_512 h3, tile_emb g P2 0 0 512 inb_S2x4x512x640_S1x1x512x128_0_0_0_512 h2, tile_emb g P1 1 0 0 inb_S2x4x512x640_S1x1x512x512_1_0_0_0 h1, tile_emb g P0 0 0 0 inb_S2x4x512x640_S1x1x512x512_0_0_0_0 h0, trivial⟩
  exact View.canon_append_of_piecesOf _ L' _ hp _ (View.cover_of_tiledBy _ ![1, 1, 512, 128] (by sl_kernel_rfl) _)

end Cert.InBwdIdeal.Loads

end
-- ==== Proof.InBwdHost.lean ====
/-
  The operands that the host lays out for the kernel, read at a row and a column: the tables of cosines and of signed
  sines, the normalised input, and the stack of the weights' column stretches.
-/
module

public import proofs.«01_k».proof.Proof.InProjRow
public import proofs.«01_k».proof.Proof.Gen.InBwdIdeal.Frame.Runs
public import Idealize.ShloMosaic.Lib.Pointwise
public import Idealize.ShloMosaic.Lib.StableHlo.ReadAt

@[expose] public section

set_option maxRecDepth 16384

noncomputable section

namespace Cert.InBwdIdeal.HostRows

open Idealize.ShloMosaic Idealize.ShloMosaic.TcCoe Idealize.SL.Sem
open Cert.InBwdIdeal Cert.InBwdIdeal.Gen Cert.RowMath Cert.InProjRow
open Cert.MlpRow (nrm)

variable (m : (ℓ : Loc nD τ sig) → Buf (Elt Ideal) ℓ) (c : Dev nD) (s : Fin 4096) (k : Fin 1024)

/-- The position of a row. -/
def po (s : Fin 4096) : BitVec 32 := (m ((c : Thread nD τ).loc main_arg4) : Vec Ideal S4096 .i32) (ix1 s)
/-- The query gradient's row. -/
def qr (s : Fin 4096) (i : Fin 512) : EReal := (m ((c : Thread nD τ).loc main_arg0) : Vec Ideal S4096x512 .f32) (ix2 s i)
/-- The key gradient's row. -/
def kr (s : Fin 4096) (i : Fin 512) : EReal := (m ((c : Thread nD τ).loc main_arg1) : Vec Ideal S4096x512 .f32) (ix2 s i)
/-- The value gradient's row. -/
def vr (s : Fin 4096) (i : Fin 512) : EReal := (m ((c : Thread nD τ).loc main_arg2) : Vec Ideal S4096x512 .f32) (ix2 s i)
/-- The remaining columns' gradient. -/
def tr (s : Fin 4096) (i : Fin 1024) : EReal := (m ((c : Thread nD τ).loc main_arg3) : Vec Ideal S4096x1024 .bf16) (ix2 s i)
/-- The projection's weights. -/
def wr (k : Fin 1024) (e : Fin 2560) : EReal := (m ((c : Thread nD τ).loc main_arg5) : Vec Ideal S1024x2560 .f32) (ix2 k e)
/-- A row of the input. -/
def xr (s : Fin 4096) (k : Fin 1024) : EReal := (m ((c : Thread nD τ).loc main_arg6) : Vec Ideal S4096x1024 .f32) (ix2 s k)
/-- The gain. -/
def gr (k : Fin 1024) : EReal := (m ((c : Thread nD τ).loc main_arg7) : Vec Ideal S1x1024 .f32) (ix2 0 k)
/-- A row of the gradient that reaches the input past the block. -/
def dr (s : Fin 4096) (k : Fin 1024) : EReal := (m ((c : Thread nD τ).loc main_arg8) : Vec Ideal S4096x1024 .f32) (ix2 s k)

/-- The normalised input. -/
theorem h_apply : (V m c main_v36 : Vec Ideal S4096x1024 .bf16) (ix2 s k) = nrm (xr m c s) (gr m c) k := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18
  simp only [List.flatten_cons, List.flatten_nil, List.append_nil, List.cons_append, List.nil_append]
  after_reads_at
  simp only [nrm, rms, msq, xr, gr]

/-- The table of cosines. -/
theorem cos_apply (l : Fin 128) : (V m c main_v18 : Vec Ideal S4096x128 .f32) (ix2 s l)
    = co (po m c s) ⟨l.val % 32, Nat.mod_lt _ (by decide)⟩ := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18
  simp only [List.flatten_cons, List.flatten_nil, List.append_nil, List.cons_append, List.nil_append]
  after_reads_at
  simp only [co, ang, po]

/-- The table of signed sines. -/
theorem sin_apply (l : Fin 128) : (V m c main_v23 : Vec Ideal S4096x128 .f32) (ix2 s l) = ssi (po m c s) l.val := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18
  simp only [List.flatten_cons, List.flatten_nil, List.append_nil, List.cons_append, List.nil_append]
  after_reads_at
  unfold ssi
  by_cases h : l.val % 64 < 32
  · rw [dif_pos h, if_pos h]
    after_reads_at
    have e : l.val % 64 = l.val % 32 := by omega
    simp only [si, ang, po, e]
  · rw [dif_neg h, if_neg h]
    after_reads_at
    have e : l.val % 64 - 32 = l.val % 32 := by omega
    simp only [si, ang, po, e]

/-- The stack of the weights' column stretches. -/
theorem w_apply (a : Fin 4) (b : Fin 640) : (V m c main_v46 : Vec Ideal S4x1024x640 .bf16) (ix3 a k b)
    = wr m c k ⟨640 * a.val + b.val, by omega⟩ := by
  simp only [wr]
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18
  simp only [List.flatten_cons, List.flatten_nil, List.append_nil, List.cons_append, List.nil_append]
  after_reads_at
  fin_vals a with ha
  all_goals simp only [ha, Nat.reduceSub, Nat.reduceLT, ↓reduceDIte]
  all_goals after_reads_at

end Cert.InBwdIdeal.HostRows

end
-- ==== Proof.InBwdPoint.lean ====
/-
  One grid point of the kernel: its blocks as rows of the arrays, and the gradient at the projection's columns as its loads
  find it.
-/
module

public import proofs.«01_k».proof.Proof.InBwdLoads
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- The point's query gradient. -/
abbrev bQ : Vec Ideal S512x512 .f32 := iblk m c 0 t
/-- The point's key gradient. -/
abbrev bK : Vec Ideal S512x512 .f32 := iblk m c 1 t
/-- The point's value gradient. -/
abbrev bV : Vec Ideal S512x512 .f32 := iblk m c 2 t
/-- The point's gradient at the remaining columns. -/
abbrev bT : Vec Ideal S512x1024 .bf16 := iblk m c 3 t
/-- The point's cosines. -/
abbrev bC : Vec Ideal S512x128 .f32 := iblk m c 4 t
/-- The point's signed sines. -/
abbrev bN : Vec Ideal S512x128 .f32 := iblk m c 5 t
/-- The point's rows of the input. -/
abbrev bX : Vec Ideal S512x1024 .f32 := iblk m c 6 t
/-- The point's normalised rows. -/
abbrev bH : Vec Ideal S512x1024 .bf16 := iblk m c 7 t
/-- The gain. -/
abbrev bG : Vec Ideal S1x1024 .f32 := iblk m c 8 t
/-- The point's rows of the gradient past the block. -/
abbrev bD : Vec Ideal S512x1024 .f32 := iblk m c 9 t
/-- The small rows. -/
abbrev bR : Vec Ideal S11x1024 .f32 := iblk m c 10 t

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, 0, 0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

theorem lt (r : Fin 512) : 512 * t.val + r.val < 4096 := by
  have h : cfg0.N = 8 := N_0
  have := t.isLt
  omega

/-- The array's row of a row of the block. -/
def at_ (r : Fin 512) : Fin 4096 := ⟨512 * t.val + r.val, lt t r⟩

/-- The position of a row of the block. -/
def pt (r : Fin 512) : BitVec 32 := po m c (at_ t r)

/-- The gradient at the projection's columns, by numbers. -/
def fp : ℕ → ℕ → EReal := fd (pt m c t) (bQ m c t) (bK m c t) (bV m c t) (bT m c t)

end Cert.InBwdIdeal.Point

end
-- ==== Proof.InBwdPtQ.lean ====
/-
  The blocks of the query's and the key's gradients, as rows of the arrays.
-/
module

public import proofs.«01_k».proof.Proof.InBwdPoint
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem bQ_row (r : Fin 512) : row (n := 512) (k := 512) (bQ m c t) r = qr m c (at_ t r) := by
  funext k
  refine Eq.trans ?_ (congrFun (V_main_arg0 m c) (ix2 (at_ t r) k))
  show (bQ m c t) (ix2 r k) = _
  blk_simp [iblk, idx0 t]
  refine congrArg (V m c main_arg0 : Vec Ideal S4096x512 .f32) ?_
  funext x
  fin_cases x <;> apply Fin.ext <;> blk_simp [idx0 t] <;> simp [ix2, at_] <;> omega
theorem bK_row (r : Fin 512) : row (n := 512) (k := 512) (bK m c t) r = kr m c (at_ t r) := by
  funext k
  refine Eq.trans ?_ (congrFun (V_main_arg1 m c) (ix2 (at_ t r) k))
  show (bK m c t) (ix2 r k) = _
  blk_simp [iblk, idx1 t]
  refine congrArg (V m c main_arg1 : Vec Ideal S4096x512 .f32) ?_
  funext x
  fin_cases x <;> apply Fin.ext <;> blk_simp [idx1 t] <;> simp [ix2, at_] <;> omega

end Cert.InBwdIdeal.Point

end
-- ==== Proof.InBwdPtV.lean ====
/-
  The blocks of the value's gradient and of the other columns', as rows of the arrays.
-/
module

public import proofs.«01_k».proof.Proof.InBwdPoint
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem bV_row (r : Fin 512) : row (n := 512) (k := 512) (bV m c t) r = vr m c (at_ t r) := by
  funext k
  refine Eq.trans ?_ (congrFun (V_main_arg2 m c) (ix2 (at_ t r) k))
  show (bV m c t) (ix2 r k) = _
  blk_simp [iblk, idx2 t]
  refine congrArg (V m c main_arg2 : Vec Ideal S4096x512 .f32) ?_
  funext x
  fin_cases x <;> apply Fin.ext <;> blk_simp [idx2 t] <;> simp [ix2, at_] <;> omega
theorem bT_row (r : Fin 512) : row (n := 512) (k := 1024) (bT m c t) r = tr m c (at_ t r) := by
  funext k
  refine Eq.trans ?_ (congrFun (V_main_arg3 m c) (ix2 (at_ t r) k))
  show (bT m c t) (ix2 r k) = _
  blk_simp [iblk, idx3 t]
  refine congrArg (V m c main_arg3 : Vec Ideal S4096x1024 .bf16) ?_
  funext x
  fin_cases x <;> apply Fin.ext <;> blk_simp [idx3 t] <;> simp [ix2, at_] <;> omega

end Cert.InBwdIdeal.Point

end
-- ==== Proof.InBwdPtF.lean ====
/-
  The gradient at the projection's columns by numbers, as the rows of the arrays give it.
-/
module

public import proofs.«01_k».proof.Proof.InBwdPtQ
public import proofs.«01_k».proof.Proof.InBwdPtV
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem fp_eq (r : Fin 512) (e : Fin 2560) : fp m c t r.val e.val
    = dproj (po m c (at_ t r)) (qr m c (at_ t r)) (kr m c (at_ t r)) (vr m c (at_ t r)) (tr m c (at_ t r)) e := by
  unfold fp
  rw [fd_eq]
  unfold dp
  rw [bQ_row, bK_row, bV_row, bT_row]; rfl

end Cert.InBwdIdeal.Point

end
-- ==== Proof.InBwdPtX.lean ====
/-
  The blocks of the input and of the gradient past the block, as rows of the arrays.
-/
module

public import proofs.«01_k».proof.Proof.InBwdPoint
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem bX_row (r : Fin 512) : row (n := 512) (k := 1024) (bX m c t) r = xr m c (at_ t r) := by
  funext k
  refine Eq.trans ?_ (congrFun (V_main_arg6 m c) (ix2 (at_ t r) k))
  show (bX m c t) (ix2 r k) = _
  blk_simp [iblk, idx6 t]
  refine congrArg (V m c main_arg6 : Vec Ideal S4096x1024 .f32) ?_
  funext x
  fin_cases x <;> apply Fin.ext <;> blk_simp [idx6 t] <;> simp [ix2, at_] <;> omega
theorem bD_row (r : Fin 512) : row (n := 512) (k := 1024) (bD m c t) r = dr m c (at_ t r) := by
  funext k
  refine Eq.trans ?_ (congrFun (V_main_arg8 m c) (ix2 (at_ t r) k))
  show (bD m c t) (ix2 r k) = _
  blk_simp [iblk, idx9 t]
  refine congrArg (V m c main_arg8 : Vec Ideal S4096x1024 .f32) ?_
  funext x
  fin_cases x <;> apply Fin.ext <;> blk_simp [idx9 t] <;> simp [ix2, at_] <;> omega

end Cert.InBwdIdeal.Point

end
-- ==== Proof.InBwdPtH.lean ====
/-
  The blocks of the normalised input, of the small rows and of the gain.
-/
module

public import proofs.«01_k».proof.Proof.InBwdPoint
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem bH_at (r : Fin 512) (k : Fin 1024) : bH m c t (ix2 r k) = nrm (xr m c (at_ t r)) (gr m c) k := by
  refine Eq.trans ?_ (h_apply m c (at_ t r) k)
  blk_simp [iblk, idx7 t]
  refine congrArg (V m c main_v36 : Vec Ideal S4096x1024 .bf16) ?_
  funext x
  fin_cases x <;> apply Fin.ext <;> blk_simp [idx7 t] <;> simp [ix2, at_] <;> omega
theorem bR_at (i : Fin 11) (k : Fin 1024) : bR m c t (ix2 i k) = (V m c main_v57 : Vec Ideal S11x1024 .f32) (ix2 i k) := by
  blk_simp [iblk, idx10 t]
  refine congrArg (V m c main_v57 : Vec Ideal S11x1024 .f32) ?_
  funext x
  fin_cases x <;> apply Fin.ext <;> blk_simp [idx10 t] <;> simp [ix2]

theorem bG_row : row (n := 1) (k := 1024) (bG m c t) 0 = gr m c := by
  funext k
  refine Eq.trans ?_ (congrFun (V_main_arg7 m c) (ix2 (0 : Fin 1) k))
  show (bG m c t) (ix2 (0 : Fin 1) k) = _
  blk_simp [iblk, idx8 t]
  refine congrArg (V m c main_arg7 : Vec Ideal S1x1024 .f32) ?_
  funext x
  fin_cases x <;> apply Fin.ext <;> blk_simp [idx8 t] <;> simp [ix2, at_] <;> omega

end Cert.InBwdIdeal.Point

end
-- ==== Proof.InBwdAt.lean ====
/-
  What one grid point computes, from its loads: the gradient at its rows, and what it adds to the weights' and the gain's.
-/
module

public import proofs.«01_k».proof.Proof.InBwdPtF
public import proofs.«01_k».proof.Proof.InBwdPtX
public import proofs.«01_k».proof.Proof.InBwdPtH
public import proofs.«01_k».proof.Proof.InBwdPayload
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

variable {m c t}

/-- A row's part of the gain's gradient. -/
def ga (m : (ℓ : Loc nD τ sig) → Buf (Elt Ideal) ℓ) (c : Dev nD) (s : Fin 4096) (k : Fin 1024) : EReal :=
  dgain (po m c s) (qr m c s) (kr m c s) (vr m c s) (tr m c s) (wr m c) (xr m c s) k

/-- The gradient at a row. -/
def dw_ (m : (ℓ : Loc nD τ sig) → Buf (Elt Ideal) ℓ) (c : Dev nD) (s : Fin 4096) (k : Fin 1024) : EReal :=
  drow (po m c s) (qr m c s) (kr m c s) (vr m c s) (tr m c s) (wr m c) (xr m c s) (gr m c) (dr m c s) k

/-- The gradient at the projection's input, from its columns' gradient. -/
theorem dn_eq {D : Vec Ideal S256x2560 .bf16} {W : Vec Ideal S1024x2560 .bf16} (r : Fin 256) (R : Fin 512)
    (hD : ∀ e : Fin 2560, D (ix2 r e) = fp m c t R.val e.val) (hW : ∀ (k : Fin 1024) (e : Fin 2560), W (ix2 k e) = wr m c k e) (k : Fin 1024) :
    dn D W r k = dnorm (po m c (at_ t R)) (qr m c (at_ t R)) (kr m c (at_ t R)) (vr m c (at_ t R)) (tr m c (at_ t R)) (wr m c) k := by
  unfold dn dnorm
  exact Finset.sum_congr rfl fun e _ => by rw [hD e, hW k e, fp_eq]

theorem ga_eq {D : Vec Ideal S256x2560 .bf16} {W : Vec Ideal S1024x2560 .bf16} {x : Vec Ideal S256x1024 .f32} (r : Fin 256) (R : Fin 512)
    (hD : ∀ e : Fin 2560, D (ix2 r e) = fp m c t R.val e.val) (hW : ∀ (k : Fin 1024) (e : Fin 2560), W (ix2 k e) = wr m c k e)
    (hx : ∀ k : Fin 1024, x (ix2 r k) = bX m c t (ix2 R k)) (k : Fin 1024) :
    dn D W r k * (x (ix2 r k) * rms (row (n := 256) (k := 1024) x r)) = ga m c (at_ t R) k := by
  have e : row (n := 256) (k := 1024) x r = xr m c (at_ t R) := (funext hx).trans (bX_row m c t R)
  have e1 : x (ix2 r k) = xr m c (at_ t R) k := congrFun e k
  rw [dn_eq r R hD hW, e, e1]; rfl

/-- What a point adds to the gain's gradient. -/
theorem gain_pt {D0 D1 : Vec Ideal S256x2560 .bf16} {W0 W1 : Vec Ideal S1024x2560 .bf16} {x0 x1 : Vec Ideal S256x1024 .f32} {g : Vec Ideal S1x1024 .f32}
    (hD0 : ∀ (r : Fin 256) (e : Fin 2560), D0 (ix2 r e) = fp m c t r.val e.val)
    (hD1 : ∀ (r : Fin 256) (e : Fin 2560), D1 (ix2 r e) = fp m c t (256 + r.val) (0 + e.val))
    (hW0 : ∀ (k : Fin 1024) (e : Fin 2560), W0 (ix2 k e) = wr m c k e) (hW1 : ∀ (k : Fin 1024) (e : Fin 2560), W1 (ix2 k e) = wr m c k e)
    (hx0 : ∀ (r : Fin 256) (k : Fin 1024), x0 (ix2 r k) = bX m c t (ix2 ⟨0 + r.val, by omega⟩ ⟨0 + k.val, by omega⟩))
    (hx1 : ∀ (r : Fin 256) (k : Fin 1024), x1 (ix2 r k) = bX m c t (ix2 ⟨256 + r.val, by omega⟩ ⟨0 + k.val, by omega⟩)) (k : Fin 1024) :
    k0_pay56 (F := Ideal) (k0_pay49 D1 W1) x1 (k0_pay52 D0 W0 x0 g) (ix2 0 k) = g (ix2 0 k) + ∑ r : Fin 512, ga m c (at_ t r) k := by
  refine (pay56 _ _ _ _ k).trans ?_
  refine (congrArg (· + _) (pay52 _ _ _ _ k)).trans ?_
  rw [add_assoc]
  refine congrArg (g (ix2 0 k) + ·) ?_
  refine Eq.trans ?_ (Fin.sum_univ_add (a := 256) (b := 256) fun r => ga m c (at_ t r) k).symm
  refine congrArg₂ (· + ·) (Finset.sum_congr rfl fun r _ => ?_) (Finset.sum_congr rfl fun r _ => ?_)
  · exact ga_eq r (Fin.castAdd 256 r) (hD0 r) hW0 (fun k => (hx0 r k).trans (congrArg₂ (fun a b => bX m c t (ix2 a b)) (Fin.ext (Nat.zero_add _)) (Fin.ext (Nat.zero_add _)))) k
  · exact ga_eq r (Fin.natAdd 256 r) (fun e => (hD1 r e).trans (congrArg (fp m c t _) (Nat.zero_add _))) hW1 (fun k => (hx1 r k).trans (congrArg (fun b => bX m c t (ix2 _ b)) (Fin.ext (Nat.zero_add _)))) k

theorem drow_eq {D : Vec Ideal S256x2560 .bf16} {W : Vec Ideal S1024x2560 .bf16} {x d : Vec Ideal S256x1024 .f32} {g : Vec Ideal S1x1024 .f32} (r : Fin 256) (R : Fin 512)
    (hD : ∀ e : Fin 2560, D (ix2 r e) = fp m c t R.val e.val) (hW : ∀ (k : Fin 1024) (e : Fin 2560), W (ix2 k e) = wr m c k e)
    (hx : ∀ k : Fin 1024, x (ix2 r k) = bX m c t (ix2 R k)) (hd : ∀ k : Fin 1024, d (ix2 r k) = bD m c t (ix2 R k)) (hg : g = bG m c t) (k : Fin 1024) :
    d (ix2 r k) + bwd (row (n := 256) (k := 1024) x r) (fun j => dn D W r j * g (ix2 0 j)) k = dw_ m c (at_ t R) k := by
  have e : row (n := 256) (k := 1024) x r = xr m c (at_ t R) := (funext hx).trans (bX_row m c t R)
  have e2 : d (ix2 r k) = dr m c (at_ t R) k := (hd k).trans (congrFun (bD_row m c t R) k)
  have e3 : (fun j => dn D W r j * g (ix2 0 j)) = fun j => dnorm (po m c (at_ t R)) (qr m c (at_ t R)) (kr m c (at_ t R)) (vr m c (at_ t R)) (tr m c (at_ t R)) (wr m c) j * gr m c j := by
    funext j
    exact congrArg₂ (· * ·) (dn_eq r R hD hW j) ((congrArg (fun G : Vec Ideal S1x1024 .f32 => G (ix2 0 j)) hg).trans (congrFun (bG_row m c t) j))
  rw [e, e2, e3]; rfl

/-- The gradient at the point's rows, by numbers. -/
def fx (m : (ℓ : Loc nD τ sig) → Buf (Elt Ideal) ℓ) (c : Dev nD) (t : Fin cfg0.N) (r k : ℕ) : EReal :=
  if h : r < 512 ∧ k < 1024 then dw_ m c (at_ t ⟨r, h.1⟩) ⟨k, h.2⟩ else 0

theorem fx_eq (r : Fin 512) (k : Fin 1024) : fx m c t r.val k.val = dw_ m c (at_ t r) k := dif_pos ⟨r.isLt, k.isLt⟩

theorem drow_lo {D : Vec Ideal S256x2560 .bf16} {W : Vec Ideal S1024x2560 .bf16} {x d : Vec Ideal S256x1024 .f32} {g : Vec Ideal S1x1024 .f32}
    (hD : ∀ (r : Fin 256) (e : Fin 2560), D (ix2 r e) = fp m c t r.val e.val)
    (hW : ∀ (k : Fin 1024) (e : Fin 2560), W (ix2 k e) = wr m c k e)
    (hx : ∀ (r : Fin 256) (k : Fin 1024), x (ix2 r k) = bX m c t (ix2 ⟨0 + r.val, by omega⟩ ⟨0 + k.val, by omega⟩))
    (hd : ∀ (r : Fin 256) (k : Fin 1024), d (ix2 r k) = bD m c t (ix2 ⟨0 + r.val, by omega⟩ ⟨0 + k.val, by omega⟩)) (hg : g = bG m c t)
    (r : Fin 256) (k : Fin 1024) :
    k0_pay53 (F := Ideal) (k0_pay48 D W) (k0_pay50 x) (k0_pay51 x) d g (ix2 r k) = fx m c t (0 + r.val) k.val := by
  have z : ∀ k : Fin 1024, (⟨0 + k.val, by omega⟩ : Fin 1024) = k := fun k => Fin.ext (Nat.zero_add _)
  refine (pay53 _ _ _ _ _ _ _).trans ?_
  exact (drow_eq r ⟨0 + r.val, by omega⟩ (fun e => (hD r e).trans (congrArg (fp m c t · _) (Nat.zero_add _).symm)) hW
    (fun k => (hx r k).trans (congrArg (fun b => bX m c t (ix2 _ b)) (z k))) (fun k => (hd r k).trans (congrArg (fun b => bD m c t (ix2 _ b)) (z k))) hg k).trans (fx_eq _ k).symm

theorem drow_hi {D : Vec Ideal S256x2560 .bf16} {W : Vec Ideal S1024x2560 .bf16} {x d : Vec Ideal S256x1024 .f32} {g : Vec Ideal S1x1024 .f32}
    (hD : ∀ (r : Fin 256) (e : Fin 2560), D (ix2 r e) = fp m c t (256 + r.val) (0 + e.val))
    (hW : ∀ (k : Fin 1024) (e : Fin 2560), W (ix2 k e) = wr m c k e)
    (hx : ∀ (r : Fin 256) (k : Fin 1024), x (ix2 r k) = bX m c t (ix2 ⟨256 + r.val, by omega⟩ ⟨0 + k.val, by omega⟩))
    (hd : ∀ (r : Fin 256) (k : Fin 1024), d (ix2 r k) = bD m c t (ix2 ⟨256 + r.val, by omega⟩ ⟨0 + k.val, by omega⟩)) (hg : g = bG m c t)
    (r : Fin 256) (k : Fin 1024) :
    k0_pay59 (F := Ideal) (k0_pay54 x) (k0_pay55 x) d (k0_pay57 (k0_pay49 D W) g) (k0_pay58 (k0_pay49 D W) x g) (ix2 r k) = fx m c t (256 + r.val) k.val := by
  have z : ∀ k : Fin 1024, (⟨0 + k.val, by omega⟩ : Fin 1024) = k := fun k => Fin.ext (Nat.zero_add _)
  refine (pay59 _ _ _ _ _ _ _).trans ?_
  exact (drow_eq r ⟨256 + r.val, by omega⟩ (fun e => (hD r e).trans (congrArg (fp m c t _) (Nat.zero_add _))) hW
    (fun k => (hx r k).trans (congrArg (fun b => bX m c t (ix2 _ b)) (z k))) (fun k => (hd r k).trans (congrArg (fun b => bD m c t (ix2 _ b)) (z k))) hg k).trans (fx_eq _ k).symm

/-- A normalised row, by numbers. -/
def hn (m : (ℓ : Loc nD τ sig) → Buf (Elt Ideal) ℓ) (c : Dev nD) (s : Fin 4096) (i : ℕ) : EReal :=
  if h : i < 1024 then nrm (xr m c s) (gr m c) ⟨i, h⟩ else 0

/-- What a point adds to the weights' gradient, by numbers. -/
def gz (m : (ℓ : Loc nD τ sig) → Buf (Elt Ideal) ℓ) (c : Dev nD) (t : Fin cfg0.N) (i e : ℕ) : EReal :=
  ∑ s : Fin 512, hn m c (at_ t s) i * fp m c t s.val e

theorem prod_eq {P : Vec Ideal S512x512 .bf16} (J : ℕ) (hP : ∀ s l : Fin 512, P (ix2 s l) = fp m c t (0 + s.val) (J + l.val)) (i : Fin 1024) (j : Fin 512) :
    prod (bH m c t) P i j = gz m c t i.val (J + j.val) := by
  unfold prod gz
  refine Finset.sum_congr rfl fun s _ => ?_
  rw [hP, bH_at, Nat.zero_add]
  have e : hn m c (at_ t s) i.val = nrm (xr m c (at_ t s)) (gr m c) i := dif_pos i.isLt
  rw [e]

/-- A block's values, by numbers. -/
def on4 (O : Vec Ideal S2x4x512x640 .f32) (h n a b : ℕ) : EReal :=
  if x : h < 2 ∧ n < 4 ∧ a < 512 ∧ b < 640 then O (ix4 ⟨h, x.1⟩ ⟨n, x.2.1⟩ ⟨a, x.2.2.1⟩ ⟨b, x.2.2.2⟩) else 0

theorem on4_eq (O : Vec Ideal S2x4x512x640 .f32) (h : Fin 2) (n : Fin 4) (a : Fin 512) (b : Fin 640) : on4 O h n a b = O (ix4 h n a b) :=
  dif_pos ⟨h.isLt, n.isLt, a.isLt, b.isLt⟩

theorem ld4 (O : Vec Ideal S2x4x512x640 .f32) (h n o w : ℕ) (hh : h < 2) (hn : n < 4) (ho : o + w ≤ 640)
    (i : ∀ x, (![h, n, 0, o] : Fin 4 → ℕ) x + (![1, 1, 512, w] : Fin 4 → ℕ) x ≤ S2x4x512x640.size x) (a : Fin 512) (d : Fin w) :
    View.ld (Val := Elt Ideal) (e' := .f32) O (Rect.unit (s := S2x4x512x640) ![h, n, 0, o] ![1, 1, 512, w] i) (ix4 0 0 a d) = on4 O h n a.val (o + d.val) := by
  have hd := d.isLt
  refine Eq.trans ?_ (dif_pos ⟨hh, hn, a.isLt, by omega⟩).symm
  show O _ = _
  refine congrArg O ?_
  funext x
  fin_cases x <;> apply Fin.ext
  · show h + 1 * 0 = h; omega
  · show n + 1 * 0 = n; omega
  · show 0 + 1 * a.val = a.val; omega
  · show o + 1 * d.val = o + d.val; omega

end Cert.InBwdIdeal.Point

end
-- ==== Proof.InBwdPtC.lean ====
/-
  The blocks of the cosines and of the signed sines.
-/
module

public import proofs.«01_k».proof.Proof.InBwdPoint
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem bC_at (r : Fin 512) (l : Fin 128) : bC m c t (ix2 r l) = co (pt m c t r) ⟨l.val % 32, Nat.mod_lt _ (by decide)⟩ := by
  refine Eq.trans ?_ (cos_apply m c (at_ t r) l)
  blk_simp [iblk, idx4 t]
  refine congrArg (V m c main_v18 : Vec Ideal S4096x128 .f32) ?_
  funext x
  fin_cases x <;> apply Fin.ext <;> blk_simp [idx4 t] <;> simp [ix2, at_] <;> omega
theorem bN_at (r : Fin 512) (l : Fin 128) : bN m c t (ix2 r l) = ssi (pt m c t r) l.val := by
  refine Eq.trans ?_ (sin_apply m c (at_ t r) l)
  blk_simp [iblk, idx5 t]
  refine congrArg (V m c main_v23 : Vec Ideal S4096x128 .f32) ?_
  funext x
  fin_cases x <;> apply Fin.ext <;> blk_simp [idx5 t] <;> simp [ix2, at_] <;> omega

end Cert.InBwdIdeal.Point

end
-- ==== Proof.InBwdLo.lean ====
/-
  A load of the first half's rows of the gradient at the projection's columns.
-/
module

public import proofs.«01_k».proof.Proof.InBwdPtC
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- A load of the first half's rows. -/
theorem lo_f (r : Fin 256) (e : Fin 2560) :
    (View.whole cc0_scratch0).readCov (Val := Elt Ideal) [⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 0] ![256, 2560] inb_S512x2560_S256x2560_0_0).toLoadRect (ix2 r e) = fp m c t r.val e.val :=
  lo_at (fp m c t)
    (q_piece (pt m c t) (bQ m c t) (bK m c t) (bV m c t) (bT m c t) (bC m c t) (bN m c t) (bC_at m c t) (bN_at m c t) 0 0 (by omega) (by omega) (by omega) inb_S512x512_S256x128_0_0 inb_S512x128_S256x128_0_0)
    (k_piece (pt m c t) (bQ m c t) (bK m c t) (bV m c t) (bT m c t) (bC m c t) (bN m c t) (bC_at m c t) (bN_at m c t) 0 0 (by omega) (by omega) (by omega) inb_S512x512_S256x128_0_0 inb_S512x128_S256x128_0_0)
    (q_piece (pt m c t) (bQ m c t) (bK m c t) (bV m c t) (bT m c t) (bC m c t) (bN m c t) (bC_at m c t) (bN_at m c t) 0 128 (by omega) (by omega) (by omega) inb_S512x512_S256x128_0_128 inb_S512x128_S256x128_0_0)
    (k_piece (pt m c t) (bQ m c t) (bK m c t) (bV m c t) (bT m c t) (bC m c t) (bN m c t) (bC_at m c t) (bN_at m c t) 0 128 (by omega) (by omega) (by omega) inb_S512x512_S256x128_0_128 inb_S512x128_S256x128_0_0)
    (q_piece (pt m c t) (bQ m c t) (bK m c t) (bV m c t) (bT m c t) (bC m c t) (bN m c t) (bC_at m c t) (bN_at m c t) 0 256 (by omega) (by omega) (by omega) inb_S512x512_S256x128_0_256 inb_S512x128_S256x128_0_0)
    (k_piece (pt m c t) (bQ m c t) (bK m c t) (bV m c t) (bT m c t) (bC m c t) (bN m c t) (bC_at m c t) (bN_at m c t) 0 256 (by omega) (by omega) (by omega) inb_S512x512_S256x128_0_256 inb_S512x128_S256x128_0_0)
    (q_piece (pt m c t) (bQ m c t) (bK m c t) (bV m c t) (bT m c t) (bC m c t) (bN m c t) (bC_at m c t) (bN_at m c t) 0 384 (by omega) (by omega) (by omega) inb_S512x512_S256x128_0_384 inb_S512x128_S256x128_0_0)
    (k_piece (pt m c t) (bQ m c t) (bK m c t) (bV m c t) (bT m c t) (bC m c t) (bN m c t) (bC_at m c t) (bN_at m c t) 0 384 (by omega) (by omega) (by omega) inb_S512x512_S256x128_0_384 inb_S512x128_S256x128_0_0)
    (v_piece (pt m c t) (bQ m c t) (bK m c t) (bV m c t) (bT m c t) 0 (by omega) inb_S512x512_S256x512_0_0)
    (t_piece (pt m c t) (bQ m c t) (bK m c t) (bV m c t) (bT m c t) 0 (by omega) inb_S512x1024_S256x1024_0_0) r e

end Cert.InBwdIdeal.Point

end
-- ==== Proof.InBwdAll.lean ====
/-
  A load of the gradient at the projection's columns, after all its stores.
-/
module

public import proofs.«01_k».proof.Proof.InBwdPtC
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- A load of rows and columns after all the stores. -/
theorem all_f (o j a b : ℕ) (ho : o + a ≤ 512) (hj : j + b ≤ 2560)
    (i : ∀ x, (![o, j] : Fin 2 → ℕ) x + (![a, b] : Fin 2 → ℕ) x ≤ S512x2560.size x) (r : Fin a) (l : Fin b) :
    (View.whole cc0_scratch0).readCov (Val := Elt Ideal) [⟨Rect.unit ![256, 1536] ![256, 1024] inb_S512x2560_S256x1024_256_1536, k0_pay26 (View.ld (bT m c t) (Rect.unit ![256, 0] ![256, 1024] inb_S512x1024_S256x1024_256_0))⟩,
      ⟨Rect.unit ![256, 1024] ![256, 512] inb_S512x2560_S256x512_256_1024, k0_pay25 (View.ld (bV m c t) (Rect.unit ![256, 0] ![256, 512] inb_S512x512_S256x512_256_0))⟩,
      ⟨Rect.unit ![256, 896] ![256, 128] inb_S512x2560_S256x128_256_896, rope (View.ld (bK m c t) (Rect.unit ![256, 384] ![256, 128] inb_S512x512_S256x128_256_384)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![o, j] ![a, b] i).toLoadRect (ix2 r l) = fp m c t (o + r.val) (j + l.val) :=
  all_at (fp m c t)
    (q_piece (pt m c t) (bQ m c t) (bK m c t) (bV m c t) (bT m c t) (bC m c t) (bN m c t) (bC_at m c t) (bN_at m c t) 0 0 (by omega) (by omega) (by omega) inb_S512x512_S256x128_0_0 inb_S512x128_S256x128_0_0)
    (k_piece (pt m c t) (bQ m c t) (bK m c t) (bV m c t) (bT m c t) (bC m c t) (bN m c t) (bC_at m c t) (bN_at m c t) 0 0 (by omega) (by omega) (by omega) inb_S512x512_S256x128_0_0 inb_S512x128_S256x128_0_0)
    (q_piece (pt m c t) (bQ m c t) (bK m c t) (bV m c t) (bT m c t) (bC m c t) (bN m c t) (bC_at m c t) (bN_at m c t) 0 128 (by omega) (by omega) (by omega) inb_S512x512_S256x128_0_128 inb_S512x128_S256x128_0_0)
    (k_piece (pt m c t) (bQ m c t) (bK m c t) (bV m c t) (bT m c t) (bC m c t) (bN m c t) (bC_at m c t) (bN_at m c t) 0 128 (by omega) (by omega) (by omega) inb_S512x512_S256x128_0_128 inb_S512x128_S256x128_0_0)
    (q_piece (pt m c t) (bQ m c t) (bK m c t) (bV m c t) (bT m c t) (bC m c t) (bN m c t) (bC_at m c t) (bN_at m c t) 0 256 (by omega) (by omega) (by omega) inb_S512x512_S256x128_0_256 inb_S512x128_S256x128_0_0)
    (k_piece (pt m c t) (bQ m c t) (bK m c t) (bV m c t) (bT m c t) (bC m c t) (bN m c t) (bC_at m c t) (bN_at m c t) 0 256 (by omega) (by omega) (by omega) inb_S512x512_S256x128_0_256 inb_S512x128_S256x128_0_0)
    (q_piece (pt m c t) (bQ m c t) (bK m c t) (bV m c t) (bT m c t) (bC m c t) (bN m c t) (bC_at m c t) (bN_at m c t) 0 384 (by omega) (by omega) (by omega) inb_S512x512_S256x128_0_384 inb_S512x128_S256x128_0_0)
    (k_piece (pt m c t) (bQ m c t) (bK m c t) (bV m c t) (bT m c t) (bC m c t) (bN m c t) (bC_at m c t) (bN_at m c t) 0 384 (by omega) (by omega) (by omega) inb_S512x512_S256x128_0_384 inb_S512x128_S256x128_0_0)
    (v_piece (pt m c t) (bQ m c t) (bK m c t) (bV m c t) (bT m c t) 0 (by omega) inb_S512x512_S256x512_0_0)
    (t_piece (pt m c t) (bQ m c t) (bK m c t) (bV m c t) (bT m c t) 0 (by omega) inb_S512x1024_S256x1024_0_0)
    (q_piece (pt m c t) (bQ m c t) (bK m c t) (bV m c t) (bT m c t) (bC m c t) (bN m c t) (bC_at m c t) (bN_at m c t) 256 0 (by omega) (by omega) (by omega) inb_S512x512_S256x128_256_0 inb_S512x128_S256x128_256_0)
    (k_piece (pt m c t) (bQ m c t) (bK m c t) (bV m c t) (bT m c t) (bC m c t) (bN m c t) (bC_at m c t) (bN_at m c t) 256 0 (by omega) (by omega) (by omega) inb_S512x512_S256x128_256_0 inb_S512x128_S256x128_256_0)
    (q_piece (pt m c t) (bQ m c t) (bK m c t) (bV m c t) (bT m c t) (bC m c t) (bN m c t) (bC_at m c t) (bN_at m c t) 256 128 (by omega) (by omega) (by omega) inb_S512x512_S256x128_256_128 inb_S512x128_S256x128_256_0)
    (k_piece (pt m c t) (bQ m c t) (bK m c t) (bV m c t) (bT m c t) (bC m c t) (bN m c t) (bC_at m c t) (bN_at m c t) 256 128 (by omega) (by omega) (by omega) inb_S512x512_S256x128_256_128 inb_S512x128_S256x128_256_0)
    (q_piece (pt m c t) (bQ m c t) (bK m c t) (bV m c t) (bT m c t) (bC m c t) (bN m c t) (bC_at m c t) (bN_at m c t) 256 256 (by omega) (by omega) (by omega) inb_S512x512_S256x128_256_256 inb_S512x128_S256x128_256_0)
    (k_piece (pt m c t) (bQ m c t) (bK m c t) (bV m c t) (bT m c t) (bC m c t) (bN m c t) (bC_at m c t) (bN_at m c t) 256 256 (by omega) (by omega) (by omega) inb_S512x512_S256x128_256_256 inb_S512x128_S256x128_256_0)
    (q_piece (pt m c t) (bQ m c t) (bK m c t) (bV m c t) (bT m c t) (bC m c t) (bN m c t) (bC_at m c t) (bN_at m c t) 256 384 (by omega) (by omega) (by omega) inb_S512x512_S256x128_256_384 inb_S512x128_S256x128_256_0)
    (k_piece (pt m c t) (bQ m c t) (bK m c t) (bV m c t) (bT m c t) (bC m c t) (bN m c t) (bC_at m c t) (bN_at m c t) 256 384 (by omega) (by omega) (by omega) inb_S512x512_S256x128_256_384 inb_S512x128_S256x128_256_0)
    (v_piece (pt m c t) (bQ m c t) (bK m c t) (bV m c t) (bT m c t) 256 (by omega) inb_S512x512_S256x512_256_0)
    (t_piece (pt m c t) (bQ m c t) (bK m c t) (bV m c t) (bT m c t) 256 (by omega) inb_S512x1024_S256x1024_256_0) o j a b ho hj i r l

end Cert.InBwdIdeal.Point

end
-- ==== Proof.InBwdW.lean ====
/-
  The weights in their scratch array: the first point copies them, every later one finds them.
-/
module

public import proofs.«01_k».proof.Proof.InBwdPoint
public import proofs.«01_k».proof.Proof.InBwdHost
public import proofs.«01_k».proof.Proof.Gen.InBwdIdeal.Value
public import Idealize.ShloMosaic.Lib.ValueLayout
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- A copied slice, at a row and a column. -/
theorem slice_at (q : ℕ) (hq : q < 4) (i : ∀ x, (![q, 0, 0] : Fin 3 → ℕ) x + (![1, 1024, 640] : Fin 3 → ℕ) x ≤ S4x1024x640.size x)
    (hn : S1024x640.numel = (Rect.unit (s := S4x1024x640) ![q, 0, 0] ![1, 1024, 640] i).shape.numel) (k : Fin 1024) (b : Fin 640) :
    ReadAs.same.apply (View.read (Elt Ideal) (((View.whole main_v46).slice (Rect.unit (s := S4x1024x640) ![q, 0, 0] ![1, 1024, 640] i)).reshape S1024x640 hn)
      (V m c main_v46)) (ix2 k b) = wr m c k ⟨640 * q + b.val, by omega⟩ := by
  refine Eq.trans ?_ (w_apply m c k ⟨q, hq⟩ b)
  show (V m c main_v46 : Vec Ideal S4x1024x640 .bf16) ((Rect.unit (s := S4x1024x640) ![q, 0, 0] ![1, 1024, 640] i).emb (Shape.reshapeEquiv hn (ix2 k b))) = _
  refine congrArg (V m c main_v46 : Vec Ideal S4x1024x640 .bf16) ?_
  refine (congrArg _ (ValueIdx.reshapeEquiv_ix2_1ab hn k b)).trans ?_
  funext x
  fin_cases x <;> apply Fin.ext
  · show q + 1 * 0 = q; omega
  · show 0 + 1 * k.val = k.val; omega
  · show 0 + 1 * b.val = b.val; omega

/-- The weights as the first point copies them. -/
theorem w_canon (i0 : ∀ x, (![0, 0, 0] : Fin 3 → ℕ) x + (![1, 1024, 640] : Fin 3 → ℕ) x ≤ S4x1024x640.size x)
    (i1 : ∀ x, (![1, 0, 0] : Fin 3 → ℕ) x + (![1, 1024, 640] : Fin 3 → ℕ) x ≤ S4x1024x640.size x)
    (i2 : ∀ x, (![2, 0, 0] : Fin 3 → ℕ) x + (![1, 1024, 640] : Fin 3 → ℕ) x ≤ S4x1024x640.size x)
    (i3 : ∀ x, (![3, 0, 0] : Fin 3 → ℕ) x + (![1, 1024, 640] : Fin 3 → ℕ) x ≤ S4x1024x640.size x)
    (n0 : S1024x640.numel = (Rect.unit (s := S4x1024x640) ![0, 0, 0] ![1, 1024, 640] i0).shape.numel)
    (n1 : S1024x640.numel = (Rect.unit (s := S4x1024x640) ![1, 0, 0] ![1, 1024, 640] i1).shape.numel)
    (n2 : S1024x640.numel = (Rect.unit (s := S4x1024x640) ![2, 0, 0] ![1, 1024, 640] i2).shape.numel)
    (n3 : S1024x640.numel = (Rect.unit (s := S4x1024x640) ![3, 0, 0] ![1, 1024, 640] i3).shape.numel) (k : Fin 1024) (e : Fin 2560) :
    View.canon (Val := Elt Ideal) (s := S1024x2560) (e := .bf16) [⟨Rect.unit ![0, 1920] ![1024, 640] inb_S1024x2560_S1024x640_0_1920,
          ReadAs.same.apply (View.read (Elt Ideal) (((View.whole main_v46).slice (Rect.unit (s := S4x1024x640) ![3, 0, 0] ![1, 1024, 640] i3)).reshape S1024x640 n3) (V m c main_v46))⟩,
      ⟨Rect.unit ![0, 1280] ![1024, 640] inb_S1024x2560_S1024x640_0_1280,
          ReadAs.same.apply (View.read (Elt Ideal) (((View.whole main_v46).slice (Rect.unit (s := S4x1024x640) ![2, 0, 0] ![1, 1024, 640] i2)).reshape S1024x640 n2) (V m c main_v46))⟩,
      ⟨Rect.unit ![0, 640] ![1024, 640] inb_S1024x2560_S1024x640_0_640,
          ReadAs.same.apply (View.read (Elt Ideal) (((View.whole main_v46).slice (Rect.unit (s := S4x1024x640) ![1, 0, 0] ![1, 1024, 640] i1)).reshape S1024x640 n1) (V m c main_v46))⟩,
      ⟨Rect.unit ![0, 0] ![1024, 640] inb_S1024x2560_S1024x640_0_0,
          ReadAs.same.apply (View.read (Elt Ideal) (((View.whole main_v46).slice (Rect.unit (s := S4x1024x640) ![0, 0, 0] ![1, 1024, 640] i0)).reshape S1024x640 n0) (V m c main_v46))⟩] (ix2 k e) = wr m c k e := by
  canon_tiles x q
  case piece0 =>
    rw [eq_ix2 x]
    refine (slice_at m c 3 (by omega) i3 n3 (x 0) (x 1)).trans ?_
    exact congrArg₂ (wr m c) (Fin.ext q0.symm) (Fin.ext q1.symm)
  case piece1 =>
    rw [eq_ix2 x]
    refine (slice_at m c 2 (by omega) i2 n2 (x 0) (x 1)).trans ?_
    exact congrArg₂ (wr m c) (Fin.ext q0.symm) (Fin.ext q1.symm)
  case piece2 =>
    rw [eq_ix2 x]
    refine (slice_at m c 1 (by omega) i1 n1 (x 0) (x 1)).trans ?_
    exact congrArg₂ (wr m c) (Fin.ext q0.symm) (Fin.ext q1.symm)
  case piece3 =>
    rw [eq_ix2 x]
    refine (slice_at m c 0 (by omega) i0 n0 (x 0) (x 1)).trans ?_
    exact congrArg₂ (wr m c) (Fin.ext q0.symm) (Fin.ext ((Nat.zero_add _).trans q1.symm))

/-- A load of all the weights from what the first point copied. -/
theorem w_load (L : List (View.Piece (Elt Ideal) S1024x2560 .bf16)) (k : Fin 1024) (e : Fin 2560) :
    (View.whole cc0_scratch1).readCov (Val := Elt Ideal) L (Rect.unit (s := S1024x2560) ![0, 0] ![1024, 2560] inb_S1024x2560_S1024x2560_0_0).toLoadRect (ix2 k e)
      = View.canon (Val := Elt Ideal) (s := S1024x2560) (e := .bf16) L (ix2 k e) := by
  refine (congrFun (View.readCov_eq_canon' _ L _) _).trans ((Loads.ld_at (e := .bf16) (View.canon (Val := Elt Ideal) (s := S1024x2560) (e := .bf16) L) 0 0 (by omega) (by omega) inb_S1024x2560_S1024x2560_0_0 k e).trans ?_)
  exact congrArg₂ (fun a b => View.canon (Val := Elt Ideal) (s := S1024x2560) (e := .bf16) L (ix2 a b)) (Fin.ext (Nat.zero_add _)) (Fin.ext (Nat.zero_add _))

theorem w_B (h0 : ¬t.val % 8 = 0) (h1 : ¬t.val % 8 = 7) : (outsAt0 m c t.val t.isLt).2.2.2.2 = (outsAt0 m c (t.val - 1) (Nat.lt_of_le_of_lt (Nat.sub_le _ _) t.isLt)).2.2.2.2 := by
  rw [outsAt0_B m c t h0 h1]
  rfl
theorem w_C (h0 : ¬t.val % 8 = 0) (h1 : t.val % 8 = 7) : (outsAt0 m c t.val t.isLt).2.2.2.2 = (outsAt0 m c (t.val - 1) (Nat.lt_of_le_of_lt (Nat.sub_le _ _) t.isLt)).2.2.2.2 := by
  rw [outsAt0_C m c t h0 h1]
  rfl
theorem w_A (k : Fin 1024) (e : Fin 2560) (h0 : t.val % 8 = 0) (h1 : ¬t.val % 8 = 7) : (outsAt0 m c t.val t.isLt).2.2.2.2 (ix2 k e) = wr m c k e := by
  rw [outsAt0_A m c t h0 h1]
  frame_open
  simp (disch := decide) only [↓ View.readCov_skip, ↓ View.readCov_cons_toLoadRect, ↓ View.readCov_fill]
  frame_out
  exact w_canon m c _ _ _ _ _ _ _ _ k e

/-- The weights stay in their scratch array, point after point. -/
theorem w_at : ∀ (n : ℕ) (hn : n < cfg0.N) (k : Fin 1024) (e : Fin 2560), (outsAt0 m c n hn).2.2.2.2 (ix2 k e) = wr m c k e := by
  have hN : cfg0.N = 8 := N_0
  intro n
  induction n with
  | zero => intro hn k e; exact w_A m c ⟨0, hn⟩ k e (by simp) (by simp)
  | succ n ih =>
    intro hn k e
    by_cases h7 : (n + 1) % 8 = 7
    · rw [w_C m c ⟨n + 1, hn⟩ (by show ¬(n + 1) % 8 = 0; omega) h7]; exact ih _ k e
    · rw [w_B m c ⟨n + 1, hn⟩ (by show ¬(n + 1) % 8 = 0; omega) h7]; exact ih _ k e

end Cert.InBwdIdeal.Point

end
-- ==== Proof.InBwdDx.lean ====
/-
  The gradient at its rows, as each grid point stores it.
-/
module

public import proofs.«01_k».proof.Proof.InBwdAt
public import proofs.«01_k».proof.Proof.InBwdLo
public import proofs.«01_k».proof.Proof.InBwdAll
public import proofs.«01_k».proof.Proof.InBwdW
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem dx_A (r : Fin 512) (k : Fin 1024) (h0 : t.val % 8 = 0) (h1 : ¬t.val % 8 = 7) : (outsAt0 m c t.val t.isLt).1 (ix2 r k) = dw_ m c (at_ t r) k := by
  rw [outsAt0_A m c t h0 h1]
  frame_open
  simp (disch := decide) only [↓ View.readCov_skip, ↓ View.readCov_cons_toLoadRect, ↓ View.readCov_fill]
  frame_out
  exact (Loads.dx_tiles (fx m c t) (drow_lo (lo_f m c t) (fun k e => (w_load _ k e).trans (w_canon m c _ _ _ _ _ _ _ _ k e)) (fun r k => Loads.ld_at _ _ _ (by omega) (by omega) _ r k) (fun r k => Loads.ld_at _ _ _ (by omega) (by omega) _ r k) rfl)
    (drow_hi (fun r e => all_f m c t 256 0 256 2560 (by omega) (by omega) _ r e) (fun k e => (w_load _ k e).trans (w_canon m c _ _ _ _ _ _ _ _ k e)) (fun r k => Loads.ld_at _ _ _ (by omega) (by omega) _ r k) (fun r k => Loads.ld_at _ _ _ (by omega) (by omega) _ r k) rfl) r k).trans (fx_eq r k)

theorem dx_B (r : Fin 512) (k : Fin 1024) (h0 : ¬t.val % 8 = 0) (h1 : ¬t.val % 8 = 7) : (outsAt0 m c t.val t.isLt).1 (ix2 r k) = dw_ m c (at_ t r) k := by
  rw [outsAt0_B m c t h0 h1]
  frame_open
  simp (disch := decide) only [↓ View.readCov_skip, ↓ View.readCov_cons_toLoadRect, ↓ View.readCov_fill]
  frame_out
  exact (Loads.dx_tiles (fx m c t) (drow_lo (lo_f m c t) (fun k e => (congrFun (Memref.IsWhole.read_unread _ _) _).trans (w_at m c _ _ k e)) (fun r k => Loads.ld_at _ _ _ (by omega) (by omega) _ r k) (fun r k => Loads.ld_at _ _ _ (by omega) (by omega) _ r k) rfl)
    (drow_hi (fun r e => all_f m c t 256 0 256 2560 (by omega) (by omega) _ r e) (fun k e => (congrFun (Memref.IsWhole.read_unread _ _) _).trans (w_at m c _ _ k e)) (fun r k => Loads.ld_at _ _ _ (by omega) (by omega) _ r k) (fun r k => Loads.ld_at _ _ _ (by omega) (by omega) _ r k) rfl) r k).trans (fx_eq r k)

theorem dx_C (r : Fin 512) (k : Fin 1024) (h0 : ¬t.val % 8 = 0) (h1 : t.val % 8 = 7) : (outsAt0 m c t.val t.isLt).1 (ix2 r k) = dw_ m c (at_ t r) k := by
  rw [outsAt0_C m c t h0 h1]
  frame_open
  simp (disch := decide) only [↓ View.readCov_skip, ↓ View.readCov_cons_toLoadRect, ↓ View.readCov_fill]
  frame_out
  exact (Loads.dx_tiles (fx m c t) (drow_lo (lo_f m c t) (fun k e => (congrFun (Memref.IsWhole.read_unread _ _) _).trans (w_at m c _ _ k e)) (fun r k => Loads.ld_at _ _ _ (by omega) (by omega) _ r k) (fun r k => Loads.ld_at _ _ _ (by omega) (by omega) _ r k) rfl)
    (drow_hi (fun r e => all_f m c t 256 0 256 2560 (by omega) (by omega) _ r e) (fun k e => (congrFun (Memref.IsWhole.read_unread _ _) _).trans (w_at m c _ _ k e)) (fun r k => Loads.ld_at _ _ _ (by omega) (by omega) _ r k) (fun r k => Loads.ld_at _ _ _ (by omega) (by omega) _ r k) rfl) r k).trans (fx_eq r k)

/-- The gradient at a row, at any point. -/
theorem dx_at (r : Fin 512) (k : Fin 1024) : (outsAt0 m c t.val t.isLt).1 (ix2 r k) = dw_ m c (at_ t r) k := by
  by_cases h0 : t.val % 8 = 0
  · exact dx_A m c t r k h0 (by omega)
  · by_cases h1 : t.val % 8 = 7
    · exact dx_C m c t r k h0 h1
    · exact dx_B m c t r k h0 h1

end Cert.InBwdIdeal.Point

end
-- ==== Proof.InBwdDg.lean ====
/-
  The gain's gradient, as each grid point leaves it.
-/
module

public import proofs.«01_k».proof.Proof.InBwdAt
public import proofs.«01_k».proof.Proof.InBwdLo
public import proofs.«01_k».proof.Proof.InBwdAll
public import proofs.«01_k».proof.Proof.InBwdW
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem dg_A (k : Fin 1024) (h0 : t.val % 8 = 0) (h1 : ¬t.val % 8 = 7) : (outsAt0 m c t.val t.isLt).2.2.1 (ix2 0 k) = ∑ r : Fin 512, ga m c (at_ t r) k := by
  rw [outsAt0_A m c t h0 h1]
  frame_open
  simp (disch := decide) only [↓ View.readCov_skip, ↓ View.readCov_cons_toLoadRect, ↓ View.readCov_fill]
  frame_out
  refine (gain_pt (lo_f m c t) (fun r e => all_f m c t 256 0 256 2560 (by omega) (by omega) _ r e) (fun k e => (w_load _ k e).trans (w_canon m c _ _ _ _ _ _ _ _ k e)) (fun k e => (w_load _ k e).trans (w_canon m c _ _ _ _ _ _ _ _ k e)) (fun r k => Loads.ld_at _ _ _ (by omega) (by omega) _ r k) (fun r k => Loads.ld_at _ _ _ (by omega) (by omega) _ r k) k).trans ?_
  exact (congrArg (· + _) (pay4 k)).trans (zero_add _)

theorem dg_B (k : Fin 1024) (h0 : ¬t.val % 8 = 0) (h1 : ¬t.val % 8 = 7) : (outsAt0 m c t.val t.isLt).2.2.1 (ix2 0 k) = (outsAt0 m c (t.val - 1) (Nat.lt_of_le_of_lt (Nat.sub_le _ _) t.isLt)).2.2.1 (ix2 0 k) + ∑ r : Fin 512, ga m c (at_ t r) k := by
  rw [outsAt0_B m c t h0 h1]
  frame_open
  simp (disch := decide) only [↓ View.readCov_skip, ↓ View.readCov_cons_toLoadRect, ↓ View.readCov_fill]
  frame_out
  refine (gain_pt (lo_f m c t) (fun r e => all_f m c t 256 0 256 2560 (by omega) (by omega) _ r e) (fun k e => (congrFun (Memref.IsWhole.read_unread _ _) _).trans (w_at m c _ _ k e)) (fun k e => (congrFun (Memref.IsWhole.read_unread _ _) _).trans (w_at m c _ _ k e)) (fun r k => Loads.ld_at _ _ _ (by omega) (by omega) _ r k) (fun r k => Loads.ld_at _ _ _ (by omega) (by omega) _ r k) k).trans ?_
  exact rfl

theorem dg_C (k : Fin 1024) (h0 : ¬t.val % 8 = 0) (h1 : t.val % 8 = 7) : (outsAt0 m c t.val t.isLt).2.2.1 (ix2 0 k) = (outsAt0 m c (t.val - 1) (Nat.lt_of_le_of_lt (Nat.sub_le _ _) t.isLt)).2.2.1 (ix2 0 k) + ∑ r : Fin 512, ga m c (at_ t r) k := by
  rw [outsAt0_C m c t h0 h1]
  frame_open
  simp (disch := decide) only [↓ View.readCov_skip, ↓ View.readCov_cons_toLoadRect, ↓ View.readCov_fill]
  frame_out
  refine (gain_pt (lo_f m c t) (fun r e => all_f m c t 256 0 256 2560 (by omega) (by omega) _ r e) (fun k e => (congrFun (Memref.IsWhole.read_unread _ _) _).trans (w_at m c _ _ k e)) (fun k e => (congrFun (Memref.IsWhole.read_unread _ _) _).trans (w_at m c _ _ k e)) (fun r k => Loads.ld_at _ _ _ (by omega) (by omega) _ r k) (fun r k => Loads.ld_at _ _ _ (by omega) (by omega) _ r k) k).trans ?_
  exact rfl

end Cert.InBwdIdeal.Point

end
-- ==== Proof.InBwdCols.lean ====
/-
  The loads of 512 columns, without the last stores where those lie in other columns.
-/
module

public import proofs.«01_k».proof.Proof.InBwdAll
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- A load of the columns from 0 on. -/
theorem cols0 (r l : Fin 512) :
    (View.whole cc0_scratch0).readCov (Val := Elt Ideal) [⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 0] ![512, 512] inb_S512x2560_S512x512_0_0).toLoadRect (ix2 r l) = fp m c t (0 + r.val) (0 + l.val) := by
  have h := all_f m c t 0 0 512 512 (by omega) (by omega) inb_S512x2560_S512x512_0_0 r l
  simp (disch := decide) only [↓ View.readCov_skip] at h
  exact h

/-- A load of the columns from 512 on. -/
theorem cols1 (r l : Fin 512) :
    (View.whole cc0_scratch0).readCov (Val := Elt Ideal) [⟨Rect.unit ![256, 896] ![256, 128] inb_S512x2560_S256x128_256_896, rope (View.ld (bK m c t) (Rect.unit ![256, 384] ![256, 128] inb_S512x512_S256x128_256_384)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 512] ![512, 512] inb_S512x2560_S512x512_0_512).toLoadRect (ix2 r l) = fp m c t (0 + r.val) (512 + l.val) := by
  have h := all_f m c t 0 512 512 512 (by omega) (by omega) inb_S512x2560_S512x512_0_512 r l
  simp (disch := decide) only [↓ View.readCov_skip] at h
  exact h

/-- A load of the columns from 1024 on. -/
theorem cols2 (r l : Fin 512) :
    (View.whole cc0_scratch0).readCov (Val := Elt Ideal) [⟨Rect.unit ![256, 1024] ![256, 512] inb_S512x2560_S256x512_256_1024, k0_pay25 (View.ld (bV m c t) (Rect.unit ![256, 0] ![256, 512] inb_S512x512_S256x512_256_0))⟩,
      ⟨Rect.unit ![256, 896] ![256, 128] inb_S512x2560_S256x128_256_896, rope (View.ld (bK m c t) (Rect.unit ![256, 384] ![256, 128] inb_S512x512_S256x128_256_384)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 1024] ![512, 512] inb_S512x2560_S512x512_0_1024).toLoadRect (ix2 r l) = fp m c t (0 + r.val) (1024 + l.val) := by
  have h := all_f m c t 0 1024 512 512 (by omega) (by omega) inb_S512x2560_S512x512_0_1024 r l
  simp (disch := decide) only [↓ View.readCov_skip] at h
  exact h

/-- A load of the columns from 1536 on. -/
theorem cols3 (r l : Fin 512) :
    (View.whole cc0_scratch0).readCov (Val := Elt Ideal) [⟨Rect.unit ![256, 1536] ![256, 1024] inb_S512x2560_S256x1024_256_1536, k0_pay26 (View.ld (bT m c t) (Rect.unit ![256, 0] ![256, 1024] inb_S512x1024_S256x1024_256_0))⟩,
      ⟨Rect.unit ![256, 1024] ![256, 512] inb_S512x2560_S256x512_256_1024, k0_pay25 (View.ld (bV m c t) (Rect.unit ![256, 0] ![256, 512] inb_S512x512_S256x512_256_0))⟩,
      ⟨Rect.unit ![256, 896] ![256, 128] inb_S512x2560_S256x128_256_896, rope (View.ld (bK m c t) (Rect.unit ![256, 384] ![256, 128] inb_S512x512_S256x128_256_384)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 1536] ![512, 512] inb_S512x2560_S512x512_0_1536).toLoadRect (ix2 r l) = fp m c t (0 + r.val) (1536 + l.val) :=
  all_f m c t 0 1536 512 512 (by omega) (by omega) inb_S512x2560_S512x512_0_1536 r l

/-- A load of the columns from 2048 on. -/
theorem cols4 (r l : Fin 512) :
    (View.whole cc0_scratch0).readCov (Val := Elt Ideal) [⟨Rect.unit ![256, 1536] ![256, 1024] inb_S512x2560_S256x1024_256_1536, k0_pay26 (View.ld (bT m c t) (Rect.unit ![256, 0] ![256, 1024] inb_S512x1024_S256x1024_256_0))⟩,
      ⟨Rect.unit ![256, 1024] ![256, 512] inb_S512x2560_S256x512_256_1024, k0_pay25 (View.ld (bV m c t) (Rect.unit ![256, 0] ![256, 512] inb_S512x512_S256x512_256_0))⟩,
      ⟨Rect.unit ![256, 896] ![256, 128] inb_S512x2560_S256x128_256_896, rope (View.ld (bK m c t) (Rect.unit ![256, 384] ![256, 128] inb_S512x512_S256x128_256_384)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 384] ![256, 128] inb_S512x2560_S256x128_256_384, rope (k0_pay11 (View.ld (bQ m c t) (Rect.unit ![256, 384] ![256, 128] inb_S512x512_S256x128_256_384))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 768] ![256, 128] inb_S512x2560_S256x128_256_768, rope (View.ld (bK m c t) (Rect.unit ![256, 256] ![256, 128] inb_S512x512_S256x128_256_256)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 256] ![256, 128] inb_S512x2560_S256x128_256_256, rope (k0_pay11 (View.ld (bQ m c t) (Rect.unit ![256, 256] ![256, 128] inb_S512x512_S256x128_256_256))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 640] ![256, 128] inb_S512x2560_S256x128_256_640, rope (View.ld (bK m c t) (Rect.unit ![256, 128] ![256, 128] inb_S512x512_S256x128_256_128)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 128] ![256, 128] inb_S512x2560_S256x128_256_128, rope (k0_pay11 (View.ld (bQ m c t) (Rect.unit ![256, 128] ![256, 128] inb_S512x512_S256x128_256_128))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 512] ![256, 128] inb_S512x2560_S256x128_256_512, rope (View.ld (bK m c t) (Rect.unit ![256, 0] ![256, 128] inb_S512x512_S256x128_256_0)) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![256, 0] ![256, 128] inb_S512x2560_S256x128_256_0, rope (k0_pay11 (View.ld (bQ m c t) (Rect.unit ![256, 0] ![256, 128] inb_S512x512_S256x128_256_0))) (k0_pay6 (View.ld (bC m c t) (Rect.unit ![256, 0] ![256, 128] inb_S512x128_S256x128_256_0))) (k0_pay7 (View.ld (bN m c t) (Rect.unit ![256, 0] ![256, 128] inb_S512x128_S256x128_256_0)))⟩,
      ⟨Rect.unit ![0, 1536] ![256, 1024] inb_S512x2560_S256x1024_0_1536, k0_pay26 (View.ld (bT m c t) (Rect.unit ![0, 0] ![256, 1024] inb_S512x1024_S256x1024_0_0))⟩,
      ⟨Rect.unit ![0, 1024] ![256, 512] inb_S512x2560_S256x512_0_1024, k0_pay25 (View.ld (bV m c t) (Rect.unit ![0, 0] ![256, 512] inb_S512x512_S256x512_0_0))⟩,
      ⟨Rect.unit ![0, 896] ![256, 128] inb_S512x2560_S256x128_0_896, rope (View.ld (bK m c t) (Rect.unit ![0, 384] ![256, 128] inb_S512x512_S256x128_0_384)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 384] ![256, 128] inb_S512x2560_S256x128_0_384, rope (k0_pay11 (View.ld (bQ m c t) (Rect.unit ![0, 384] ![256, 128] inb_S512x512_S256x128_0_384))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 768] ![256, 128] inb_S512x2560_S256x128_0_768, rope (View.ld (bK m c t) (Rect.unit ![0, 256] ![256, 128] inb_S512x512_S256x128_0_256)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 256] ![256, 128] inb_S512x2560_S256x128_0_256, rope (k0_pay11 (View.ld (bQ m c t) (Rect.unit ![0, 256] ![256, 128] inb_S512x512_S256x128_0_256))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 640] ![256, 128] inb_S512x2560_S256x128_0_640, rope (View.ld (bK m c t) (Rect.unit ![0, 128] ![256, 128] inb_S512x512_S256x128_0_128)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 128] ![256, 128] inb_S512x2560_S256x128_0_128, rope (k0_pay11 (View.ld (bQ m c t) (Rect.unit ![0, 128] ![256, 128] inb_S512x512_S256x128_0_128))) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 512] ![256, 128] inb_S512x2560_S256x128_0_512, rope (View.ld (bK m c t) (Rect.unit ![0, 0] ![256, 128] inb_S512x512_S256x128_0_0)) (k0_pay6 (View.ld (bC m c t) (Rect.unit ![0, 0] ![256, 128] inb_S512x128_S256x128_0_0))) (k0_pay7 (View.ld (bN m c t) (Rect.unit ![0, 0] ![256, 128] inb_S512x128_S256x128_0_0)))⟩,
      ⟨Rect.unit ![0, 0] ![256, 128] inb_S512x2560_S256x128_0_0, rope (k0_pay11 (View.ld (bQ m c t) (Rect.unit ![0, 0] ![256, 128] inb_S512x512_S256x128_0_0))) (k0_pay6 (View.ld (bC m c t) (Rect.unit ![0, 0] ![256, 128] inb_S512x128_S256x128_0_0))) (k0_pay7 (View.ld (bN m c t) (Rect.unit ![0, 0] ![256, 128] inb_S512x128_S256x128_0_0)))⟩]
      (Rect.unit (s := S512x2560) ![0, 2048] ![512, 512] inb_S512x2560_S512x512_0_2048).toLoadRect (ix2 r l) = fp m c t (0 + r.val) (2048 + l.val) :=
  all_f m c t 0 2048 512 512 (by omega) (by omega) inb_S512x2560_S512x512_0_2048 r l

end Cert.InBwdIdeal.Point

end
-- ==== Proof.InBwdGwA.lean ====
/-
  The weights' gradient, as the first grid point leaves it.
-/
module

public import proofs.«01_k».proof.Proof.InBwdAt
public import proofs.«01_k».proof.Proof.InBwdCols
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

set_option maxHeartbeats 4000000 in
/-- The weights' gradient gains the point's part. -/
theorem gw_A (h : Fin 2) (n : Fin 4) (a : Fin 512) (b : Fin 640) (h0 : t.val % 8 = 0) (h1 : ¬t.val % 8 = 7) : (outsAt0 m c t.val t.isLt).2.1 (ix4 h n a b)
    = (k0_pay5 (F := Ideal)) (ix4 h n a b) + gz m c t (512 * h.val + a.val) (640 * n.val + b.val) := by
  rw [outsAt0_A m c t h0 h1]
  frame_open
  simp (disch := decide) only [↓ View.readCov_skip, ↓ View.readCov_cons_toLoadRect, ↓ View.readCov_fill]
  frame_out
  refine (Loads.gw_tiles (fun h n a b => on4 (k0_pay5 (F := Ideal)) h n a b + gz m c t (512 * h + a) (640 * n + b)) ?h0 ?h1 ?h2 ?h3 ?h4 ?h5 ?h6 ?h7 ?h8 ?h9 ?h10 ?h11 ?h12 ?h13 ?h14 ?h15 _ h n a b).trans
    (congrArg (· + _) (on4_eq _ h n a b))
  case h0 =>
    intro a d
    refine (t0a _ _ a _ d).trans ?_
    refine congrArg₂ (· + ·) (ld4 _ 0 0 0 512 (by omega) (by omega) (by omega) _ a d) ((prod_eq 0 (cols0 m c t) _ _).trans (congrArg₂ (gz m c t) ?_ ?_))
    · dsimp only <;> omega
    · dsimp only <;> omega
  case h1 =>
    intro a d
    refine (t0b _ _ a _ d).trans ?_
    refine congrArg₂ (· + ·) (ld4 _ 1 0 0 512 (by omega) (by omega) (by omega) _ a d) ((prod_eq 0 (cols0 m c t) _ _).trans (congrArg₂ (gz m c t) ?_ ?_))
    · dsimp only <;> omega
    · dsimp only <;> omega
  case h2 =>
    intro a d
    refine (t1a _ _ a _ d).trans ?_
    refine congrArg₂ (· + ·) (ld4 _ 0 0 512 128 (by omega) (by omega) (by omega) _ a d) ((prod_eq 512 (cols1 m c t) _ _).trans (congrArg₂ (gz m c t) ?_ ?_))
    · dsimp only <;> omega
    · dsimp only <;> omega
  case h3 =>
    intro a d
    refine (t1b _ _ a _ d).trans ?_
    refine congrArg₂ (· + ·) (ld4 _ 1 0 512 128 (by omega) (by omega) (by omega) _ a d) ((prod_eq 512 (cols1 m c t) _ _).trans (congrArg₂ (gz m c t) ?_ ?_))
    · dsimp only <;> omega
    · dsimp only <;> omega
  case h4 =>
    intro a d
    refine (t2a _ _ a _ d).trans ?_
    refine congrArg₂ (· + ·) (ld4 _ 0 1 0 384 (by omega) (by omega) (by omega) _ a d) ((prod_eq 512 (cols1 m c t) _ _).trans (congrArg₂ (gz m c t) ?_ ?_))
    · dsimp only <;> omega
    · dsimp only <;> omega
  case h5 =>
    intro a d
    refine (t2b _ _ a _ d).trans ?_
    refine congrArg₂ (· + ·) (ld4 _ 1 1 0 384 (by omega) (by omega) (by omega) _ a d) ((prod_eq 512 (cols1 m c t) _ _).trans (congrArg₂ (gz m c t) ?_ ?_))
    · dsimp only <;> omega
    · dsimp only <;> omega
  case h6 =>
    intro a d
    refine (t3a _ _ a _ d).trans ?_
    refine congrArg₂ (· + ·) (ld4 _ 0 1 384 256 (by omega) (by omega) (by omega) _ a d) ((prod_eq 1024 (cols2 m c t) _ _).trans (congrArg₂ (gz m c t) ?_ ?_))
    · dsimp only <;> omega
    · dsimp only <;> omega
  case h7 =>
    intro a d
    refine (t3b _ _ a _ d).trans ?_
    refine congrArg₂ (· + ·) (ld4 _ 1 1 384 256 (by omega) (by omega) (by omega) _ a d) ((prod_eq 1024 (cols2 m c t) _ _).trans (congrArg₂ (gz m c t) ?_ ?_))
    · dsimp only <;> omega
    · dsimp only <;> omega
  case h8 =>
    intro a d
    refine (t4a _ _ a _ d).trans ?_
    refine congrArg₂ (· + ·) (ld4 _ 0 2 0 256 (by omega) (by omega) (by omega) _ a d) ((prod_eq 1024 (cols2 m c t) _ _).trans (congrArg₂ (gz m c t) ?_ ?_))
    · dsimp only <;> omega
    · dsimp only <;> omega
  case h9 =>
    intro a d
    refine (t4b _ _ a _ d).trans ?_
    refine congrArg₂ (· + ·) (ld4 _ 1 2 0 256 (by omega) (by omega) (by omega) _ a d) ((prod_eq 1024 (cols2 m c t) _ _).trans (congrArg₂ (gz m c t) ?_ ?_))
    · dsimp only <;> omega
    · dsimp only <;> omega
  case h10 =>
    intro a d
    refine (t5a _ _ a _ d).trans ?_
    refine congrArg₂ (· + ·) (ld4 _ 0 2 256 384 (by omega) (by omega) (by omega) _ a d) ((prod_eq 1536 (cols3 m c t) _ _).trans (congrArg₂ (gz m c t) ?_ ?_))
    · dsimp only <;> omega
    · dsimp only <;> omega
  case h11 =>
    intro a d
    refine (t5b _ _ a _ d).trans ?_
    refine congrArg₂ (· + ·) (ld4 _ 1 2 256 384 (by omega) (by omega) (by omega) _ a d) ((prod_eq 1536 (cols3 m c t) _ _).trans (congrArg₂ (gz m c t) ?_ ?_))
    · dsimp only <;> omega
    · dsimp only <;> omega
  case h12 =>
    intro a d
    refine (t6a _ _ a _ d).trans ?_
    refine congrArg₂ (· + ·) (ld4 _ 0 3 0 128 (by omega) (by omega) (by omega) _ a d) ((prod_eq 1536 (cols3 m c t) _ _).trans (congrArg₂ (gz m c t) ?_ ?_))
    · dsimp only <;> omega
    · dsimp only <;> omega
  case h13 =>
    intro a d
    refine (t6b _ _ a _ d).trans ?_
    refine congrArg₂ (· + ·) (ld4 _ 1 3 0 128 (by omega) (by omega) (by omega) _ a d) ((prod_eq 1536 (cols3 m c t) _ _).trans (congrArg₂ (gz m c t) ?_ ?_))
    · dsimp only <;> omega
    · dsimp only <;> omega
  case h14 =>
    intro a d
    refine (t7a _ _ a _ d).trans ?_
    refine congrArg₂ (· + ·) (ld4 _ 0 3 128 512 (by omega) (by omega) (by omega) _ a d) ((prod_eq 2048 (cols4 m c t) _ _).trans (congrArg₂ (gz m c t) ?_ ?_))
    · dsimp only <;> omega
    · dsimp only <;> omega
  case h15 =>
    intro a d
    refine (t7b _ _ a _ d).trans ?_
    refine congrArg₂ (· + ·) (ld4 _ 1 3 128 512 (by omega) (by omega) (by omega) _ a d) ((prod_eq 2048 (cols4 m c t) _ _).trans (congrArg₂ (gz m c t) ?_ ?_))
    · dsimp only <;> omega
    · dsimp only <;> omega

end Cert.InBwdIdeal.Point

end
-- ==== Proof.InBwdGwB.lean ====
/-
  The weights' gradient, as a grid point between the first and the last leaves it.
-/
module

public import proofs.«01_k».proof.Proof.InBwdAt
public import proofs.«01_k».proof.Proof.InBwdCols
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

set_option maxHeartbeats 4000000 in
/-- The weights' gradient gains the point's part. -/
theorem gw_B (h : Fin 2) (n : Fin 4) (a : Fin 512) (b : Fin 640) (h0 : ¬t.val % 8 = 0) (h1 : ¬t.val % 8 = 7) : (outsAt0 m c t.val t.isLt).2.1 (ix4 h n a b)
    = (outsAt0 m c (t.val - 1) (Nat.lt_of_le_of_lt (Nat.sub_le _ _) t.isLt)).2.1 (ix4 h n a b) + gz m c t (512 * h.val + a.val) (640 * n.val + b.val) := by
  rw [outsAt0_B m c t h0 h1]
  frame_open
  simp (disch := decide) only [↓ View.readCov_skip, ↓ View.readCov_cons_toLoadRect, ↓ View.readCov_fill]
  frame_out
  refine (Loads.gw_tiles (fun h n a b => on4 (outsAt0 m c (t.val - 1) (Nat.lt_of_le_of_lt (Nat.sub_le _ _) t.isLt)).2.1 h n a b + gz m c t (512 * h + a) (640 * n + b)) ?h0 ?h1 ?h2 ?h3 ?h4 ?h5 ?h6 ?h7 ?h8 ?h9 ?h10 ?h11 ?h12 ?h13 ?h14 ?h15 _ h n a b).trans
    (congrArg (· + _) (on4_eq _ h n a b))
  case h0 =>
    intro a d
    refine (t0a _ _ a _ d).trans ?_
    refine congrArg₂ (· + ·) (ld4 _ 0 0 0 512 (by omega) (by omega) (by omega) _ a d) ((prod_eq 0 (cols0 m c t) _ _).trans (congrArg₂ (gz m c t) ?_ ?_))
    · dsimp only <;> omega
    · dsimp only <;> omega
  case h1 =>
    intro a d
    refine (t0b _ _ a _ d).trans ?_
    refine congrArg₂ (· + ·) (ld4 _ 1 0 0 512 (by omega) (by omega) (by omega) _ a d) ((prod_eq 0 (cols0 m c t) _ _).trans (congrArg₂ (gz m c t) ?_ ?_))
    · dsimp only <;> omega
    · dsimp only <;> omega
  case h2 =>
    intro a d
    refine (t1a _ _ a _ d).trans ?_
    refine congrArg₂ (· + ·) (ld4 _ 0 0 512 128 (by omega) (by omega) (by omega) _ a d) ((prod_eq 512 (cols1 m c t) _ _).trans (congrArg₂ (gz m c t) ?_ ?_))
    · dsimp only <;> omega
    · dsimp only <;> omega
  case h3 =>
    intro a d
    refine (t1b _ _ a _ d).trans ?_
    refine congrArg₂ (· + ·) (ld4 _ 1 0 512 128 (by omega) (by omega) (by omega) _ a d) ((prod_eq 512 (cols1 m c t) _ _).trans (congrArg₂ (gz m c t) ?_ ?_))
    · dsimp only <;> omega
    · dsimp only <;> omega
  case h4 =>
    intro a d
    refine (t2a _ _ a _ d).trans ?_
    refine congrArg₂ (· + ·) (ld4 _ 0 1 0 384 (by omega) (by omega) (by omega) _ a d) ((prod_eq 512 (cols1 m c t) _ _).trans (congrArg₂ (gz m c t) ?_ ?_))
    · dsimp only <;> omega
    · dsimp only <;> omega
  case h5 =>
    intro a d
    refine (t2b _ _ a _ d).trans ?_
    refine congrArg₂ (· + ·) (ld4 _ 1 1 0 384 (by omega) (by omega) (by omega) _ a d) ((prod_eq 512 (cols1 m c t) _ _).trans (congrArg₂ (gz m c t) ?_ ?_))
    · dsimp only <;> omega
    · dsimp only <;> omega
  case h6 =>
    intro a d
    refine (t3a _ _ a _ d).trans ?_
    refine congrArg₂ (· + ·) (ld4 _ 0 1 384 256 (by omega) (by omega) (by omega) _ a d) ((prod_eq 1024 (cols2 m c t) _ _).trans (congrArg₂ (gz m c t) ?_ ?_))
    · dsimp only <;> omega
    · dsimp only <;> omega
  case h7 =>
    intro a d
    refine (t3b _ _ a _ d).trans ?_
    refine congrArg₂ (· + ·) (ld4 _ 1 1 384 256 (by omega) (by omega) (by omega) _ a d) ((prod_eq 1024 (cols2 m c t) _ _).trans (congrArg₂ (gz m c t) ?_ ?_))
    · dsimp only <;> omega
    · dsimp only <;> omega
  case h8 =>
    intro a d
    refine (t4a _ _ a _ d).trans ?_
    refine congrArg₂ (· + ·) (ld4 _ 0 2 0 256 (by omega) (by omega) (by omega) _ a d) ((prod_eq 1024 (cols2 m c t) _ _).trans (congrArg₂ (gz m c t) ?_ ?_))
    · dsimp only <;> omega
    · dsimp only <;> omega
  case h9 =>
    intro a d
    refine (t4b _ _ a _ d).trans ?_
    refine congrArg₂ (· + ·) (ld4 _ 1 2 0 256 (by omega) (by omega) (by omega) _ a d) ((prod_eq 1024 (cols2 m c t) _ _).trans (congrArg₂ (gz m c t) ?_ ?_))
    · dsimp only <;> omega
    · dsimp only <;> omega
  case h10 =>
    intro a d
    refine (t5a _ _ a _ d).trans ?_
    refine congrArg₂ (· + ·) (ld4 _ 0 2 256 384 (by omega) (by omega) (by omega) _ a d) ((prod_eq 1536 (cols3 m c t) _ _).trans (congrArg₂ (gz m c t) ?_ ?_))
    · dsimp only <;> omega
    · dsimp only <;> omega
  case h11 =>
    intro a d
    refine (t5b _ _ a _ d).trans ?_
    refine congrArg₂ (· + ·) (ld4 _ 1 2 256 384 (by omega) (by omega) (by omega) _ a d) ((prod_eq 1536 (cols3 m c t) _ _).trans (congrArg₂ (gz m c t) ?_ ?_))
    · dsimp only <;> omega
    · dsimp only <;> omega
  case h12 =>
    intro a d
    refine (t6a _ _ a _ d).trans ?_
    refine congrArg₂ (· + ·) (ld4 _ 0 3 0 128 (by omega) (by omega) (by omega) _ a d) ((prod_eq 1536 (cols3 m c t) _ _).trans (congrArg₂ (gz m c t) ?_ ?_))
    · dsimp only <;> omega
    · dsimp only <;> omega
  case h13 =>
    intro a d
    refine (t6b _ _ a _ d).trans ?_
    refine congrArg₂ (· + ·) (ld4 _ 1 3 0 128 (by omega) (by omega) (by omega) _ a d) ((prod_eq 1536 (cols3 m c t) _ _).trans (congrArg₂ (gz m c t) ?_ ?_))
    · dsimp only <;> omega
    · dsimp only <;> omega
  case h14 =>
    intro a d
    refine (t7a _ _ a _ d).trans ?_
    refine congrArg₂ (· + ·) (ld4 _ 0 3 128 512 (by omega) (by omega) (by omega) _ a d) ((prod_eq 2048 (cols4 m c t) _ _).trans (congrArg₂ (gz m c t) ?_ ?_))
    · dsimp only <;> omega
    · dsimp only <;> omega
  case h15 =>
    intro a d
    refine (t7b _ _ a _ d).trans ?_
    refine congrArg₂ (· + ·) (ld4 _ 1 3 128 512 (by omega) (by omega) (by omega) _ a d) ((prod_eq 2048 (cols4 m c t) _ _).trans (congrArg₂ (gz m c t) ?_ ?_))
    · dsimp only <;> omega
    · dsimp only <;> omega

end Cert.InBwdIdeal.Point

end
-- ==== Proof.InBwdGwC.lean ====
/-
  The weights' gradient, as the last grid point leaves it.
-/
module

public import proofs.«01_k».proof.Proof.InBwdAt
public import proofs.«01_k».proof.Proof.InBwdCols
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

set_option maxHeartbeats 4000000 in
/-- The weights' gradient gains the point's part. -/
theorem gw_C (h : Fin 2) (n : Fin 4) (a : Fin 512) (b : Fin 640) (h0 : ¬t.val % 8 = 0) (h1 : t.val % 8 = 7) : (outsAt0 m c t.val t.isLt).2.1 (ix4 h n a b)
    = (outsAt0 m c (t.val - 1) (Nat.lt_of_le_of_lt (Nat.sub_le _ _) t.isLt)).2.1 (ix4 h n a b) + gz m c t (512 * h.val + a.val) (640 * n.val + b.val) := by
  rw [outsAt0_C m c t h0 h1]
  frame_open
  simp (disch := decide) only [↓ View.readCov_skip, ↓ View.readCov_cons_toLoadRect, ↓ View.readCov_fill]
  frame_out
  refine (Loads.gw_tiles (fun h n a b => on4 (outsAt0 m c (t.val - 1) (Nat.lt_of_le_of_lt (Nat.sub_le _ _) t.isLt)).2.1 h n a b + gz m c t (512 * h + a) (640 * n + b)) ?h0 ?h1 ?h2 ?h3 ?h4 ?h5 ?h6 ?h7 ?h8 ?h9 ?h10 ?h11 ?h12 ?h13 ?h14 ?h15 _ h n a b).trans
    (congrArg (· + _) (on4_eq _ h n a b))
  case h0 =>
    intro a d
    refine (t0a _ _ a _ d).trans ?_
    refine congrArg₂ (· + ·) (ld4 _ 0 0 0 512 (by omega) (by omega) (by omega) _ a d) ((prod_eq 0 (cols0 m c t) _ _).trans (congrArg₂ (gz m c t) ?_ ?_))
    · dsimp only <;> omega
    · dsimp only <;> omega
  case h1 =>
    intro a d
    refine (t0b _ _ a _ d).trans ?_
    refine congrArg₂ (· + ·) (ld4 _ 1 0 0 512 (by omega) (by omega) (by omega) _ a d) ((prod_eq 0 (cols0 m c t) _ _).trans (congrArg₂ (gz m c t) ?_ ?_))
    · dsimp only <;> omega
    · dsimp only <;> omega
  case h2 =>
    intro a d
    refine (t1a _ _ a _ d).trans ?_
    refine congrArg₂ (· + ·) (ld4 _ 0 0 512 128 (by omega) (by omega) (by omega) _ a d) ((prod_eq 512 (cols1 m c t) _ _).trans (congrArg₂ (gz m c t) ?_ ?_))
    · dsimp only <;> omega
    · dsimp only <;> omega
  case h3 =>
    intro a d
    refine (t1b _ _ a _ d).trans ?_
    refine congrArg₂ (· + ·) (ld4 _ 1 0 512 128 (by omega) (by omega) (by omega) _ a d) ((prod_eq 512 (cols1 m c t) _ _).trans (congrArg₂ (gz m c t) ?_ ?_))
    · dsimp only <;> omega
    · dsimp only <;> omega
  case h4 =>
    intro a d
    refine (t2a _ _ a _ d).trans ?_
    refine congrArg₂ (· + ·) (ld4 _ 0 1 0 384 (by omega) (by omega) (by omega) _ a d) ((prod_eq 512 (cols1 m c t) _ _).trans (congrArg₂ (gz m c t) ?_ ?_))
    · dsimp only <;> omega
    · dsimp only <;> omega
  case h5 =>
    intro a d
    refine (t2b _ _ a _ d).trans ?_
    refine congrArg₂ (· + ·) (ld4 _ 1 1 0 384 (by omega) (by omega) (by omega) _ a d) ((prod_eq 512 (cols1 m c t) _ _).trans (congrArg₂ (gz m c t) ?_ ?_))
    · dsimp only <;> omega
    · dsimp only <;> omega
  case h6 =>
    intro a d
    refine (t3a _ _ a _ d).trans ?_
    refine congrArg₂ (· + ·) (ld4 _ 0 1 384 256 (by omega) (by omega) (by omega) _ a d) ((prod_eq 1024 (cols2 m c t) _ _).trans (congrArg₂ (gz m c t) ?_ ?_))
    · dsimp only <;> omega
    · dsimp only <;> omega
  case h7 =>
    intro a d
    refine (t3b _ _ a _ d).trans ?_
    refine congrArg₂ (· + ·) (ld4 _ 1 1 384 256 (by omega) (by omega) (by omega) _ a d) ((prod_eq 1024 (cols2 m c t) _ _).trans (congrArg₂ (gz m c t) ?_ ?_))
    · dsimp only <;> omega
    · dsimp only <;> omega
  case h8 =>
    intro a d
    refine (t4a _ _ a _ d).trans ?_
    refine congrArg₂ (· + ·) (ld4 _ 0 2 0 256 (by omega) (by omega) (by omega) _ a d) ((prod_eq 1024 (cols2 m c t) _ _).trans (congrArg₂ (gz m c t) ?_ ?_))
    · dsimp only <;> omega
    · dsimp only <;> omega
  case h9 =>
    intro a d
    refine (t4b _ _ a _ d).trans ?_
    refine congrArg₂ (· + ·) (ld4 _ 1 2 0 256 (by omega) (by omega) (by omega) _ a d) ((prod_eq 1024 (cols2 m c t) _ _).trans (congrArg₂ (gz m c t) ?_ ?_))
    · dsimp only <;> omega
    · dsimp only <;> omega
  case h10 =>
    intro a d
    refine (t5a _ _ a _ d).trans ?_
    refine congrArg₂ (· + ·) (ld4 _ 0 2 256 384 (by omega) (by omega) (by omega) _ a d) ((prod_eq 1536 (cols3 m c t) _ _).trans (congrArg₂ (gz m c t) ?_ ?_))
    · dsimp only <;> omega
    · dsimp only <;> omega
  case h11 =>
    intro a d
    refine (t5b _ _ a _ d).trans ?_
    refine congrArg₂ (· + ·) (ld4 _ 1 2 256 384 (by omega) (by omega) (by omega) _ a d) ((prod_eq 1536 (cols3 m c t) _ _).trans (congrArg₂ (gz m c t) ?_ ?_))
    · dsimp only <;> omega
    · dsimp only <;> omega
  case h12 =>
    intro a d
    refine (t6a _ _ a _ d).trans ?_
    refine congrArg₂ (· + ·) (ld4 _ 0 3 0 128 (by omega) (by omega) (by omega) _ a d) ((prod_eq 1536 (cols3 m c t) _ _).trans (congrArg₂ (gz m c t) ?_ ?_))
    · dsimp only <;> omega
    · dsimp only <;> omega
  case h13 =>
    intro a d
    refine (t6b _ _ a _ d).trans ?_
    refine congrArg₂ (· + ·) (ld4 _ 1 3 0 128 (by omega) (by omega) (by omega) _ a d) ((prod_eq 1536 (cols3 m c t) _ _).trans (congrArg₂ (gz m c t) ?_ ?_))
    · dsimp only <;> omega
    · dsimp only <;> omega
  case h14 =>
    intro a d
    refine (t7a _ _ a _ d).trans ?_
    refine congrArg₂ (· + ·) (ld4 _ 0 3 128 512 (by omega) (by omega) (by omega) _ a d) ((prod_eq 2048 (cols4 m c t) _ _).trans (congrArg₂ (gz m c t) ?_ ?_))
    · dsimp only <;> omega
    · dsimp only <;> omega
  case h15 =>
    intro a d
    refine (t7b _ _ a _ d).trans ?_
    refine congrArg₂ (· + ·) (ld4 _ 1 3 128 512 (by omega) (by omega) (by omega) _ a d) ((prod_eq 2048 (cols4 m c t) _ _).trans (congrArg₂ (gz m c t) ?_ ?_))
    · dsimp only <;> omega
    · dsimp only <;> omega

end Cert.InBwdIdeal.Point

end
-- ==== Proof.InBwdSm.lean ====
/-
  The block of small rows, as the last grid point stores it.
-/
module

public import proofs.«01_k».proof.Proof.InBwdPoint
public import proofs.«01_k».proof.Proof.InBwdPayload
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

/-- The stores of the small rows, at a row and a column: the gain's gradient, then the other rows, then zeros. -/
theorem small_tiles (A : Vec Ideal S1x1024 .f32) (R : Vec Ideal S11x1024 .f32) (iR : ∀ x, (![1, 0] : Fin 2 → ℕ) x + (![11, 1024] : Fin 2 → ℕ) x ≤ S16x1024.size x)
    (iA : ∀ x, (![0, 0] : Fin 2 → ℕ) x + (![1, 1024] : Fin 2 → ℕ) x ≤ S16x1024.size x)
    (iZ : ∀ x, (![0, 0] : Fin 2 → ℕ) x + S16x1024.size x ≤ S16x1024.size x) (q : Fin 16) (k : Fin 1024) :
    View.canon (Val := Elt Ideal) (s := S16x1024) (e := .f32) [⟨Rect.unit ![1, 0] ![11, 1024] iR, k0_pay3 R⟩, ⟨Rect.unit ![0, 0] ![1, 1024] iA, k0_pay2 A⟩,
      ⟨Rect.unit (s := S16x1024) ![0, 0] S16x1024.size iZ, (k0_pay1 (F := Ideal) : FVec Ideal S16x1024 .f32)⟩] (ix2 q k) = block (fun k => A (ix2 0 k)) (fun i k => R (ix2 i k)) q k := by
  unfold block
  by_cases h1 : q.val < 1
  · rw [if_pos h1]
    refine (View.canon_cons_of_not_mem _ _ ?_).trans ?_
    · intro h
      have := (Rect.mem_set_unit (inb := iR).mp h) 0
      have h2 : 1 ≤ q.val := this.1
      omega
    · have e : (ix2 q k : Shape.Idx S16x1024) = (Rect.unit (s := S16x1024) ![0, 0] ![1, 1024] iA).emb (ix2 (0 : Fin 1) k) := by
        funext x
        fin_cases x <;> apply Fin.ext
        · show q.val = 0 + 1 * 0; omega
        · show k.val = 0 + 1 * k.val; omega
      rw [e]
      exact (View.canon_cons_emb _ _ _ _).trans (pay2 A k)
  · rw [if_neg h1]
    by_cases h2 : q.val - 1 < 11
    · rw [dif_pos h2]
      have e : (ix2 q k : Shape.Idx S16x1024) = (Rect.unit (s := S16x1024) ![1, 0] ![11, 1024] iR).emb (ix2 (⟨q.val - 1, h2⟩ : Fin 11) k) := by
        funext x
        fin_cases x <;> apply Fin.ext
        · show q.val = 1 + 1 * (q.val - 1); omega
        · show k.val = 0 + 1 * k.val; omega
      rw [e]
      exact (View.canon_cons_emb _ _ _ _).trans (pay3 k R ⟨q.val - 1, h2⟩)
    · rw [dif_neg h2]
      refine (View.canon_cons_of_not_mem _ _ ?_).trans ((View.canon_cons_of_not_mem _ _ ?_).trans ?_)
      · intro h
        have := (Rect.mem_set_unit (inb := iR).mp h) 0
        have h3 : q.val < 1 + 11 := this.2
        omega
      · intro h
        have := (Rect.mem_set_unit (inb := iA).mp h) 0
        have h3 : q.val < 0 + 1 := this.2
        omega
      · rw [View.canon_cons_unit_lit iZ _ _ (by decide)]
        exact pay1 k q

/-- The last point stores the small rows. -/
theorem small_at (q : Fin 16) (k : Fin 1024) (h0 : ¬t.val % 8 = 0) (h1 : t.val % 8 = 7) : (outsAt0 m c t.val t.isLt).2.2.2.1 (ix2 q k)
    = block (fun k => (outsAt0 m c t.val t.isLt).2.2.1 (ix2 0 k)) (fun i k => bR m c t (ix2 i k)) q k := by
  rw [outsAt0_C m c t h0 h1]
  frame_open
  simp (disch := decide) only [↓ View.readCov_skip, ↓ View.readCov_cons_toLoadRect, ↓ View.readCov_fill]
  frame_out
  exact small_tiles _ _ _ _ _ q k

end Cert.InBwdIdeal.Point

end
-- ==== Proof.InBwdArrays.lean ====
/-
  The arrays the kernel leaves: the gradient at the input, the weights' gradient, and the block of small rows.
-/
module

public import proofs.«01_k».proof.Proof.InBwdDx
public import proofs.«01_k».proof.Proof.InBwdDg
public import proofs.«01_k».proof.Proof.InBwdGwA
public import proofs.«01_k».proof.Proof.InBwdGwB
public import proofs.«01_k».proof.Proof.InBwdGwC
public import proofs.«01_k».proof.Proof.InBwdSm
public import proofs.«01_k».proof.Proof.InBwdHost
public import proofs.«01_k».proof.Proof.Gen.InBwdIdeal.Value
public import Idealize.ShloMosaic.Lib.Pipeline.ValueKit
public import Idealize.ShloMosaic.Lib.Pipeline.ReadBack

@[expose] public section

set_option maxRecDepth 16384

noncomputable section

namespace Cert.InBwdIdeal.Point

open Idealize.ShloMosaic Idealize.ShloMosaic.TcCoe Idealize.SL.Sem
open Cert.InBwdIdeal Cert.InBwdIdeal.Gen Cert.RowMath
open Cert.MlpRow (nrm)
open Cert.InProjRow Cert.InBwdIdeal.Payload Cert.InBwdIdeal.Blocks Cert.InBwdIdeal.Loads Cert.InBwdIdeal.HostRows

variable (m : (ℓ : Loc nD τ sig) → Buf (Elt Ideal) ℓ) (c : Dev nD) (t : Fin cfg0.N)

theorem t7_last : (t0_7 : Fin cfg0.N).val = 7 := rfl

/-- The gradient at the input. -/
theorem final11 : (dats m 0 c).arrAt 11 cfg0.N = (fun j => dw_ m c (j 0) (j 1) : Shape.Idx S4096x1024 → EReal) := by
  refine (dats m 0 c).arrAt_eq_of_covers 11 _ (by decide +kernel) fun t hf y => ?_
  blk_simp
  rw [after0_11]
  obtain ⟨r, d, rfl⟩ : ∃ (r : Fin 512) (d : Fin 1024), y = (ix2 r d : Shape.Idx ⟨2, ![512, 1024]⟩) := ⟨y 0, y 1, eq_ix2 y⟩
  refine (dx_at m c t r d).trans ?_
  refine congrArg₂ (dw_ m c) ?_ ?_
  all_goals (apply Fin.ext; blk_simp [idx11 t])
  all_goals exact congrArg (· + r.val) (Nat.mul_comm 512 t.val)

/-- The sums over the eight blocks of 512 rows are the sums over the 4096 rows. -/
theorem sum_rows (f : Fin 4096 → EReal) : ∑ t : Fin cfg0.N, ∑ r : Fin 512, f (at_ t r) = ∑ i, f i := by
  have e : ∀ (t : Fin cfg0.N) (r : Fin 512), f (at_ t r) = f ⟨t.val * 512 + r.val, by have := lt t r; omega⟩ :=
    fun t r => congrArg f (Fin.ext (by simp [at_, Nat.mul_comm]))
  simp only [e]
  exact Fin.sum_mul_add_fin cfg0.N 512 f (by rw [show cfg0.N = 8 from N_0])

/-- What a point adds to the weights' gradient, over its rows. -/
theorem gz_eq (i : Fin 1024) (e : Fin 2560) : gz m c t i.val e.val
    = ∑ r : Fin 512, nrm (xr m c (at_ t r)) (gr m c) i * dproj (po m c (at_ t r)) (qr m c (at_ t r)) (kr m c (at_ t r)) (vr m c (at_ t r)) (tr m c (at_ t r)) e := by
  unfold gz
  refine Finset.sum_congr rfl fun s _ => ?_
  have h : hn m c (at_ t s) i.val = nrm (xr m c (at_ t s)) (gr m c) i := dif_pos i.isLt
  rw [h, fp_eq]

theorem gw_reset (h : Fin 2) (n : Fin 4) (a : Fin 512) (b : Fin 640) (h0 : t.val % 8 = 0) :
    (outsAt0 m c t.val t.isLt).2.1 (ix4 h n a b) = 0 + gz m c t (512 * h.val + a.val) (640 * n.val + b.val) :=
  (gw_A m c t h n a b h0 (by omega)).trans (congrArg (· + _) (pay5 a h n b))

theorem gw_step (h : Fin 2) (n : Fin 4) (a : Fin 512) (b : Fin 640) (h0 : ¬t.val % 8 = 0) : (outsAt0 m c t.val t.isLt).2.1 (ix4 h n a b)
    = (outsAt0 m c (t.val - 1) (Nat.lt_of_le_of_lt (Nat.sub_le _ _) t.isLt)).2.1 (ix4 h n a b) + gz m c t (512 * h.val + a.val) (640 * n.val + b.val) := by
  by_cases h1 : t.val % 8 = 7
  · exact gw_C m c t h n a b h0 h1
  · exact gw_B m c t h n a b h0 h1

theorem dg_reset (k : Fin 1024) (h0 : t.val % 8 = 0) : (outsAt0 m c t.val t.isLt).2.2.1 (ix2 0 k) = 0 + ∑ r : Fin 512, ga m c (at_ t r) k :=
  (dg_A m c t k h0 (by omega)).trans (zero_add _).symm

theorem dg_step (k : Fin 1024) (h0 : ¬t.val % 8 = 0) : (outsAt0 m c t.val t.isLt).2.2.1 (ix2 0 k)
    = (outsAt0 m c (t.val - 1) (Nat.lt_of_le_of_lt (Nat.sub_le _ _) t.isLt)).2.2.1 (ix2 0 k) + ∑ r : Fin 512, ga m c (at_ t r) k := by
  by_cases h1 : t.val % 8 = 7
  · exact dg_C m c t k h0 h1
  · exact dg_B m c t k h0 h1

/-- The weights' gradient, in the order the exchange takes it. -/
theorem final12 : (dats m 0 c).arrAt 12 cfg0.N = (fun j => ∑ s, nrm (xr m c s) (gr m c) ⟨512 * (j 0).val + (j 2).val, by have := (j 0).isLt; have := (j 2).isLt; simp at *; omega⟩
      * dproj (po m c s) (qr m c s) (kr m c s) (vr m c s) (tr m c s) ⟨640 * (j 1).val + (j 3).val, by have := (j 1).isLt; have := (j 3).isLt; simp at *; omega⟩ : Shape.Idx S2x4x512x640 → EReal) := by
  refine (dats m 0 c).arrAt_eq_of_after_last 12 t0_7 (by decide +kernel) _ fun j => ?_
  blk_simp
  rw [after0_12]
  obtain ⟨h, n, a, b, rfl⟩ : ∃ (h : Fin 2) (n : Fin 4) (a : Fin 512) (b : Fin 640), j = (ix4 h n a b : Shape.Idx ⟨4, ![2, 4, 512, 640]⟩) := ⟨j 0, j 1, j 2, j 3, eq_ix4 j⟩
  refine (Pipeline.eq_sum_fin_of_reset_step_apply_last (fun n' h' (_ : Unit) => (outsAt0 m c n' h').2.1 (ix4 h n a b)) 8 (fun _ => 0)
    (fun t _ => gz m c t (512 * h.val + a.val) (640 * n.val + b.val)) (fun t h' _ => gw_reset m c t h n a b h') (fun t h' _ => gw_step m c t h n a b h') (le_of_eq N_0) t0_7 rfl ()).trans ?_
  rw [zero_add]
  refine (Finset.sum_congr rfl fun t _ => gz_eq m c t ⟨512 * h.val + a.val, by omega⟩ ⟨640 * n.val + b.val, by omega⟩).trans ?_
  exact sum_rows fun s => nrm (xr m c s) (gr m c) ⟨512 * h.val + a.val, by omega⟩
      * dproj (po m c s) (qr m c s) (kr m c s) (vr m c s) (tr m c s) ⟨640 * n.val + b.val, by omega⟩

/-- The gain's gradient after the last point. -/
theorem dg_last (k : Fin 1024) : (outsAt0 m c (t0_7 : Fin cfg0.N).val (t0_7 : Fin cfg0.N).isLt).2.2.1 (ix2 0 k) = ∑ s, ga m c s k := by
  refine (Pipeline.eq_sum_fin_of_reset_step_apply_last (fun n' h' (_ : Unit) => (outsAt0 m c n' h').2.2.1 (ix2 0 k)) 8 (fun _ => 0)
    (fun t _ => ∑ r : Fin 512, ga m c (at_ t r) k) (fun t h' _ => dg_reset m c t k h') (fun t h' _ => dg_step m c t k h') (le_of_eq N_0) t0_7 rfl ()).trans ?_
  rw [zero_add]
  exact sum_rows fun s => ga m c s k

/-- The block of small rows. -/
theorem final14 : (dats m 0 c).arrAt 14 cfg0.N = (fun j => block (fun k => ∑ s, ga m c s k) (fun i k => (V m c main_v57 : Vec Ideal S11x1024 .f32) (ix2 i k)) (j 0) (j 1) : Shape.Idx S16x1024 → EReal) := by
  refine (dats m 0 c).arrAt_eq_of_after_last 14 t0_7 (by decide +kernel) _ fun j => ?_
  blk_simp
  rw [after0_14]
  obtain ⟨q, k, rfl⟩ : ∃ (q : Fin 16) (k : Fin 1024), j = (ix2 q k : Shape.Idx ⟨2, ![16, 1024]⟩) := ⟨j 0, j 1, eq_ix2 j⟩
  refine (small_at m c t0_7 q k (by decide) (by decide)).trans ?_
  exact congrArg₂ (fun A B => block A B q k) (funext fun k => dg_last m c k) (funext fun i => funext fun k => bR_at m c t0_7 i k)

end Cert.InBwdIdeal.Point

end
-- ==== Proof.InBwdRefValue.lean ====
/-
  The reference's named values and results of the input projection's gradient, read at a row and a column as the row
  functions of `InProjRow`.
-/
module

public import Idealize.ShloMosaic.Lib.KernelVsHost
public import proofs.«01_k».proof.Proof.InProjRow
public import proofs.«01_k».proof.Proof.Gen.InBwdRefIdeal.Run
public import Idealize.ShloMosaic.Lib.Pointwise
public import Idealize.ShloMosaic.Lib.Tactic.CleanTypes

@[expose] public section

set_option maxRecDepth 16384

noncomputable section

namespace Cert.InBwdRefIdeal.Rows

open Idealize.ShloMosaic Idealize.ShloMosaic.TcCoe Idealize.SL.Sem Idealize.ShloMosaic.StableHlo
open Cert.InBwdRefIdeal Cert.InBwdRefIdeal.Gen Cert.InBwdRefIdeal.Value Cert.RowMath Cert.InProjRow
open Cert.MlpRow (nrm)

variable (V : Valuation τ sig (Elt Ideal)) (s : Fin 4096) (k : Fin 1024) (e : Fin 2560) (h : Fin 8) (j : Fin 32)

/-- The position of a row. -/
def po (s : Fin 4096) : BitVec 32 := (V (Proc.devRef .tc main_arg4) : Vec Ideal S4096 .i32) (ix1 s)
/-- The query gradient's row. -/
def qr (s : Fin 4096) (i : Fin 512) : EReal := (V (Proc.devRef .tc main_arg0) : Vec Ideal S4096x512 .f32) (ix2 s i)
/-- The key gradient's row. -/
def kr (s : Fin 4096) (i : Fin 512) : EReal := (V (Proc.devRef .tc main_arg1) : Vec Ideal S4096x512 .f32) (ix2 s i)
/-- The value gradient's row. -/
def vr (s : Fin 4096) (i : Fin 512) : EReal := (V (Proc.devRef .tc main_arg2) : Vec Ideal S4096x512 .f32) (ix2 s i)
/-- The remaining columns' gradient. -/
def tr (s : Fin 4096) (i : Fin 1024) : EReal := (V (Proc.devRef .tc main_arg3) : Vec Ideal S4096x1024 .bf16) (ix2 s i)
/-- The projection's weights. -/
def wr (k : Fin 1024) (e : Fin 2560) : EReal := (V (Proc.devRef .tc main_arg5) : Vec Ideal S1024x2560 .f32) (ix2 k e)
/-- A row of the input. -/
def xr (s : Fin 4096) (k : Fin 1024) : EReal := (V (Proc.devRef .tc main_arg6) : Vec Ideal S4096x1024 .f32) (ix2 s k)
/-- The gain. -/
def gr (k : Fin 1024) : EReal := (V (Proc.devRef .tc main_arg7) : Vec Ideal S1x1024 .f32) (ix2 0 k)
/-- A row of the gradient that reaches the input past the block. -/
def dr (s : Fin 4096) (k : Fin 1024) : EReal := (V (Proc.devRef .tc main_arg8) : Vec Ideal S4096x1024 .f32) (ix2 s k)

theorem v6 : (res_main_v6 V : Vec Ideal S4096x1 .f32) (ix2 s 0) = msq (xr V s) := by
  unfold res_main_v6; clean_types; pointwise [msq, xr]

theorem v7 : (res_main_v7 V : Vec Ideal S4096x1 .f32) (ix2 s 0) = rms (xr V s) := by
  unfold res_main_v7; clean_types; pointwise [v6, rms]

theorem v12 : (res_main_v12 V : Vec Ideal S4096x1024 .f32) (ix2 s k) = xr V s k * rms (xr V s) := by
  unfold res_main_v12; clean_types; pointwise [v7, xr]

/-- The normalised input. -/
theorem v14 : (res_main_v14 V : Vec Ideal S4096x1024 .f32) (ix2 s k) = nrm (xr V s) (gr V) k := by
  unfold res_main_v14; clean_types; pointwise [v12, nrm, gr]

theorem v33 : (res_main_v33 V : Vec Ideal S4096x32 .f32) (ix2 s j) = ang (po V s) j := by
  unfold res_main_v33; clean_types; pointwise [ang, po]

theorem v67 : (res_main_v67 V : Vec Ideal S4096x32 .f32) (ix2 s j) = ang (po V s) j := by
  unfold res_main_v67; clean_types; pointwise [ang, po]

theorem v35 : (res_main_v35 V : Vec Ideal S4096x1x32 .f32) (ix3 s 0 j) = co (po V s) j := by
  unfold res_main_v35; clean_types; pointwise [v33, co]

theorem v37 : (res_main_v37 V : Vec Ideal S4096x1x32 .f32) (ix3 s 0 j) = si (po V s) j := by
  unfold res_main_v37; clean_types; pointwise [v33, si]

theorem v69 : (res_main_v69 V : Vec Ideal S4096x1x32 .f32) (ix3 s 0 j) = co (po V s) j := by
  unfold res_main_v69; clean_types; pointwise [v67, co]

theorem v71 : (res_main_v71 V : Vec Ideal S4096x1x32 .f32) (ix3 s 0 j) = si (po V s) j := by
  unfold res_main_v71; clean_types; pointwise [v67, si]

theorem v93 : (res_main_v93 V : Vec Ideal S4096x8x32 .f32) (ix3 s h j) = kr V s ⟨h * 64 + j, by omega⟩ := by
  unfold res_main_v93 res_main_v92; clean_types; pointwise [kr]

theorem v94 : (res_main_v94 V : Vec Ideal S4096x8x32 .f32) (ix3 s h j) = kr V s ⟨h * 64 + (32 + j), by omega⟩ := by
  unfold res_main_v94 res_main_v92; clean_types; pointwise [kr]

theorem v112 : (res_main_v112 V : Vec Ideal S4096x8x32 .f32) (ix3 s h j) = (fun i => qr V s i * scale) ⟨h * 64 + j, by omega⟩ := by
  unfold res_main_v112 res_main_v111; clean_types; pointwise [qr]

theorem v113 : (res_main_v113 V : Vec Ideal S4096x8x32 .f32) (ix3 s h j) = (fun i => qr V s i * scale) ⟨h * 64 + (32 + j), by omega⟩ := by
  unfold res_main_v113 res_main_v111; clean_types; pointwise [qr]

/-- The gradient at the projection's columns. -/
theorem v133 : (res_main_v133 V : Vec Ideal S4096x2560 .f32) (ix2 s e)
    = dproj (po V s) (qr V s) (kr V s) (vr V s) (tr V s) e := by
  unfold res_main_v133; clean_types
  unfold dproj
  by_cases h0 : e.val < 512
  · rw [dif_pos h0]
    by_cases h1 : e.val % 64 < 32
    · pointwise []
      simp (disch := omega) only [dif_pos, dif_neg, zero_add, add_zero, v113, v37, v112, v35]
      exact unrope_lo (po V s) (fun i => qr V s i * scale) ⟨e, h0⟩ _ _ _ h1 (by dsimp only; omega) (by dsimp only; omega) (by first | omega | (dsimp only; omega))
    · pointwise []
      simp (disch := omega) only [dif_pos, dif_neg, zero_add, add_zero, v113, v37, v112, v35]
      exact unrope_hi (po V s) (fun i => qr V s i * scale) ⟨e, h0⟩ _ _ _ h1 (by dsimp only; omega) (by dsimp only; omega) (by first | omega | (dsimp only; omega))
  · rw [dif_neg h0]
    by_cases h2 : e.val - 512 < 512
    · rw [dif_pos h2]
      by_cases h1 : (e.val - 512) % 64 < 32
      · pointwise []
        simp (disch := omega) only [dif_pos, dif_neg, zero_add, add_zero, v94, v71, v93, v69]
        exact unrope_lo (po V s) (kr V s) ⟨e - 512, h2⟩ _ _ _ h1 (by dsimp only; omega) (by dsimp only; omega) (by dsimp only; omega)
      · pointwise []
        simp (disch := omega) only [dif_pos, dif_neg, zero_add, add_zero, v94, v71, v93, v69]
        exact unrope_hi (po V s) (kr V s) ⟨e - 512, h2⟩ _ _ _ h1 (by dsimp only; omega) (by dsimp only; omega) (by dsimp only; omega)
    · rw [dif_neg h2]
      by_cases h3 : e.val - 1024 < 512
      · rw [dif_pos h3]
        pointwise []
        simp (disch := omega) only [dif_pos, dif_neg, zero_add, add_zero]
        rfl
      · rw [dif_neg h3]
        pointwise []
        simp (disch := omega) only [dif_pos, dif_neg, zero_add, add_zero]
        rfl

/-- The gradient at the normalised input. -/
theorem v136 : (res_main_v136 V : Vec Ideal S4096x1024 .f32) (ix2 s k)
    = dnorm (po V s) (qr V s) (kr V s) (vr V s) (tr V s) (wr V) k := by
  unfold res_main_v136; clean_types; pointwise [v133, dnorm, wr]

theorem v141 : (res_main_v141 V : Vec Ideal S4096x1024 .f32) (ix2 s k)
    = dnorm (po V s) (qr V s) (kr V s) (vr V s) (tr V s) (wr V) k * gr V k := by
  unfold res_main_v141; clean_types; pointwise [v136, gr]

theorem v151 : (res_main_v151 V : Vec Ideal S4096x1024 .f32) (ix2 s k)
    = pull (xr V s) (fun j => dnorm (po V s) (qr V s) (kr V s) (vr V s) (tr V s) (wr V) j * gr V j) := by
  unfold res_main_v151; clean_types; pointwise [v141, v7, v6, pull, xr]
  rw [Fin.sum_univ_one, v7, v6]

/-! ## The results -/

/-- The gradient at the input. -/
theorem dx : (addf (V (Proc.devRef .tc main_arg8)) (addf (addf (mulf (res_main_v141 V) (broadcastInDim S4096x1024 ![0, 1] bcast_S4096x1_S4096x1024_0_1 (res_main_v7 V)))
      (mulf (V (Proc.devRef .tc main_arg6)) (res_main_v151 V))) (mulf (res_main_v151 V) (V (Proc.devRef .tc main_arg6)))) : Vec Ideal S4096x1024 .f32) (ix2 s k)
    = drow (po V s) (qr V s) (kr V s) (vr V s) (tr V s) (wr V) (xr V s) (gr V) (dr V s) k := by
  rw [drow, bwd_eq_vjp, vjp]
  clean_types; pointwise [v141, v7, v151, xr, dr]

/-- The weights' gradient, in the order the exchange takes it. -/
theorem dw (hh : Fin 2) (n : Fin 4) (r : Fin 512) (d : Fin 640) :
    (transpose S2x4x512x640 [0, 2, 1, 3] (shapeCast _ (transpose S1024x2560 [1, 0] (Host.dotGeneral (F := Ideal) (φ₁ := .f32) (φ₂ := .f32) dot_S4096x2560_S4096x1024_S2560x1024_0_0_1_1_n_n none
      (res_main_v133 V) (res_main_v14 V)) transposes_S2560x1024_S1024x2560_1_0) shapeCasts_S1024x2560_S2x512x4x640) transposes_S2x512x4x640_S2x4x512x640_0_2_1_3
      : Vec Ideal S2x4x512x640 .f32) (ix4 hh n r d)
    = ∑ s, nrm (xr V s) (gr V) ⟨512 * hh + r, by omega⟩
        * dproj (po V s) (qr V s) (kr V s) (vr V s) (tr V s) ⟨640 * n + d, by omega⟩ := by
  clean_types; pointwise [v133, v14]
  refine Finset.sum_congr rfl fun s _ => ?_
  rw [mul_comm]
  refine congrArg₂ (fun a b => nrm (xr V s) (gr V) a * dproj (po V s) (qr V s) (kr V s) (vr V s) (tr V s) b) (Fin.ext ?_) (Fin.ext ?_) <;> (dsimp only; omega)

/-- The gain's gradient. -/
theorem dg : (shapeCast S1x1024 (Host.reduceAdd (mulf (res_main_v12 V) (res_main_v136 V)) (constant S_ .f32 0x00000000#32) reducesTo_S4096x1024_S1024_d0 h_S_)
      shapeCasts_S1024_S1x1024 : Vec Ideal S1x1024 .f32) (ix2 0 k)
    = ∑ s, dgain (po V s) (qr V s) (kr V s) (vr V s) (tr V s) (wr V) (xr V s) k := by
  clean_types; pointwise [v12, v136, dgain]
  exact Finset.sum_congr rfl fun i _ => mul_comm _ _

/-- The block of small rows. -/
theorem block_apply (D : FVec Ideal S1x1024 .f32) (R : FVec Ideal S11x1024 .f32) (r : Fin 16) :
    (pad S16x1024 ![0, 0] ![4, 0] ![0, 0] (concatenate S12x1024 0 [⟨S1x1024, D⟩, ⟨S11x1024, R⟩] concatenates_S1x1024_S11x1024_S12x1024_d0)
      (sitofp (F := Ideal) .f32 (constantI S_ 32 0#32)) pads_S12x1024_S16x1024_040_000 h_S_ : Vec Ideal S16x1024 .f32) (ix2 r k)
    = block (fun k => D (ix2 0 k)) (fun i k => R (ix2 i k)) r k := by
  unfold block
  by_cases h0 : r.val < 1
  · rw [if_pos h0]
    pointwise []
    simp (disch := omega) only [dif_pos, dif_neg]
    exact congrArg (fun s => D (ix2 s k)) (Subsingleton.elim (α := Fin 1) _ _)
  · rw [if_neg h0]
    by_cases h1 : r.val - 1 < 11
    · rw [dif_pos h1]
      pointwise []
      simp (disch := omega) only [dif_pos, dif_neg]
    · rw [dif_neg h1]
      pointwise []
      simp (disch := omega) only [dif_pos, dif_neg]
      exact sitofp_zero (φ := .f32)

end Cert.InBwdRefIdeal.Rows

end
-- ==== Proof.InBwdSmall.lean ====
/-
  The rows of the small gradients as the host lays them out for the kernel: each continued by zeros to 1024 columns, one
  after another.
-/
module

public import proofs.«01_k».proof.Proof.Gen.InBwdIdeal.Frame.Runs
public import Idealize.ShloMosaic.Lib.Pointwise
public import Idealize.ShloMosaic.Lib.StableHlo.ReadAt
public import Idealize.ShloMosaic.Lib.StableHlo.RunRead

@[expose] public section

set_option maxRecDepth 16384

noncomputable section

namespace Cert.InBwdIdeal.Small

open Idealize.ShloMosaic Idealize.ShloMosaic.TcCoe Idealize.SL.Sem
open Cert.InBwdIdeal Cert.InBwdIdeal.Gen

/-- Nine stretches of rows one after another. -/
def stack (a9 : Vec Ideal S1x1024 .f32) (a10 : Vec Ideal S1x1024 .f32) (a11 : Vec Ideal S1x1024 .f32) (a12 : Vec Ideal S1x1024 .f32) (a13 : Vec Ideal S1x1024 .f32) (a14 : Vec Ideal S1x1024 .f32) (a15 : Vec Ideal S1x1024 .f32) (a16 : Vec Ideal S3x1024 .f32) (a17 : Vec Ideal S1x1024 .f32) : Vec Ideal S11x1024 .f32 :=
  concatenate S11x1024 0 [⟨S1x1024, a9⟩, ⟨S1x1024, a10⟩, ⟨S1x1024, a11⟩, ⟨S1x1024, a12⟩, ⟨S1x1024, a13⟩, ⟨S1x1024, a14⟩, ⟨S1x1024, a15⟩, ⟨S3x1024, a16⟩, ⟨S1x1024, a17⟩] concatenates_S1x1024_S1x1024_S1x1024_S1x1024_S1x1024_S1x1024_S1x1024_S3x1024_S1x1024_S11x1024_d0

/-- Equal stretches make equal stacks. -/
theorem stack_congr {a9 : Vec Ideal S1x1024 .f32} {a10 : Vec Ideal S1x1024 .f32} {a11 : Vec Ideal S1x1024 .f32} {a12 : Vec Ideal S1x1024 .f32} {a13 : Vec Ideal S1x1024 .f32} {a14 : Vec Ideal S1x1024 .f32} {a15 : Vec Ideal S1x1024 .f32} {a16 : Vec Ideal S3x1024 .f32} {a17 : Vec Ideal S1x1024 .f32} {b9 : Vec Ideal S1x1024 .f32} {b10 : Vec Ideal S1x1024 .f32} {b11 : Vec Ideal S1x1024 .f32} {b12 : Vec Ideal S1x1024 .f32} {b13 : Vec Ideal S1x1024 .f32} {b14 : Vec Ideal S1x1024 .f32} {b15 : Vec Ideal S1x1024 .f32} {b16 : Vec Ideal S3x1024 .f32} {b17 : Vec Ideal S1x1024 .f32} (h9 : a9 = b9) (h10 : a10 = b10) (h11 : a11 = b11) (h12 : a12 = b12) (h13 : a13 = b13) (h14 : a14 = b14) (h15 : a15 = b15) (h16 : a16 = b16) (h17 : a17 = b17) :
    concatenate S11x1024 0 [⟨S1x1024, a9⟩, ⟨S1x1024, a10⟩, ⟨S1x1024, a11⟩, ⟨S1x1024, a12⟩, ⟨S1x1024, a13⟩, ⟨S1x1024, a14⟩, ⟨S1x1024, a15⟩, ⟨S3x1024, a16⟩, ⟨S1x1024, a17⟩] concatenates_S1x1024_S1x1024_S1x1024_S1x1024_S1x1024_S1x1024_S1x1024_S3x1024_S1x1024_S11x1024_d0 = stack b9 b10 b11 b12 b13 b14 b15 b16 b17 := by
  subst h9 h10 h11 h12 h13 h14 h15 h16 h17; rfl

/-- The nine small gradients, each continued by zeros, one after another. -/
def rows (a9 : Vec Ideal S1x1024 .f32) (a10 : Vec Ideal S1x512 .f32) (a11 : Vec Ideal S1x256 .f32) (a12 : Vec Ideal S1x256 .f32) (a13 : Vec Ideal S1x1024 .f32) (a14 : Vec Ideal S1x1024 .f32) (a15 : Vec Ideal S1x1024 .f32) (a16 : Vec Ideal S3x256 .f32) (a17 : Vec Ideal S1x1 .f32) : Vec Ideal S11x1024 .f32 :=
  stack (pad S1x1024 ![0, 0] ![0, 0] ![0, 0] a9 (sitofp (F := Ideal) .f32 (constantI S_ 32 0#32)) pads_S1x1024_S1x1024_000_000 h_S_) (pad S1x1024 ![0, 0] ![0, 512] ![0, 0] a10 (sitofp (F := Ideal) .f32 (constantI S_ 32 0#32)) pads_S1x512_S1x1024_000_05120 h_S_) (pad S1x1024 ![0, 0] ![0, 768] ![0, 0] a11 (sitofp (F := Ideal) .f32 (constantI S_ 32 0#32)) pads_S1x256_S1x1024_000_07680 h_S_) (pad S1x1024 ![0, 0] ![0, 768] ![0, 0] a12 (sitofp (F := Ideal) .f32 (constantI S_ 32 0#32)) pads_S1x256_S1x1024_000_07680 h_S_) (pad S1x1024 ![0, 0] ![0, 0] ![0, 0] a13 (sitofp (F := Ideal) .f32 (constantI S_ 32 0#32)) pads_S1x1024_S1x1024_000_000 h_S_) (pad S1x1024 ![0, 0] ![0, 0] ![0, 0] a14 (sitofp (F := Ideal) .f32 (constantI S_ 32 0#32)) pads_S1x1024_S1x1024_000_000 h_S_) (pad S1x1024 ![0, 0] ![0, 0] ![0, 0] a15 (sitofp (F := Ideal) .f32 (constantI S_ 32 0#32)) pads_S1x1024_S1x1024_000_000 h_S_) (pad S3x1024 ![0, 0] ![0, 768] ![0, 0] a16 (sitofp (F := Ideal) .f32 (constantI S_ 32 0#32)) pads_S3x256_S3x1024_000_07680 h_S_) (pad S1x1024 ![0, 0] ![0, 1023] ![0, 0] a17 (sitofp (F := Ideal) .f32 (constantI S_ 32 0#32)) pads_S1x1_S1x1024_000_010230 h_S_)

variable (m : (ℓ : Loc nD τ sig) → Buf (Elt Ideal) ℓ) (c : Dev nD)

set_option maxHeartbeats 1000000 in
/-- The small rows the host prepares. -/
theorem rows_eq : V m c main_v57 = rows (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18
  simp only [List.flatten_cons, List.flatten_nil, List.append_nil, List.cons_append, List.nil_append]
  after_reads_simp
  dsimp only [Matrix.cons_val]
  unfold rows
  refine stack_congr ?_ ?_ ?_ ?_ ?_ ?_ ?_ ?_ ?_
  all_goals after_reads_simp
  all_goals rfl

end Cert.InBwdIdeal.Small

end
-- ==== Proof.InBwdClaim.lean ====
/-
  The claims about the backward call of the input projection: the reference's frame, and the two programs' equal
  results. Both programs' results are the row functions of `InProjRow` at rows of the arguments, which agree.
-/
module

public import proofs.«01_k».proof.Defs
public import proofs.«01_k».proof.Proof.InBwdArrays
public import proofs.«01_k».proof.Proof.InBwdRefValue
public import proofs.«01_k».proof.Proof.InBwdSmall
public import Idealize.ShloMosaic.Adequacy
public import Idealize.ShloMosaic.Init

@[expose] public section

set_option maxRecDepth 16384

noncomputable section

namespace Cert.InBwdClaim

open Idealize.ShloMosaic Idealize.ShloMosaic.TcCoe Idealize.SL.Sem Idealize.ShloMosaic.StableHlo
open Cert.InProjRow

/-- The reference runs, keeps its arguments, and has no semaphores. -/
theorem ref_frame : Cert.quiescent_InBwdRefIdeal (hInBwdRefIdeal := Cert.InBwdRefIdeal.Gen.facts) := fun m ρ _ =>
  (θ_run Cert.InBwdRefIdeal.defs _ _).mono
    (fun r h => ⟨fun c => (h c).2.2.2, Idealize.ShloMosaic.sem_eq_zero_of_no_sems (by decide) r.2⟩)
    (Cert.InBwdRefIdeal.Value.run (F := Ideal) m ρ)

section
variable (V : Valuation Cert.InBwdRefIdeal.τ Cert.InBwdRefIdeal.sig (Elt Ideal))
  (m : (ℓ : Loc Cert.InBwdIdeal.nD Cert.InBwdIdeal.τ Cert.InBwdIdeal.sig) → Buf (Elt Ideal) ℓ) (c : Dev Cert.InBwdIdeal.nD)

/-- The two programs' arguments agree. -/
def Agree : Prop :=
  V (Proc.devRef .tc Cert.InBwdRefIdeal.main_arg0) = m ((c : Thread Cert.InBwdIdeal.nD Cert.InBwdIdeal.τ).loc Cert.InBwdIdeal.main_arg0)
  ∧ V (Proc.devRef .tc Cert.InBwdRefIdeal.main_arg1) = m ((c : Thread Cert.InBwdIdeal.nD Cert.InBwdIdeal.τ).loc Cert.InBwdIdeal.main_arg1)
  ∧ V (Proc.devRef .tc Cert.InBwdRefIdeal.main_arg2) = m ((c : Thread Cert.InBwdIdeal.nD Cert.InBwdIdeal.τ).loc Cert.InBwdIdeal.main_arg2)
  ∧ V (Proc.devRef .tc Cert.InBwdRefIdeal.main_arg3) = m ((c : Thread Cert.InBwdIdeal.nD Cert.InBwdIdeal.τ).loc Cert.InBwdIdeal.main_arg3)
  ∧ V (Proc.devRef .tc Cert.InBwdRefIdeal.main_arg4) = m ((c : Thread Cert.InBwdIdeal.nD Cert.InBwdIdeal.τ).loc Cert.InBwdIdeal.main_arg4)
  ∧ V (Proc.devRef .tc Cert.InBwdRefIdeal.main_arg5) = m ((c : Thread Cert.InBwdIdeal.nD Cert.InBwdIdeal.τ).loc Cert.InBwdIdeal.main_arg5)
  ∧ V (Proc.devRef .tc Cert.InBwdRefIdeal.main_arg6) = m ((c : Thread Cert.InBwdIdeal.nD Cert.InBwdIdeal.τ).loc Cert.InBwdIdeal.main_arg6)
  ∧ V (Proc.devRef .tc Cert.InBwdRefIdeal.main_arg7) = m ((c : Thread Cert.InBwdIdeal.nD Cert.InBwdIdeal.τ).loc Cert.InBwdIdeal.main_arg7)
  ∧ V (Proc.devRef .tc Cert.InBwdRefIdeal.main_arg8) = m ((c : Thread Cert.InBwdIdeal.nD Cert.InBwdIdeal.τ).loc Cert.InBwdIdeal.main_arg8)
  ∧ V (Proc.devRef .tc Cert.InBwdRefIdeal.main_arg9) = m ((c : Thread Cert.InBwdIdeal.nD Cert.InBwdIdeal.τ).loc Cert.InBwdIdeal.main_arg9)
  ∧ V (Proc.devRef .tc Cert.InBwdRefIdeal.main_arg10) = m ((c : Thread Cert.InBwdIdeal.nD Cert.InBwdIdeal.τ).loc Cert.InBwdIdeal.main_arg10)
  ∧ V (Proc.devRef .tc Cert.InBwdRefIdeal.main_arg11) = m ((c : Thread Cert.InBwdIdeal.nD Cert.InBwdIdeal.τ).loc Cert.InBwdIdeal.main_arg11)
  ∧ V (Proc.devRef .tc Cert.InBwdRefIdeal.main_arg12) = m ((c : Thread Cert.InBwdIdeal.nD Cert.InBwdIdeal.τ).loc Cert.InBwdIdeal.main_arg12)
  ∧ V (Proc.devRef .tc Cert.InBwdRefIdeal.main_arg13) = m ((c : Thread Cert.InBwdIdeal.nD Cert.InBwdIdeal.τ).loc Cert.InBwdIdeal.main_arg13)
  ∧ V (Proc.devRef .tc Cert.InBwdRefIdeal.main_arg14) = m ((c : Thread Cert.InBwdIdeal.nD Cert.InBwdIdeal.τ).loc Cert.InBwdIdeal.main_arg14)
  ∧ V (Proc.devRef .tc Cert.InBwdRefIdeal.main_arg15) = m ((c : Thread Cert.InBwdIdeal.nD Cert.InBwdIdeal.τ).loc Cert.InBwdIdeal.main_arg15)
  ∧ V (Proc.devRef .tc Cert.InBwdRefIdeal.main_arg16) = m ((c : Thread Cert.InBwdIdeal.nD Cert.InBwdIdeal.τ).loc Cert.InBwdIdeal.main_arg16)
  ∧ V (Proc.devRef .tc Cert.InBwdRefIdeal.main_arg17) = m ((c : Thread Cert.InBwdIdeal.nD Cert.InBwdIdeal.τ).loc Cert.InBwdIdeal.main_arg17)

variable {V m c} (h : Agree V m c)
include h

theorem po_eq : Cert.InBwdRefIdeal.Rows.po V = Cert.InBwdIdeal.HostRows.po m c :=
  funext fun s => congrFun h.2.2.2.2.1 (ix1 s)
theorem qr_eq : Cert.InBwdRefIdeal.Rows.qr V = Cert.InBwdIdeal.HostRows.qr m c :=
  funext fun s => funext fun k => congrFun h.1 (ix2 s k)
theorem kr_eq : Cert.InBwdRefIdeal.Rows.kr V = Cert.InBwdIdeal.HostRows.kr m c :=
  funext fun s => funext fun k => congrFun h.2.1 (ix2 s k)
theorem vr_eq : Cert.InBwdRefIdeal.Rows.vr V = Cert.InBwdIdeal.HostRows.vr m c :=
  funext fun s => funext fun k => congrFun h.2.2.1 (ix2 s k)
theorem tr_eq : Cert.InBwdRefIdeal.Rows.tr V = Cert.InBwdIdeal.HostRows.tr m c :=
  funext fun s => funext fun k => congrFun h.2.2.2.1 (ix2 s k)
theorem wr_eq : Cert.InBwdRefIdeal.Rows.wr V = Cert.InBwdIdeal.HostRows.wr m c :=
  funext fun s => funext fun k => congrFun h.2.2.2.2.2.1 (ix2 s k)
theorem xr_eq : Cert.InBwdRefIdeal.Rows.xr V = Cert.InBwdIdeal.HostRows.xr m c :=
  funext fun s => funext fun k => congrFun h.2.2.2.2.2.2.1 (ix2 s k)
theorem gr_eq : Cert.InBwdRefIdeal.Rows.gr V = Cert.InBwdIdeal.HostRows.gr m c :=
  funext fun k => congrFun h.2.2.2.2.2.2.2.1 (ix2 0 k)
theorem dr_eq : Cert.InBwdRefIdeal.Rows.dr V = Cert.InBwdIdeal.HostRows.dr m c :=
  funext fun s => funext fun k => congrFun h.2.2.2.2.2.2.2.2.1 (ix2 s k)

theorem rows_eq : Cert.InBwdIdeal.Small.rows (V (Proc.devRef .tc Cert.InBwdRefIdeal.main_arg9)) (V (Proc.devRef .tc Cert.InBwdRefIdeal.main_arg10)) (V (Proc.devRef .tc Cert.InBwdRefIdeal.main_arg11)) (V (Proc.devRef .tc Cert.InBwdRefIdeal.main_arg12)) (V (Proc.devRef .tc Cert.InBwdRefIdeal.main_arg13)) (V (Proc.devRef .tc Cert.InBwdRefIdeal.main_arg14)) (V (Proc.devRef .tc Cert.InBwdRefIdeal.main_arg15)) (V (Proc.devRef .tc Cert.InBwdRefIdeal.main_arg16)) (V (Proc.devRef .tc Cert.InBwdRefIdeal.main_arg17))
    = Cert.InBwdIdeal.Gen.V m c Cert.InBwdIdeal.main_v57 := by
  rw [Cert.InBwdIdeal.Small.rows_eq m c, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2]

end

/-- The call and the reference end with equal results. -/
theorem algebraic : Cert.algebraic_InBwdIdeal_InBwdRefIdeal (hInBwdIdeal := Cert.InBwdIdeal.Gen.facts) (hInBwdRefIdeal := Cert.InBwdRefIdeal.Gen.facts) := by
  intro m ρ m' ρ' _ hagree
  have hA : ∀ c : Dev Cert.InBwdIdeal.nD, Agree (launchContents m' c) m c := fun c => hagree c
  refine ⟨_, _, _, (θ_run Cert.InBwdIdeal.defs _ _).mono (fun r h c => ⟨(h c).1, (h c).2.1, (h c).2.2.2.1, (h c).2.2.2.2⟩) (Cert.InBwdIdeal.Value.run_blocks m ρ),
    (θ_run Cert.InBwdRefIdeal.defs _ _).mono (fun r h c => ?_) (Cert.InBwdRefIdeal.Value.run (F := Ideal) m' ρ')⟩
  have h1 := po_eq (hA c)
  have h2 := qr_eq (hA c)
  have h3 := kr_eq (hA c)
  have h4 := vr_eq (hA c)
  have h5 := tr_eq (hA c)
  have h6 := wr_eq (hA c)
  have h7 := xr_eq (hA c)
  have h8 := gr_eq (hA c)
  have h9 := dr_eq (hA c)
  obtain ⟨e0, e1, e2, hk⟩ := h c
  refine ⟨e0.trans ?_, e1.trans ?_, e2.trans ?_, hk⟩
  · rw [Cert.InBwdIdeal.Point.final11]
    funext j
    simp only [Cert.InBwdIdeal.Point.dw_]
    rw [← h1, ← h2, ← h3, ← h4, ← h5, ← h6, ← h7, ← h8, ← h9, eq_ix2 j]
    exact Cert.InBwdRefIdeal.Rows.dx _ (j 0) (j 1)
  · rw [Cert.InBwdIdeal.Point.final12]
    funext j
    rw [← h1, ← h2, ← h3, ← h4, ← h5, ← h7, ← h8]
    exact (congrArg _ (eq_ix4 j)).trans (Cert.InBwdRefIdeal.Rows.dw _ (j 0) (j 1) (j 2) (j 3))
  · rw [Cert.InBwdIdeal.Point.final14]
    funext j
    simp only [Cert.InBwdIdeal.Point.ga]
    rw [← h1, ← h2, ← h3, ← h4, ← h5, ← h6, ← h7, ← rows_eq (hA c), eq_ix2 j]
    refine (Cert.InBwdRefIdeal.Rows.block_apply (j 1) _ _ (j 0)).trans ?_
    exact congrArg₂ (fun A B => block A B (j 0) (j 1)) (funext fun k => Cert.InBwdRefIdeal.Rows.dg _ k) rfl

end Cert.InBwdClaim

end
-- ==== Proof.lean ====
/-
  The certificate: the frames of the calls as printed and of their idealizations are the generated ones, the references'
  frames and the equalities of results are the claim modules', and each rewritten constant is the named value's rounding.
-/
module

public import proofs.«01_k».proof.Defs
public import proofs.«01_k».proof.Proof.MlpClaim
public import proofs.«01_k».proof.Proof.GradClaim
public import proofs.«01_k».proof.Proof.AdamClaim
public import proofs.«01_k».proof.Proof.InBwdClaim
public import proofs.«01_k».proof.Proof.Gen.Mlp.Frame
public import proofs.«01_k».proof.Proof.Gen.MlpIdeal.Value
public import proofs.«01_k».proof.Proof.Gen.MlpRefIdeal.Run
public import proofs.«01_k».proof.Proof.Gen.GradUp.Frame
public import proofs.«01_k».proof.Proof.Gen.GradUpIdeal.Value
public import proofs.«01_k».proof.Proof.Gen.GradUpRefIdeal.Run
public import proofs.«01_k».proof.Proof.Gen.GradDown.Frame
public import proofs.«01_k».proof.Proof.Gen.GradDownIdeal.Value
public import proofs.«01_k».proof.Proof.Gen.GradDownRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamUpDown.Frame
public import proofs.«01_k».proof.Proof.Gen.AdamUpDownIdeal.Value
public import proofs.«01_k».proof.Proof.Gen.AdamUpDownRefIdeal.Run
public import proofs.«01_k».proof.Proof.Gen.AdamOutKv.Frame
public import proofs.«01_k».proof.Proof.Gen.AdamOutKvIdeal.Value
public import proofs.«01_k».proof.Proof.Gen.AdamOutKvRefIdeal.Run
public import proofs.«01_k».proof.Proof.Gen.InBwd.Frame
public import proofs.«01_k».proof.Proof.Gen.InBwdIdeal.Value
public import proofs.«01_k».proof.Proof.Gen.InBwdRefIdeal.Run
public import Idealize.ShloMosaic.Adequacy
public import Idealize.ShloMosaic.Init

@[expose] public section

noncomputable section

namespace Cert.Proof

open Idealize.ShloMosaic Idealize.SL.Sem

/-- Everything the certificate claims. -/
theorem claim : Cert.Claim := ⟨Cert.Mlp.Gen.facts,
  Cert.MlpIdeal.Gen.facts,
  Cert.MlpRefIdeal.Gen.facts,
  Cert.GradUp.Gen.facts,
  Cert.GradUpIdeal.Gen.facts,
  Cert.GradUpRefIdeal.Gen.facts,
  Cert.GradDown.Gen.facts,
  Cert.GradDownIdeal.Gen.facts,
  Cert.GradDownRefIdeal.Gen.facts,
  Cert.AdamIn.Gen.facts,
  Cert.AdamInIdeal.Gen.facts,
  Cert.AdamInRefIdeal.Gen.facts,
  Cert.AdamUpDown.Gen.facts,
  Cert.AdamUpDownIdeal.Gen.facts,
  Cert.AdamUpDownRefIdeal.Gen.facts,
  Cert.AdamOutKv.Gen.facts,
  Cert.AdamOutKvIdeal.Gen.facts,
  Cert.AdamOutKvRefIdeal.Gen.facts,
  Cert.InBwd.Gen.facts,
  Cert.InBwdIdeal.Gen.facts,
  Cert.InBwdRefIdeal.Gen.facts,
  fun m ρ _ => Cert.Mlp.Gen.frame m ρ,
  fun m ρ _ => Cert.MlpIdeal.Gen.frame m ρ,
  Cert.MlpClaim.ref_frame,
  fun m ρ _ => Cert.GradUp.Gen.frame m ρ,
  fun m ρ _ => Cert.GradUpIdeal.Gen.frame m ρ,
  Cert.GradClaim.up_ref_frame,
  fun m ρ _ => Cert.GradDown.Gen.frame m ρ,
  fun m ρ _ => Cert.GradDownIdeal.Gen.frame m ρ,
  Cert.GradClaim.down_ref_frame,
  fun m ρ _ => Cert.AdamIn.Gen.frame m ρ,
  fun m ρ _ => Cert.AdamInIdeal.Gen.frame m ρ,
  Cert.AdamClaim.in_ref_frame,
  fun m ρ _ => Cert.AdamUpDown.Gen.frame m ρ,
  fun m ρ _ => Cert.AdamUpDownIdeal.Gen.frame m ρ,
  Cert.AdamClaim.ud_ref_frame,
  fun m ρ _ => Cert.AdamOutKv.Gen.frame m ρ,
  fun m ρ _ => Cert.AdamOutKvIdeal.Gen.frame m ρ,
  Cert.AdamClaim.kv_ref_frame,
  fun m ρ _ => Cert.InBwd.Gen.frame m ρ,
  fun m ρ _ => Cert.InBwdIdeal.Gen.frame m ρ,
  Cert.InBwdClaim.ref_frame,
  trivial,
  Cert.MlpClaim.algebraic,
  trivial,
  Cert.GradClaim.up_algebraic,
  trivial,
  Cert.GradClaim.down_algebraic,
  ⟨IdealRules.named_const.statement Cert.AdamInIdeal.κ "inv_b1" .f32 0x3FC48605#32 ((8388608 / 5463681 : ℝ) : EReal) rfl, IdealRules.named_const.statement Cert.AdamInIdeal.κ "inv_b2" .f32 0x42C8E6D3#32 ((268435456 / 2672307 : ℝ) : EReal) rfl⟩,
  Cert.AdamClaim.in_algebraic,
  ⟨IdealRules.named_const.statement Cert.AdamUpDownIdeal.κ "inv_b1" .f32 0x3FC48605#32 ((8388608 / 5463681 : ℝ) : EReal) rfl, IdealRules.named_const.statement Cert.AdamUpDownIdeal.κ "inv_b2" .f32 0x42C8E6D3#32 ((268435456 / 2672307 : ℝ) : EReal) rfl⟩,
  Cert.AdamClaim.ud_algebraic,
  ⟨IdealRules.named_const.statement Cert.AdamOutKvIdeal.κ "inv_b1" .f32 0x3FC48605#32 ((8388608 / 5463681 : ℝ) : EReal) rfl, IdealRules.named_const.statement Cert.AdamOutKvIdeal.κ "inv_b2" .f32 0x42C8E6D3#32 ((268435456 / 2672307 : ℝ) : EReal) rfl⟩,
  Cert.AdamClaim.kv_algebraic,
  trivial,
  Cert.InBwdClaim.algebraic⟩

end Cert.Proof

end
